-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))
      ∧ r.2.sem = fun _ => 0)

def preserves_Kernel_KernelIdeal : Prop :=
  IdealRules.named_const.Statement Cert.KernelIdeal.κ "fov" .f32 0x4011361E#32 ((57099445 / 25165824 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v26)) (v2 : (c : Dev Cert.KernelIdeal.nD) → Buf (Elt Ideal) ((c.tc : Thread Cert.KernelIdeal.nD Cert.KernelIdeal.τ).loc Cert.KernelIdeal.main_v10)) (v3 : (c : Dev Cert.KernelIdeal.nD) → Buf (Elt Ideal) ((c.tc : Thread Cert.KernelIdeal.nD Cert.KernelIdeal.τ).loc Cert.KernelIdeal.main_v27)) (v4 : (c : Dev Cert.KernelIdeal.nD) → Buf (Elt Ideal) ((c.tc : Thread Cert.KernelIdeal.nD Cert.KernelIdeal.τ).loc Cert.KernelIdeal.main_v28)) (v5 : (c : Dev Cert.KernelIdeal.nD) → Buf (Elt Ideal) ((c.tc : Thread Cert.KernelIdeal.nD Cert.KernelIdeal.τ).loc Cert.KernelIdeal.main_v29)) (v6 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_v10) = v2 c
          ∧ r.2.mem ((c.tc : Thread Cert.KernelIdeal.nD Cert.KernelIdeal.τ).loc Cert.KernelIdeal.main_v27) = v3 c
          ∧ r.2.mem ((c.tc : Thread Cert.KernelIdeal.nD Cert.KernelIdeal.τ).loc Cert.KernelIdeal.main_v28) = v4 c
          ∧ r.2.mem ((c.tc : Thread Cert.KernelIdeal.nD Cert.KernelIdeal.τ).loc Cert.KernelIdeal.main_v29) = v5 c
          ∧ r.2.mem ((c.tc : Thread Cert.KernelIdeal.nD Cert.KernelIdeal.τ).loc Cert.KernelIdeal.main_v30) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v33) = v3 c
          ∧ r.2.mem ((c.tc : Thread Cert.ReferenceIdeal.nD Cert.ReferenceIdeal.τ).loc Cert.ReferenceIdeal.main_v71) = v4 c
          ∧ r.2.mem ((c.tc : Thread Cert.ReferenceIdeal.nD Cert.ReferenceIdeal.τ).loc Cert.ReferenceIdeal.main_v27) = v5 c
          ∧ r.2.mem ((c.tc : Thread Cert.ReferenceIdeal.nD Cert.ReferenceIdeal.τ).loc Cert.ReferenceIdeal.main_v77) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x128x128x128 : Shape := ⟨4, ![1, 128, 128, 128]⟩
abbrev S1x80x128x9 : Shape := ⟨4, ![1, 80, 128, 9]⟩
abbrev S1x80x2 : Shape := ⟨3, ![1, 80, 2]⟩
abbrev S1 : Shape := ⟨1, ![1]⟩
abbrev S_ : Shape := ⟨0, ![]⟩
abbrev S16x128x128x128 : Shape := ⟨4, ![16, 128, 128, 128]⟩
abbrev S16x128x32x32 : Shape := ⟨4, ![16, 128, 32, 32]⟩
abbrev S16x80x128x9 : Shape := ⟨4, ![16, 80, 128, 9]⟩
abbrev S16x80x3 : Shape := ⟨3, ![16, 80, 3]⟩
abbrev S16 : Shape := ⟨1, ![16]⟩
abbrev S16x80 : Shape := ⟨2, ![16, 80]⟩
abbrev S2 : Shape := ⟨1, ![2]⟩
abbrev S32x64x128x128 : Shape := ⟨4, ![32, 64, 128, 128]⟩
abbrev S2x64x128x128 : Shape := ⟨4, ![2, 64, 128, 128]⟩
abbrev S128x32x32 : Shape := ⟨3, ![128, 32, 32]⟩
abbrev S6x64x128x128 : Shape := ⟨4, ![6, 64, 128, 128]⟩
abbrev S6 : Shape := ⟨1, ![6]⟩
abbrev S1x64x128x128 : Shape := ⟨4, ![1, 64, 128, 128]⟩
abbrev S64x128x128 : Shape := ⟨3, ![64, 128, 128]⟩
abbrev S1x8x128x128 : Shape := ⟨4, ![1, 8, 128, 128]⟩
abbrev S8x128x128 : Shape := ⟨3, ![8, 128, 128]⟩
abbrev S8x32x4x128 : Shape := ⟨4, ![8, 32, 4, 128]⟩
abbrev S8x32x128 : Shape := ⟨3, ![8, 32, 128]⟩
abbrev S8x32x32x4 : Shape := ⟨4, ![8, 32, 32, 4]⟩
abbrev S8x32x32 : Shape := ⟨3, ![8, 32, 32]⟩
abbrev S1x128x1024 : Shape := ⟨3, ![1, 128, 1024]⟩
abbrev S16x128x1024 : Shape := ⟨3, ![16, 128, 1024]⟩
abbrev S1x80x1152 : Shape := ⟨3, ![1, 80, 1152]⟩
abbrev S16x80x1152 : Shape := ⟨3, ![16, 80, 1152]⟩
abbrev S80x2 : Shape := ⟨2, ![80, 2]⟩
abbrev S2x80 : Shape := ⟨2, ![2, 80]⟩
abbrev S1x2x80 : Shape := ⟨3, ![1, 2, 80]⟩
abbrev S1x1 : Shape := ⟨2, ![1, 1]⟩
abbrev S16x3x80 : Shape := ⟨3, ![16, 3, 80]⟩
abbrev S1x16 : Shape := ⟨2, ![1, 16]⟩
abbrev S16x1x80 : Shape := ⟨3, ![16, 1, 80]⟩
abbrev S1x3x80 : Shape := ⟨3, ![1, 3, 80]⟩
abbrev S1x1x80 : Shape := ⟨3, ![1, 1, 80]⟩
abbrev S128x1024 : Shape := ⟨2, ![128, 1024]⟩
abbrev S80x1152 : Shape := ⟨2, ![80, 1152]⟩
abbrev S1x80 : Shape := ⟨2, ![1, 80]⟩
abbrev S3x80 : Shape := ⟨2, ![3, 80]⟩

abbrev nBuf : Space → Nat
  | .hbm => 65
  | .vmem => 25
  | .smem => 2
  | _ => 0

abbrev bufTy : (tb : Table) → Fin (tcTables nBuf tb) → BufTy
  | .hbm, ⟨0, _⟩ => ⟨S1x128x128x128, .f32⟩
  | .hbm, ⟨1, _⟩ => ⟨S1x128x128x128, .f32⟩
  | .hbm, ⟨2, _⟩ => ⟨S1x80x128x9, .f32⟩
  | .hbm, ⟨3, _⟩ => ⟨S1x80x2, .f32⟩
  | .hbm, ⟨4, _⟩ => ⟨S1, .f32⟩
  | .hbm, ⟨5, _⟩ => ⟨S_, .i32⟩
  | .hbm, ⟨6, _⟩ => ⟨S16x128x128x128, .f32⟩
  | .hbm, ⟨7, _⟩ => ⟨S16x128x32x32, .f32⟩
  | .hbm, ⟨8, _⟩ => ⟨S16x128x128x128, .f32⟩
  | .hbm, ⟨9, _⟩ => ⟨S16x80x128x9, .f32⟩
  | .hbm, ⟨10, _⟩ => ⟨S16x80x3, .f32⟩
  | .hbm, ⟨11, _⟩ => ⟨S16, .f32⟩
  | .hbm, ⟨12, _⟩ => ⟨S16x80, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S_, .i1⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S_, .i32⟩
  | .hbm, ⟨21, _⟩ => ⟨S_, .i1⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i1⟩
  | .hbm, ⟨26, _⟩ => ⟨S_, .i1⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S1, .i32⟩
  | .hbm, ⟨31, _⟩ => ⟨S1, .i32⟩
  | .hbm, ⟨32, _⟩ => ⟨S2, .i32⟩
  | .hbm, ⟨33, _⟩ => ⟨S32x64x128x128, .f32⟩
  | .hbm, ⟨34, _⟩ => ⟨S32x64x128x128, .f32⟩
  | .hbm, ⟨35, _⟩ => ⟨S2x64x128x128, .f32⟩
  | .hbm, ⟨36, _⟩ => ⟨S2x64x128x128, .f32⟩
  | .hbm, ⟨37, _⟩ => ⟨S32x64x128x128, .f32⟩
  | .hbm, ⟨38, _⟩ => ⟨S32x64x128x128, .f32⟩
  | .hbm, ⟨39, _⟩ => ⟨S128x32x32, .f32⟩
  | .hbm, ⟨40, _⟩ => ⟨S16x128x128x128, .f32⟩
  | .hbm, ⟨41, _⟩ => ⟨S16x128x128x128, .f32⟩
  | .hbm, ⟨42, _⟩ => ⟨S1x128x1024, .f32⟩
  | .hbm, ⟨43, _⟩ => ⟨S16x128x1024, .f32⟩
  | .hbm, ⟨44, _⟩ => ⟨S1x80x1152, .f32⟩
  | .hbm, ⟨45, _⟩ => ⟨S16x80x1152, .f32⟩
  | .hbm, ⟨46, _⟩ => ⟨S80x2, .f32⟩
  | .hbm, ⟨47, _⟩ => ⟨S2x80, .f32⟩
  | .hbm, ⟨48, _⟩ => ⟨S1x2x80, .f32⟩
  | .hbm, ⟨49, _⟩ => ⟨S1x1, .f32⟩
  | .hbm, ⟨50, _⟩ => ⟨S16x3x80, .f32⟩
  | .hbm, ⟨51, _⟩ => ⟨S1x16, .f32⟩
  | .hbm, ⟨52, _⟩ => ⟨S16x1x80, .i32⟩
  | .hbm, ⟨53, _⟩ => ⟨S1, .i32⟩
  | .hbm, ⟨54, _⟩ => ⟨S1, .i32⟩
  | .hbm, ⟨55, _⟩ => ⟨S16x128x1024, .f32⟩
  | .hbm, ⟨56, _⟩ => ⟨S16x80x1152, .f32⟩
  | .hbm, ⟨57, _⟩ => ⟨S16x3x80, .f32⟩
  | .hbm, ⟨58, _⟩ => ⟨S1x16, .f32⟩
  | .hbm, ⟨59, _⟩ => ⟨S16x1x80, .i32⟩
  | .hbm, ⟨60, _⟩ => ⟨S16x128x32x32, .f32⟩
  | .hbm, ⟨61, _⟩ => ⟨S16x80x128x9, .f32⟩
  | .hbm, ⟨62, _⟩ => ⟨S16x80x3, .f32⟩
  | .hbm, ⟨63, _⟩ => ⟨S16, .f32⟩
  | .hbm, ⟨64, _⟩ => ⟨S16x80, .i32⟩
  | .local _ .vmem, ⟨0, _⟩ => ⟨S128x32x32, .f32⟩
  | .local _ .vmem, ⟨1, _⟩ => ⟨S6x64x128x128, .f32⟩
  | .local _ .vmem, ⟨2, _⟩ => ⟨S2x64x128x128, .f32⟩
  | .local _ .vmem, ⟨3, _⟩ => ⟨S1x1, .f32⟩
  | .local _ .vmem, ⟨4, _⟩ => ⟨S1x2x80, .f32⟩
  | .local _ .vmem, ⟨5, _⟩ => ⟨S1x128x1024, .f32⟩
  | .local _ .vmem, ⟨6, _⟩ => ⟨S1x80x1152, .f32⟩
  | .local _ .vmem, ⟨7, _⟩ => ⟨S1x128x1024, .f32⟩
  | .local _ .vmem, ⟨8, _⟩ => ⟨S1x128x1024, .f32⟩
  | .local _ .vmem, ⟨9, _⟩ => ⟨S1x80x1152, .f32⟩
  | .local _ .vmem, ⟨10, _⟩ => ⟨S1x80x1152, .f32⟩
  | .local _ .vmem, ⟨11, _⟩ => ⟨S1x3x80, .f32⟩
  | .local _ .vmem, ⟨12, _⟩ => ⟨S1x3x80, .f32⟩
  | .local _ .vmem, ⟨13, _⟩ => ⟨S1x16, .f32⟩
  | .local _ .vmem, ⟨14, _⟩ => ⟨S1x1x80, .i32⟩
  | .local _ .vmem, ⟨15, _⟩ => ⟨S1x1x80, .i32⟩
  | .local _ .vmem, ⟨16, _⟩ => ⟨S1x128x1024, .f32⟩
  | .local _ .vmem, ⟨17, _⟩ => ⟨S1x128x1024, .f32⟩
  | .local _ .vmem, ⟨18, _⟩ => ⟨S1x80x1152, .f32⟩
  | .local _ .vmem, ⟨19, _⟩ => ⟨S1x80x1152, .f32⟩
  | .local _ .vmem, ⟨20, _⟩ => ⟨S1x3x80, .f32⟩
  | .local _ .vmem, ⟨21, _⟩ => ⟨S1x3x80, .f32⟩
  | .local _ .vmem, ⟨22, _⟩ => ⟨S1x16, .f32⟩
  | .local _ .vmem, ⟨23, _⟩ => ⟨S1x1x80, .i32⟩
  | .local _ .vmem, ⟨24, _⟩ => ⟨S1x1x80, .i32⟩
  | .local _ .smem, ⟨0, _⟩ => ⟨S2, .i32⟩
  | .local _ .smem, ⟨1, _⟩ => ⟨S2, .i32⟩
  | _, _ => ⟨S1x128x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .smem, ⟨0, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_c_1 : Ref sig .tc := ⟨.hbm, 20, rfl⟩
abbrev main_call0_v4 : Ref sig .tc := ⟨.hbm, 21, rfl⟩
abbrev main_call0_c_2 : Ref sig .tc := ⟨.hbm, 22, rfl⟩
abbrev main_call0_v5 : Ref sig .tc := ⟨.hbm, 23, rfl⟩
abbrev main_call0_c_3 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8_0 : Ref sig .tc := ⟨.hbm, 37, rfl⟩
abbrev main_v8_1 : Ref sig .tc := ⟨.hbm, 38, rfl⟩
abbrev main_v8_2 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v25_0 : Ref sig .tc := ⟨.hbm, 55, rfl⟩
abbrev main_v25_1 : Ref sig .tc := ⟨.hbm, 56, rfl⟩
abbrev main_v25_2 : Ref sig .tc := ⟨.hbm, 57, rfl⟩
abbrev main_v25_3 : Ref sig .tc := ⟨.hbm, 58, rfl⟩
abbrev main_v25_4 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_v24 : Ref sig .tc := ⟨.smem, 1, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg2_0 : Ref sig .tc := ⟨.vmem, 5, rfl⟩
abbrev cc1_stg3_0 : Ref sig .tc := ⟨.vmem, 6, rfl⟩
abbrev cc1_stg4_0 : Ref sig .tc := ⟨.vmem, 7, rfl⟩
abbrev cc1_stg4_1 : Ref sig .tc := ⟨.vmem, 8, rfl⟩
abbrev cc1_stg5_0 : Ref sig .tc := ⟨.vmem, 9, rfl⟩
abbrev cc1_stg5_1 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg8_0 : Ref sig .tc := ⟨.vmem, 14, rfl⟩
abbrev cc1_stg8_1 : Ref sig .tc := ⟨.vmem, 15, rfl⟩
abbrev cc1_stg9_0 : Ref sig .tc := ⟨.vmem, 16, rfl⟩
abbrev cc1_stg9_1 : Ref sig .tc := ⟨.vmem, 17, rfl⟩
abbrev cc1_stg10_0 : Ref sig .tc := ⟨.vmem, 18, rfl⟩
abbrev cc1_stg10_1 : Ref sig .tc := ⟨.vmem, 19, rfl⟩
abbrev cc1_stg11_0 : Ref sig .tc := ⟨.vmem, 20, rfl⟩
abbrev cc1_stg11_1 : Ref sig .tc := ⟨.vmem, 21, rfl⟩
abbrev cc1_stg12_0 : Ref sig .tc := ⟨.vmem, 22, rfl⟩
abbrev cc1_stg13_0 : Ref sig .tc := ⟨.vmem, 23, rfl⟩
abbrev cc1_stg13_1 : Ref sig .tc := ⟨.vmem, 24, rfl⟩
abbrev cc0_stg0_0 : Ref sig .tc := ⟨.smem, 0, rfl⟩
abbrev cc0_sem0_0 : DmaSem sig := 0
abbrev cc0_sem1_0 : DmaSem sig := 1
abbrev cc1_sem0_0 : DmaSem sig := 16
abbrev cc1_sem1_0 : DmaSem sig := 17
abbrev cc1_sem2_0 : DmaSem sig := 18
abbrev cc1_sem3_0 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem8_0 : DmaSem sig := 27
abbrev cc1_sem8_1 : DmaSem sig := 28
abbrev cc1_sem9_0 : DmaSem sig := 29
abbrev cc1_sem9_1 : DmaSem sig := 30
abbrev cc1_sem10_0 : DmaSem sig := 31
abbrev cc1_sem10_1 : DmaSem sig := 32
abbrev cc1_sem11_0 : DmaSem sig := 33
abbrev cc1_sem11_1 : DmaSem sig := 34
abbrev cc1_sem12_0 : DmaSem sig := 35
abbrev cc1_sem13_0 : DmaSem sig := 36
abbrev cc1_sem13_1 : DmaSem sig := 37

abbrev nD : Nat := 1
abbrev τ : Topo := Topo.v7x

variable {F : FTy → Type} [FloatOps F]

abbrev grid0 : Pipeline.Grid := .none

def k0_off1 (v0 : BitVec 32) (c0_i32_1 : BitVec 32) (c0_i32_0 : BitVec 32) (c0_i32_2 : BitVec 32) : Fin 4 → Nat :=
  let v3 : BitVec 1 := Scalar.cmpi .sle v0 c0_i32_0
  let v4 : BitVec 32 := Scalar.extui v3
  let v5 : BitVec 32 := Scalar.addi c0_i32_1 v4
  let c2_i32 : BitVec 32 := 2#32
  let v6 : BitVec 32 := Scalar.muli v5 c2_i32
  let v7 : BitVec 32 := Scalar.addi v6 c0_i32_2
  let c0_i32_8 : BitVec 32 := 0#32
  let c0_i32_9 : BitVec 32 := 0#32
  let c0_i32_10 : BitVec 32 := 0#32
  ![v7.toNat, 0, 0, 0]
def k0_off1_at (r : Fin 30) : BitVec 32 × BitVec 32 × BitVec 32 :=
  if r.val < 15 then
    if r.val < 7 then
      if r.val < 3 then
        if r.val < 1 then
          (0#32, 0#32, 0#32)
        else
          if r.val < 2 then
            (0#32, 0#32, 1#32)
          else
            (1#32, 1#32, 0#32)
      else
        if r.val < 5 then
          if r.val < 4 then
            (1#32, 1#32, 1#32)
          else
            (2#32, 2#32, 0#32)
        else
          if r.val < 6 then
            (2#32, 2#32, 1#32)
          else
            (3#32, 3#32, 0#32)
    else
      if r.val < 11 then
        if r.val < 9 then
          if r.val < 8 then
            (3#32, 3#32, 1#32)
          else
            (4#32, 4#32, 0#32)
        else
          if r.val < 10 then
            (4#32, 4#32, 1#32)
          else
            (5#32, 5#32, 0#32)
      else
        if r.val < 13 then
          if r.val < 12 then
            (5#32, 5#32, 1#32)
          else
            (6#32, 6#32, 0#32)
        else
          if r.val < 14 then
            (6#32, 6#32, 1#32)
          else
            (7#32, 7#32, 0#32)
  else
    if r.val < 22 then
      if r.val < 18 then
        if r.val < 16 then
          (7#32, 7#32, 1#32)
        else
          if r.val < 17 then
            (8#32, 8#32, 0#32)
          else
            (8#32, 8#32, 1#32)
      else
        if r.val < 20 then
          if r.val < 19 then
            (9#32, 9#32, 0#32)
          else
            (9#32, 9#32, 1#32)
        else
          if r.val < 21 then
            (10#32, 10#32, 0#32)
          else
            (10#32, 10#32, 1#32)
    else
      if r.val < 26 then
        if r.val < 24 then
          if r.val < 23 then
            (11#32, 11#32, 0#32)
          else
            (11#32, 11#32, 1#32)
        else
          if r.val < 25 then
            (12#32, 12#32, 0#32)
          else
            (12#32, 12#32, 1#32)
      else
        if r.val < 28 then
          if r.val < 27 then
            (13#32, 13#32, 0#32)
          else
            (13#32, 13#32, 1#32)
        else
          if r.val < 29 then
            (14#32, 14#32, 0#32)
          else
            (14#32, 14#32, 1#32)

def k0_off2 (v0 : BitVec 32) : Fin 4 → Nat :=
  let c2_i32_70 : BitVec 32 := 2#32
  let v71 : BitVec 32 := Scalar.muli v0 c2_i32_70
  let c0_i32_72 : BitVec 32 := 0#32
  let c0_i32_73 : BitVec 32 := 0#32
  let c0_i32_74 : BitVec 32 := 0#32
  ![v71.toNat, 0, 0, 0]
@[reducible] def k0_t1_loop : Scf.Loop 32 :=
  let c0_i32_75 : BitVec 32 := 0#32
  let c16_i32 : BitVec 32 := 16#32
  let v75 : BitVec 32 := Scalar.addi c0_i32_75 c16_i32
  let c1_i32_76 : BitVec 32 := 1#32
  ⟨c0_i32_75, v75, c1_i32_76⟩
def k0_off3 (k0_t1 : Fin k0_t1_loop.trips) : Fin 4 → Nat :=
  let c0_i32_75 : BitVec 32 := 0#32
  let c1_i32_76 : BitVec 32 := 1#32
  let arg13 : BitVec 32 := Scf.iv c0_i32_75 c1_i32_76 k0_t1
  let c0_i32_2957 : BitVec 32 := 0#32
  let v2711 : BitVec 1 := Scalar.cmpi .sgt arg13 c0_i32_2957
  let v2712 : BitVec 32 := Scalar.extui v2711
  let c0_i32_2958 : BitVec 32 := 0#32
  let v2713 : BitVec 1 := Scalar.cmpi .slt arg13 c0_i32_2958
  let v2714 : BitVec 32 := Scalar.extui v2713
  let v2715 : BitVec 32 := Scalar.subi v2712 v2714
  let c8_i32_2956 : BitVec 32 := 8#32
  let c0_i32_2959 : BitVec 32 := 0#32
  let v2716 : BitVec 1 := Scalar.cmpi .sgt c8_i32_2956 c0_i32_2959
  let v2717 : BitVec 32 := Scalar.extui v2716
  let c0_i32_2960 : BitVec 32 := 0#32
  let v2718 : BitVec 1 := Scalar.cmpi .slt c8_i32_2956 c0_i32_2960
  let v2719 : BitVec 32 := Scalar.extui v2718
  let v2720 : BitVec 32 := Scalar.subi v2717 v2719
  let v2721 : BitVec 1 := Scalar.cmpi .ne v2715 v2720
  let v2722 : BitVec 32 := Scalar.remsi arg13 c8_i32_2956
  let c0_i32_2961 : BitVec 32 := 0#32
  let v2723 : BitVec 1 := Scalar.cmpi .ne v2722 c0_i32_2961
  let v2724 : BitVec 1 := Scalar.andi v2721 v2723
  let v2710 : BitVec 32 := Scalar.divsi arg13 c8_i32_2956
  let c1_i32_2962 : BitVec 32 := 1#32
  let v2725 : BitVec 32 := Scalar.subi v2710 c1_i32_2962
  let v2726 : BitVec 32 := Scalar.select v2724 v2725 v2710
  let v2738 : Index := Scalar.indexCast v2726
  let c8_i32_2963 : BitVec 32 := 8#32
  let c0_i32_2964 : BitVec 32 := 0#32
  let v2727 : BitVec 1 := Scalar.cmpi .eq c8_i32_2963 c0_i32_2964
  let c1_i32_2965 : BitVec 32 := 1#32
  let v2728 : BitVec 32 := Scalar.select v2727 c1_i32_2965 c8_i32_2963
  let v2729 : BitVec 32 := Scalar.remsi arg13 v2728
  let c0_i32_2967 : BitVec 32 := 0#32
  let v2731 : BitVec 1 := Scalar.cmpi .slt v2729 c0_i32_2967
  let c0_i32_2968 : BitVec 32 := 0#32
  let v2732 : BitVec 1 := Scalar.cmpi .slt v2728 c0_i32_2968
  let v2733 : BitVec 1 := Scalar.xori v2731 v2732
  let c0_i32_2966 : BitVec 32 := 0#32
  let v2730 : BitVec 1 := Scalar.cmpi .ne v2729 c0_i32_2966
  let v2734 : BitVec 1 := Scalar.andi v2733 v2730
  let v2735 : BitVec 32 := Scalar.addi v2729 v2728
  let v2736 : BitVec 32 := Scalar.select v2734 v2735 v2729
  let c8_i32_2969 : BitVec 32 := 8#32
  let v2737 : BitVec 32 := Scalar.muli v2736 c8_i32_2969
  let v2739 : Index := Scalar.indexCast v2737
  let c0_2970 : Index := 0#32
  let c0_2971 : Index := 0#32
  ![v2738.toNat, v2739.toNat, 0, 0]
def k0_off4 (k0_t1 : Fin k0_t1_loop.trips) : Fin 3 → Nat :=
  let c0_i32_75 : BitVec 32 := 0#32
  let c1_i32_76 : BitVec 32 := 1#32
  let arg13 : BitVec 32 := Scf.iv c0_i32_75 c1_i32_76 k0_t1
  let c0_i32_2957 : BitVec 32 := 0#32
  let v2711 : BitVec 1 := Scalar.cmpi .sgt arg13 c0_i32_2957
  let v2712 : BitVec 32 := Scalar.extui v2711
  let c0_i32_2958 : BitVec 32 := 0#32
  let v2713 : BitVec 1 := Scalar.cmpi .slt arg13 c0_i32_2958
  let v2714 : BitVec 32 := Scalar.extui v2713
  let v2715 : BitVec 32 := Scalar.subi v2712 v2714
  let c8_i32_2956 : BitVec 32 := 8#32
  let c0_i32_2959 : BitVec 32 := 0#32
  let v2716 : BitVec 1 := Scalar.cmpi .sgt c8_i32_2956 c0_i32_2959
  let v2717 : BitVec 32 := Scalar.extui v2716
  let c0_i32_2960 : BitVec 32 := 0#32
  let v2718 : BitVec 1 := Scalar.cmpi .slt c8_i32_2956 c0_i32_2960
  let v2719 : BitVec 32 := Scalar.extui v2718
  let v2720 : BitVec 32 := Scalar.subi v2717 v2719
  let v2721 : BitVec 1 := Scalar.cmpi .ne v2715 v2720
  let v2722 : BitVec 32 := Scalar.remsi arg13 c8_i32_2956
  let c0_i32_2961 : BitVec 32 := 0#32
  let v2723 : BitVec 1 := Scalar.cmpi .ne v2722 c0_i32_2961
  let v2724 : BitVec 1 := Scalar.andi v2721 v2723
  let v2710 : BitVec 32 := Scalar.divsi arg13 c8_i32_2956
  let c1_i32_2962 : BitVec 32 := 1#32
  let v2725 : BitVec 32 := Scalar.subi v2710 c1_i32_2962
  let v2726 : BitVec 32 := Scalar.select v2724 v2725 v2710
  let c64_i32 : BitVec 32 := 64#32
  let v2748 : BitVec 32 := Scalar.muli v2726 c64_i32
  let c8_i32_2963 : BitVec 32 := 8#32
  let c0_i32_2964 : BitVec 32 := 0#32
  let v2727 : BitVec 1 := Scalar.cmpi .eq c8_i32_2963 c0_i32_2964
  let c1_i32_2965 : BitVec 32 := 1#32
  let v2728 : BitVec 32 := Scalar.select v2727 c1_i32_2965 c8_i32_2963
  let v2729 : BitVec 32 := Scalar.remsi arg13 v2728
  let c0_i32_2967 : BitVec 32 := 0#32
  let v2731 : BitVec 1 := Scalar.cmpi .slt v2729 c0_i32_2967
  let c0_i32_2968 : BitVec 32 := 0#32
  let v2732 : BitVec 1 := Scalar.cmpi .slt v2728 c0_i32_2968
  let v2733 : BitVec 1 := Scalar.xori v2731 v2732
  let c0_i32_2966 : BitVec 32 := 0#32
  let v2730 : BitVec 1 := Scalar.cmpi .ne v2729 c0_i32_2966
  let v2734 : BitVec 1 := Scalar.andi v2733 v2730
  let v2735 : BitVec 32 := Scalar.addi v2729 v2728
  let v2736 : BitVec 32 := Scalar.select v2734 v2735 v2729
  let c8_i32_2969 : BitVec 32 := 8#32
  let v2737 : BitVec 32 := Scalar.muli v2736 c8_i32_2969
  let v2749 : BitVec 32 := Scalar.addi v2748 v2737
  let v2750 : Index := Scalar.indexCast v2749
  let c0_2974 : Index := 0#32
  let c0_2975 : Index := 0#32
  ![v2750.toNat, 0, 0]
def k0_off5 (v0 : BitVec 32) (c0_i32_2855 : BitVec 32) : Fin 4 → Nat :=
  let c2_i32_2854 : BitVec 32 := 2#32
  let v2624 : BitVec 32 := Scalar.muli v0 c2_i32_2854
  let v2625 : BitVec 32 := Scalar.addi v2624 c0_i32_2855
  let c0_i32_2858 : BitVec 32 := 0#32
  let c0_i32_2859 : BitVec 32 := 0#32
  let c0_i32_2860 : BitVec 32 := 0#32
  ![v2625.toNat, 0, 0, 0]

def k0_chk1 (v0 : BitVec 32) : Prop :=
  (∀ (r : Fin 30), ∀ a, (k0_off1 v0 (k0_off1_at r).1 (k0_off1_at r).2.1 (k0_off1_at r).2.2) a + S1x64x128x128.size a ≤ S32x64x128x128.size a) ∧
  (∀ a, (k0_off2 v0) a + S2x64x128x128.size a ≤ S32x64x128x128.size a) ∧
  (∀ (r : Fin 2), ∀ a, (k0_off5 v0 (BitVec.ofNat 32 r.val)) a + S1x64x128x128.size a ≤ S32x64x128x128.size a)
theorem k0_off1_inb : ∀ (v0 : BitVec 32) (k0_hw1 : k0_chk1 v0), ∀ (r : Fin 30), ∀ a, (k0_off1 v0 (k0_off1_at r).1 (k0_off1_at r).2.1 (k0_off1_at r).2.2) a + S1x64x128x128.size a ≤ S32x64x128x128.size a := fun v0 k0_hw1 r => k0_hw1.1 r
theorem k0_off2_inb : ∀ (v0 : BitVec 32) (k0_hw1 : k0_chk1 v0), ∀ a, (k0_off2 v0) a + S2x64x128x128.size a ≤ S32x64x128x128.size a := fun v0 k0_hw1 => k0_hw1.2.1
theorem k0_off5_inb : ∀ (v0 : BitVec 32) (k0_hw1 : k0_chk1 v0), ∀ (r : Fin 2), ∀ a, (k0_off5 v0 (BitVec.ofNat 32 r.val)) a + S1x64x128x128.size a ≤ S32x64x128x128.size a := fun v0 k0_hw1 r => k0_hw1.2.2 r

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev grid1 : Pipeline.Grid := ⟨1, ![16], ![false]⟩

abbrev pre1 : Pipeline.Prefetch sig := ⟨1, ![main_v24.idx], fun | 0 => main_v24.names | ⟨_ + 1, h⟩ => absurd h (Nat.not_lt.2 (Nat.le_add_left _ _)), fun | 0 => rfl | ⟨_ + 1, h⟩ => absurd h (Nat.not_lt.2 (Nat.le_add_left _ _))⟩

def k1_cond1 (i : grid1.Coords) (v0 : BitVec 32) : BitVec 1 :=
  let arg0 : BitVec 32 := BitVec.ofNat 32 (i 0).val
  let v2 : BitVec 1 := Scalar.cmpi .eq arg0 v0
  let v3 : BitVec 32 := Scalar.extui v2
  let c0_i32 : BitVec 32 := 0#32
  let v4 : BitVec 1 := Scalar.cmpi .ne v3 c0_i32
  v4

def k1_cond2 (i : grid1.Coords) (v0 : BitVec 32) : BitVec 1 :=
  let arg0 : BitVec 32 := BitVec.ofNat 32 (i 0).val
  let v5 : BitVec 1 := Scalar.cmpi .ne arg0 v0
  let v6 : BitVec 32 := Scalar.extui v5
  let c0_i32_0 : BitVec 32 := 0#32
  let v7 : BitVec 1 := Scalar.cmpi .ne v6 c0_i32_0
  v7

def k1_cond3 (i : grid1.Coords) : BitVec 1 :=
  let arg0 : BitVec 32 := BitVec.ofNat 32 (i 0).val
  let c0_i32_1 : BitVec 32 := 0#32
  let v8 : BitVec 1 := Scalar.cmpi .eq arg0 c0_i32_1
  let v9 : BitVec 32 := Scalar.extui v8
  let c0_i32_2 : BitVec 32 := 0#32
  let v10 : BitVec 1 := Scalar.cmpi .ne v9 c0_i32_2
  v10

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_11 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 1 → Memref sig .tc .vmem S1x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2x80 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x80x1152 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S1x128x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x80x1152 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x3x80 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 1 → Memref sig .tc .vmem S1x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S1x1x80 .i32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x128x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x80x1152 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S1x3x80 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x16 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S1x1x80 .i32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]
-- ==== KernelIdeal.lean ====
variable {F : FTy → Type} [FloatOps F] [Named F]
def κ : String → Option EReal := fun
  | "fov" => some ((57099445 / 25165824 : ℝ) : EReal)
  | _ => none
-- ==== ReferenceIdeal.lean ====
abbrev S1x128x128x128 : Shape := ⟨4, ![1, 128, 128, 128]⟩
abbrev S1x80x128x9 : Shape := ⟨4, ![1, 80, 128, 9]⟩
abbrev S1x80x2 : Shape := ⟨3, ![1, 80, 2]⟩
abbrev S1 : Shape := ⟨1, ![1]⟩
abbrev S_ : Shape := ⟨0, ![]⟩
abbrev S16x128x128x128 : Shape := ⟨4, ![16, 128, 128, 128]⟩
abbrev S16x128x32x32 : Shape := ⟨4, ![16, 128, 32, 32]⟩
abbrev S16x80x128x9 : Shape := ⟨4, ![16, 80, 128, 9]⟩
abbrev S16x80x3 : Shape := ⟨3, ![16, 80, 3]⟩
abbrev S16 : Shape := ⟨1, ![16]⟩
abbrev S16x80 : Shape := ⟨2, ![16, 80]⟩
abbrev S128x128x128 : Shape := ⟨3, ![128, 128, 128]⟩
abbrev S128x32x4x32x4 : Shape := ⟨5, ![128, 32, 4, 32, 4]⟩
abbrev S128x32x32 : Shape := ⟨3, ![128, 32, 32]⟩
abbrev S80x128x9 : Shape := ⟨3, ![80, 128, 9]⟩
abbrev S80x2 : Shape := ⟨2, ![80, 2]⟩
abbrev S80x1 : Shape := ⟨2, ![80, 1]⟩
abbrev S80 : Shape := ⟨1, ![80]⟩
abbrev S80x3 : Shape := ⟨2, ![80, 3]⟩

abbrev nBuf : Space → Nat
  | .hbm => 132
  | .vmem => 0
  | .smem => 0
  | _ => 0

abbrev hbmTy0_0 (i : Nat) : BufTy := match i % 128 with
  | 0 => ⟨S1x128x128x128, .f32⟩
  | 1 => ⟨S1x128x128x128, .f32⟩
  | 2 => ⟨S1x80x128x9, .f32⟩
  | 3 => ⟨S1x80x2, .f32⟩
  | 4 => ⟨S1, .f32⟩
  | 5 => ⟨S_, .i32⟩
  | 6 => ⟨S16x128x128x128, .f32⟩
  | 7 => ⟨S16x128x32x32, .f32⟩
  | 8 => ⟨S16x128x128x128, .f32⟩
  | 9 => ⟨S16x80x128x9, .f32⟩
  | 10 => ⟨S16x80x3, .f32⟩
  | 11 => ⟨S16, .f32⟩
  | 12 => ⟨S16x80, .i32⟩
  | 13 => ⟨S_, .i32⟩
  | 14 => ⟨S_, .i32⟩
  | 15 => ⟨S_, .i32⟩
  | 16 => ⟨S_, .i1⟩
  | 17 => ⟨S_, .i32⟩
  | 18 => ⟨S_, .i32⟩
  | 19 => ⟨S_, .i32⟩
  | 20 => ⟨S_, .i32⟩
  | 21 => ⟨S_, .i1⟩
  | 22 => ⟨S_, .i32⟩
  | 23 => ⟨S_, .i1⟩
  | 24 => ⟨S_, .i32⟩
  | 25 => ⟨S_, .i1⟩
  | 26 => ⟨S_, .i1⟩
  | 27 => ⟨S_, .i1⟩
  | 28 => ⟨S_, .i32⟩
  | 29 => ⟨S_, .i32⟩
  | 30 => ⟨S128x128x128, .f32⟩
  | 31 => ⟨S_, .i32⟩
  | 32 => ⟨S_, .i1⟩
  | 33 => ⟨S_, .i32⟩
  | 34 => ⟨S_, .i32⟩
  | 35 => ⟨S_, .i32⟩
  | 36 => ⟨S1, .i32⟩
  | 37 => ⟨S16x128x128x128, .f32⟩
  | 38 => ⟨S128x32x4x32x4, .f32⟩
  | 39 => ⟨S_, .f32⟩
  | 40 => ⟨S128x32x32, .f32⟩
  | 41 => ⟨S_, .f32⟩
  | 42 => ⟨S128x32x32, .f32⟩
  | 43 => ⟨S128x32x32, .f32⟩
  | 44 => ⟨S_, .i32⟩
  | 45 => ⟨S_, .i1⟩
  | 46 => ⟨S_, .i32⟩
  | 47 => ⟨S_, .i32⟩
  | 48 => ⟨S_, .i32⟩
  | 49 => ⟨S1, .i32⟩
  | 50 => ⟨S16x128x32x32, .f32⟩
  | 51 => ⟨S128x128x128, .f32⟩
  | 52 => ⟨S_, .i32⟩
  | 53 => ⟨S_, .i1⟩
  | 54 => ⟨S_, .i32⟩
  | 55 => ⟨S_, .i32⟩
  | 56 => ⟨S_, .i32⟩
  | 57 => ⟨S1, .i32⟩
  | 58 => ⟨S16x128x128x128, .f32⟩
  | 59 => ⟨S_, .f32⟩
  | 60 => ⟨S_, .i32⟩
  | 61 => ⟨S_, .i1⟩
  | 62 => ⟨S_, .i32⟩
  | 63 => ⟨S_, .i32⟩
  | 64 => ⟨S_, .i32⟩
  | 65 => ⟨S1, .i32⟩
  | 66 => ⟨S16, .f32⟩
  | 67 => ⟨S80x128x9, .f32⟩
  | 68 => ⟨S_, .i32⟩
  | 69 => ⟨S_, .i1⟩
  | 70 => ⟨S_, .i32⟩
  | 71 => ⟨S_, .i32⟩
  | 72 => ⟨S_, .i32⟩
  | 73 => ⟨S1, .i32⟩
  | 74 => ⟨S16x80x128x9, .f32⟩
  | 75 => ⟨S80x2, .f32⟩
  | 76 => ⟨S80x1, .f32⟩
  | 77 => ⟨S80, .f32⟩
  | 78 => ⟨S_, .f32⟩
  | 79 => ⟨S80, .f32⟩
  | 80 => ⟨S80, .f32⟩
  | 81 => ⟨S_, .f32⟩
  | 82 => ⟨S80, .f32⟩
  | 83 => ⟨S80, .f32⟩
  | 84 => ⟨S_, .f32⟩
  | 85 => ⟨S80, .f32⟩
  | 86 => ⟨S80, .f32⟩
  | 87 => ⟨S80x1, .f32⟩
  | 88 => ⟨S80, .f32⟩
  | 89 => ⟨S_, .f32⟩
  | 90 => ⟨S80, .f32⟩
  | 91 => ⟨S80, .f32⟩
  | 92 => ⟨S_, .f32⟩
  | 93 => ⟨S80, .f32⟩
  | 94 => ⟨S80, .f32⟩
  | 95 => ⟨S_, .f32⟩
  | 96 => ⟨S80, .f32⟩
  | 97 => ⟨S80, .f32⟩
  | 98 => ⟨S_, .f32⟩
  | 99 => ⟨S80, .f32⟩
  | 100 => ⟨S80, .f32⟩
  | 101 => ⟨S_, .f32⟩
  | 102 => ⟨S80, .f32⟩
  | 103 => ⟨S80, .f32⟩
  | 104 => ⟨S80x1, .f32⟩
  | 105 => ⟨S80x1, .f32⟩
  | 106 => ⟨S80x2, .f32⟩
  | 107 => ⟨S_, .f32⟩
  | 108 => ⟨S80, .f32⟩
  | 109 => ⟨S80x1, .f32⟩
  | 110 => ⟨S80, .f32⟩
  | 111 => ⟨S80x1, .f32⟩
  | 112 => ⟨S80, .f32⟩
  | 113 => ⟨S80x1, .f32⟩
  | 114 => ⟨S80x1, .f32⟩
  | 115 => ⟨S80x1, .f32⟩
  | 116 => ⟨S80x3, .f32⟩
  | 117 => ⟨S_, .i32⟩
  | 118 => ⟨S_, .i1⟩
  | 119 => ⟨S_, .i32⟩
  | 120 => ⟨S_, .i32⟩
  | 121 => ⟨S_, .i32⟩
  | 122 => ⟨S1, .i32⟩
  | 123 => ⟨S16x80x3, .f32⟩
  | 124 => ⟨S80, .i32⟩
  | 125 => ⟨S_, .i32⟩
  | 126 => ⟨S_, .i1⟩
  | 127 => ⟨S_, .i32⟩
  | _ => ⟨S1x128x128x128, .f32⟩

abbrev hbmTy0_1 (i : Nat) : BufTy := match i % 128 with
  | 0 => ⟨S_, .i32⟩
  | 1 => ⟨S_, .i32⟩
  | 2 => ⟨S1, .i32⟩
  | 3 => ⟨S16x80, .i32⟩
  | _ => ⟨S1x128x128x128, .f32⟩

abbrev hbmTy (i : Nat) : BufTy := match i / 128 with
  | 0 => hbmTy0_0 i
  | 1 => hbmTy0_1 i
  | _ => ⟨S1x128x128x128, .f32⟩

abbrev bufTy : (tb : Table) → Fin (tcTables nBuf tb) → BufTy
  | .hbm, ⟨i, _⟩ => hbmTy i
  | _, _ => ⟨S1x128x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_call0_c : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_c_1 : Ref sig .tc := ⟨.hbm, 20, rfl⟩
abbrev main_call0_v4 : Ref sig .tc := ⟨.hbm, 21, rfl⟩
abbrev main_call0_c_2 : Ref sig .tc := ⟨.hbm, 22, rfl⟩
abbrev main_call0_v5 : Ref sig .tc := ⟨.hbm, 23, rfl⟩
abbrev main_call0_c_3 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_v0 : Ref sig .tc := ⟨.hbm, 29, rfl⟩
abbrev main_v1 : Ref sig .tc := ⟨.hbm, 30, rfl⟩
abbrev main_c_0 : Ref sig .tc := ⟨.hbm, 31, rfl⟩
abbrev main_v2 : Ref sig .tc := ⟨.hbm, 32, rfl⟩
abbrev main_c_1 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_cst : Ref sig .tc := ⟨.hbm, 39, rfl⟩
abbrev main_v8 : Ref sig .tc := ⟨.hbm, 40, rfl⟩
abbrev main_cst_2 : Ref sig .tc := ⟨.hbm, 41, rfl⟩
abbrev main_v9 : Ref sig .tc := ⟨.hbm, 42, rfl⟩
abbrev main_v10 : Ref sig .tc := ⟨.hbm, 43, rfl⟩
abbrev main_c_3 : Ref sig .tc := ⟨.hbm, 44, rfl⟩
abbrev main_v11 : Ref sig .tc := ⟨.hbm, 45, rfl⟩
abbrev main_c_4 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_c_5 : Ref sig .tc := ⟨.hbm, 52, rfl⟩
abbrev main_v17 : Ref sig .tc := ⟨.hbm, 53, rfl⟩
abbrev main_c_6 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_c_7 : Ref sig .tc := ⟨.hbm, 60, rfl⟩
abbrev main_v23 : Ref sig .tc := ⟨.hbm, 61, rfl⟩
abbrev main_c_8 : Ref sig .tc := ⟨.hbm, 62, rfl⟩
abbrev main_v24 : Ref sig .tc := ⟨.hbm, 63, rfl⟩
abbrev main_v25 : Ref sig .tc := ⟨.hbm, 64, rfl⟩
abbrev main_v26 : Ref sig .tc := ⟨.hbm, 65, rfl⟩
abbrev main_v27 : Ref sig .tc := ⟨.hbm, 66, rfl⟩
abbrev main_v28 : Ref sig .tc := ⟨.hbm, 67, rfl⟩
abbrev main_c_9 : Ref sig .tc := ⟨.hbm, 68, rfl⟩
abbrev main_v29 : Ref sig .tc := ⟨.hbm, 69, rfl⟩
abbrev main_c_10 : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_v33 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_cst_11 : Ref sig .tc := ⟨.hbm, 78, rfl⟩
abbrev main_v37 : Ref sig .tc := ⟨.hbm, 79, rfl⟩
abbrev main_v38 : Ref sig .tc := ⟨.hbm, 80, rfl⟩
abbrev main_cst_12 : Ref sig .tc := ⟨.hbm, 81, rfl⟩
abbrev main_v39 : Ref sig .tc := ⟨.hbm, 82, rfl⟩
abbrev main_v40 : Ref sig .tc := ⟨.hbm, 83, rfl⟩
abbrev main_cst_13 : Ref sig .tc := ⟨.hbm, 84, rfl⟩
abbrev main_v41 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_cst_14 : Ref sig .tc := ⟨.hbm, 89, rfl⟩
abbrev main_v45 : Ref sig .tc := ⟨.hbm, 90, rfl⟩
abbrev main_v46 : Ref sig .tc := ⟨.hbm, 91, rfl⟩
abbrev main_cst_15 : Ref sig .tc := ⟨.hbm, 92, rfl⟩
abbrev main_v47 : Ref sig .tc := ⟨.hbm, 93, rfl⟩
abbrev main_v48 : Ref sig .tc := ⟨.hbm, 94, rfl⟩
abbrev main_cst_16 : Ref sig .tc := ⟨.hbm, 95, rfl⟩
abbrev main_v49 : Ref sig .tc := ⟨.hbm, 96, rfl⟩
abbrev main_v50 : Ref sig .tc := ⟨.hbm, 97, rfl⟩
abbrev main_cst_17 : Ref sig .tc := ⟨.hbm, 98, rfl⟩
abbrev main_v51 : Ref sig .tc := ⟨.hbm, 99, rfl⟩
abbrev main_v52 : Ref sig .tc := ⟨.hbm, 100, rfl⟩
abbrev main_cst_18 : Ref sig .tc := ⟨.hbm, 101, rfl⟩
abbrev main_v53 : Ref sig .tc := ⟨.hbm, 102, rfl⟩
abbrev main_v54 : Ref sig .tc := ⟨.hbm, 103, rfl⟩
abbrev main_v55 : Ref sig .tc := ⟨.hbm, 104, rfl⟩
abbrev main_v56 : Ref sig .tc := ⟨.hbm, 105, rfl⟩
abbrev main_v57 : Ref sig .tc := ⟨.hbm, 106, rfl⟩
abbrev main_cst_19 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_20 : Ref sig .tc := ⟨.hbm, 117, rfl⟩
abbrev main_v67 : Ref sig .tc := ⟨.hbm, 118, rfl⟩
abbrev main_c_21 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_c_22 : Ref sig .tc := ⟨.hbm, 125, rfl⟩
abbrev main_v73 : Ref sig .tc := ⟨.hbm, 126, rfl⟩
abbrev main_c_23 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩

abbrev nD : Nat := 1
abbrev τ : Topo := Topo.v7x

variable {F : FTy → Type} [FloatOps F]
-- ==== Proof.Slots.lean ====
/-
  A ring of staging slots, between arrays in HBM, for any program: chunk `k` of a source array is copied into slot
  `k % 6`, and from the slot into its place in a destination array. The copy in of chunk `k` starts three chunks before
  it is waited for; the copy out starts as soon as the copy in has landed, and is waited for when the slot is wanted
  again, six chunks after. Each slot has two counters, one for the copies in, one for the copies out.

  What is stated here is stated of any family of chunks: what each chunk's four operations do to what is held of it, one
  turn of the ring, and the run of any number of turns.
-/
module

public import Idealize.ShloMosaic.Lib.Transfers
public import Idealize.ShloMosaic.Lib.Tactic
public import Idealize.ShloMosaic.Lib.Pipeline.Frame

@[expose] public section

noncomputable section

namespace Cert.Slots

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-! ## Assertions over a range of chunks -/

section Range

variable {M : Type} [URA M]

/-- `P a ∗ P (a + 1) ∗ … ∗ P (a + n - 1)`. -/
def upto (P : ℕ → sProp M) : ℕ → ℕ → sProp M
  | 0, _ => iprop(emp)
  | n + 1, a => iprop(P a ∗ upto P n (a + 1))

theorem upto_zero (P : ℕ → sProp M) (a : ℕ) : upto P 0 a = iprop(emp) := rfl

theorem upto_succ (P : ℕ → sProp M) (n a : ℕ) : upto P (n + 1) a = iprop(P a ∗ upto P n (a + 1)) := rfl

/-- A range is its first part and its second. -/
theorem upto_add (P : ℕ → sProp M) : ∀ n k a, upto P (n + k) a ⊢ iprop(upto P n a ∗ upto P k (a + n))
  | 0, k, a => by
    rw [Nat.zero_add, Nat.add_zero, upto_zero]
    iintro H
    isplitr; · iempintro
    iexact H
  | n + 1, k, a => by
    rw [Nat.add_right_comm, show a + (n + 1) = a + 1 + n by omega, upto_succ, upto_succ]
    iintro ⟨H, Hr⟩
    ihave Hr' := (upto_add P n k (a + 1)) $$ Hr
    icases Hr' with ⟨H1, H2⟩
    isplitl [H H1]
    · isplitl [H] <;> iassumption
    · iexact H2

/-- The two parts of a range make it. -/
theorem upto_join (P : ℕ → sProp M) : ∀ n k a, iprop(upto P n a ∗ upto P k (a + n)) ⊢ upto P (n + k) a
  | 0, k, a => by
    rw [Nat.zero_add, Nat.add_zero]
    iintro ⟨-, H⟩
    iexact H
  | n + 1, k, a => by
    rw [Nat.add_right_comm, show a + (n + 1) = a + 1 + n by omega, upto_succ, upto_succ]
    iintro ⟨⟨H, H1⟩, H2⟩
    isplitl [H]; · iexact H
    iapply (upto_join P n k (a + 1))
    isplitl [H1] <;> iassumption

/-- A range member by member. -/
theorem upto_mono {P P' : ℕ → sProp M} : ∀ n a, (∀ k, a ≤ k → k < a + n → P k ⊢ P' k) → upto P n a ⊢ upto P' n a
  | 0, a, _ => Entails.refl _
  | n + 1, a, h => BIClass.sep_mono (h a (by omega) (by omega)) (upto_mono n (a + 1) fun k h1 h2 => h k (by omega) (by omega))

/-- The members of two ranges side by side. -/
theorem upto_sep (P P' : ℕ → sProp M) : ∀ n a, upto (fun k => iprop(P k ∗ P' k)) n a ⊢ iprop(upto P n a ∗ upto P' n a)
  | 0, a => by
    simp only [upto_zero, upto_succ]
    iintro -
    isplitr <;> iempintro
  | n + 1, a => by
    simp only [upto_zero, upto_succ]
    iintro ⟨⟨H, H'⟩, Hr⟩
    ihave Hr' := (upto_sep P P' n (a + 1)) $$ Hr
    icases Hr' with ⟨H1, H2⟩
    isplitl [H H1]
    · isplitl [H] <;> iassumption
    · isplitl [H'] <;> iassumption

/-- Two ranges member by member. -/
theorem upto_zip (P P' : ℕ → sProp M) : ∀ n a, iprop(upto P n a ∗ upto P' n a) ⊢ upto (fun k => iprop(P k ∗ P' k)) n a
  | 0, a => by
    simp only [upto_zero, upto_succ]
    iintro -
    iempintro
  | n + 1, a => by
    simp only [upto_zero, upto_succ]
    iintro ⟨⟨H, H1⟩, ⟨H', H2⟩⟩
    isplitl [H H']
    · isplitl [H] <;> iassumption
    iapply (upto_zip P P' n (a + 1))
    isplitl [H1] <;> iassumption

/-- A range counted from another start. -/
theorem upto_shift (P : ℕ → sProp M) (d : ℕ) : ∀ n a, upto P n (a + d) = upto (fun k => P (k + d)) n a
  | 0, a => rfl
  | n + 1, a => by
    simp only [upto_zero, upto_succ]
    rw [← upto_shift P d n (a + 1), show a + d + 1 = a + 1 + d by omega]

end Range

/-! ## A buffer in pieces -/

section Pieces

variable {nD : Nat} {τ : Topo} {sig : RefSig} {Ix : Type} [DecidableEq Ix] {Val : EltTy → Type} {Name : Type} [DecidableEq Name]
variable {U : Type} [URA U] {Lvl : Type}

/-- A buffer held over the union of pairwise disjoint element sets is held over each. -/
theorem split_upto {ℓ : Loc nD τ sig} {q : PosShare TreeShare} {f : Buf Val ℓ} (I : ℕ → Finset (Idx ℓ)) :
    ∀ (n a : ℕ) (S : Finset (Idx ℓ)), (∀ i ∈ S, ∃ k, a ≤ k ∧ k < a + n ∧ i ∈ I k) → (∀ k, a ≤ k → k < a + n → I k ⊆ S)
      → (∀ k k', a ≤ k → k < a + n → a ≤ k' → k' < a + n → k ≠ k' → Disjoint (I k) (I k'))
      → ((ℓ ↦[S]{q} f : sProp (MT nD τ sig Ix Val Name U Lvl)) ⊣⊢ upto (fun k => (ℓ ↦[I k]{q} f)) n a)
  | 0, a, S, hS, _, _ => by
    have : S = ∅ := Finset.eq_empty_of_forall_notMem fun i hi => by
      obtain ⟨k, h1, h2, -⟩ := hS i hi; omega
    subst this
    rw [pointsTo_empty]
    exact BiEntails.refl
  | n + 1, a, S, hS, hI, hd => by
    have h0 : I a ⊆ S := hI a (by omega) (by omega)
    refine (pointsTo_split_subset h0).trans (sep_congr_right (split_upto I n (a + 1) (S \ I a) ?_ ?_ ?_))
    · intro i hi
      obtain ⟨hi, hn⟩ := Finset.mem_sdiff.mp hi
      obtain ⟨k, h1, h2, h3⟩ := hS i hi
      refine ⟨k, ?_, by omega, h3⟩
      rcases Nat.lt_or_ge a k with h | h
      · exact h
      · exact absurd (by rwa [show k = a by omega] at h3) hn
    · intro k h1 h2
      exact Finset.subset_sdiff.mpr ⟨hI k (by omega) (by omega), hd k a (by omega) (by omega) (by omega) (by omega) (by omega)⟩
    · exact fun k k' h1 h2 h3 h4 h5 => hd k k' (by omega) (by omega) (by omega) (by omega) h5

end Pieces

/-! ## The chunks -/

section Ring

/-- A ring: where each chunk comes from and goes, the slots, and each slot's two counters. -/
structure Ring (sig : RefSig) (s : Shape) (e : EltTy) where
  src : ℕ → Memref sig .tc .hbm s e
  dst : ℕ → Memref sig .tc .hbm s e
  slot : ℕ → Memref sig .tc .vmem s e
  semIn : ℕ → DmaSem sig
  semOut : ℕ → DmaSem sig
  srcW : ∀ k, (src k).view.WordExact
  dstW : ∀ k, (dst k).view.WordExact
  slotW : ∀ k, (slot k).view.WordExact
  pos : s.numel ≠ 0

namespace Ring

variable {nD : Nat} {τ : Topo} {sig : RefSig} {Val : EltTy → Type} {Λ : Labels}
variable {s : Shape} {e : EltTy} (R : Ring sig s e)

/-- Start copying chunk `k` into its slot. -/
def startIn (k : ℕ) : Prog (TpuEff nD τ sig Val Λ .tc) PUnit :=
  Prog.lift (.enqueueDma (R.src k) (.here (R.slot (k % 6))) (.dma (R.semIn (k % 6))) (R.srcW k) (R.slotW _) ⟨Or.inl rfl, trivial⟩)
/-- Wait for chunk `k`'s copy into its slot. -/
def waitIn (k : ℕ) : Prog (TpuEff nD τ sig Val Λ .tc) PUnit :=
  Prog.lift (.waitDma2 (R.semIn (k % 6)) (R.src k) (R.slot (k % 6)) (R.srcW k) (R.slotW _))
/-- Start copying chunk `k` from its slot to its place. -/
def startOut (k : ℕ) : Prog (TpuEff nD τ sig Val Λ .tc) PUnit :=
  Prog.lift (.enqueueDma (R.slot (k % 6)) (.here (R.dst k)) (.dma (R.semOut (k % 6))) (R.slotW _) (R.dstW k) ⟨Or.inl rfl, trivial⟩)
/-- Wait for chunk `k`'s copy to its place. -/
def waitOut (k : ℕ) : Prog (TpuEff nD τ sig Val Λ .tc) PUnit :=
  Prog.lift (.waitDma2 (R.semOut (k % 6)) (R.slot (k % 6)) (R.dst k) (R.slotW _) (R.dstW k))

/-- `n` turns of the ring from chunk `k`: chunk `k`'s slot freed of chunk `k - 6` and filled again, and chunk `k - 3`
    on its way out. -/
def turns : ℕ → ℕ → Prog (TpuEff nD τ sig Val Λ .tc) PUnit
  | 0, _ => pure ⟨⟩
  | n + 1, k => do
    R.waitOut k
    R.startIn (k + 6)
    R.waitIn (k + 3)
    R.startOut (k + 3)
    turns n (k + 1)

/-! ### What is held of a chunk -/

section Rules

variable {U : Type} [URA U]

local notation "𝕄" => MT nD τ sig Unit Val ℕ U ℕ

variable (EC : UEmb Counters (MT nD τ sig Unit Val ℕ U ℕ)) [EC.LandsIn (upEmb : UEmb _ (MT nD τ sig Unit Val ℕ U ℕ))]
variable {defs : Defs nD τ sig Val Λ} (𝒱 : Variants) (c : Dev nD) (bd : Option 𝒱.V)
variable (w : ℕ → s.Idx → Val e)

/-- A memref's elements held, reading as `x`. -/
def holds {sp : Space} {s : Shape} {e : EltTy} (c : Dev nD) (m : Memref sig .tc sp s e) (x : s.Idx → Val e) : sProp 𝕄 :=
  iprop(∃ f : Buf Val (m.view.loc (c : Thread nD τ)), ⌜m.view.read Val f = x⌝ ∗ (m.view.loc (c : Thread nD τ) ↦[m.view.set]{fullShare} f))

/-- A memref's elements held, at any contents. -/
def some {sp : Space} {s : Shape} {e : EltTy} (c : Dev nD) (m : Memref sig .tc sp s e) : sProp 𝕄 :=
  iprop(∃ f : Buf Val (m.view.loc (c : Thread nD τ)), (m.view.loc (c : Thread nD τ) ↦[m.view.set]{fullShare} f))

theorem holds_intro {sp : Space} {s : Shape} {e : EltTy} (m : Memref sig .tc sp s e) (f : Buf Val (m.view.loc (c : Thread nD τ)))
    {x : s.Idx → Val e} (h : m.view.read Val f = x) :
    ((m.view.loc (c : Thread nD τ) ↦[m.view.set]{fullShare} f) : sProp 𝕄) ⊢ holds c m x := by
  unfold holds
  iintro H
  iexists f
  isplitr
  · ipureintro; exact h
  · iexact H

/-- Two contents that read alike through a memref are the same contents of its elements. -/
theorem holds_elim {sp : Space} {s : Shape} {e : EltTy} (m : Memref sig .tc sp s e) (g : Buf Val (m.view.loc (c : Thread nD τ)))
    {x : s.Idx → Val e} (h : m.view.read Val g = x) :
    holds c m x ⊢ ((m.view.loc (c : Thread nD τ) ↦[m.view.set]{fullShare} g) : sProp 𝕄) := by
  unfold holds
  iintro ⟨%f, %hf, H⟩
  rw [pointsTo_congr (f := f) (g := g) (fun i hi => by
    obtain ⟨x, -, rfl⟩ := Finset.mem_map.mp hi
    have h1 := congrArg (_root_.cast (congrArg Val m.view.elt_eq.symm)) (congrFun (hf.trans h.symm) x)
    rwa [View.read_apply, View.read_apply, cast_cast, cast_cast, cast_eq, cast_eq] at h1)]
  exact Entails.refl _

theorem holds_some {sp : Space} {s : Shape} {e : EltTy} (m : Memref sig .tc sp s e) (x : s.Idx → Val e) :
    (holds c m x : sProp 𝕄) ⊢ some c m := by
  unfold holds some
  iintro ⟨%f, -, H⟩
  iexists f
  iexact H

/-- Slot `i` and its two counters, idle. -/
def free (i : ℕ) : sProp 𝕄 :=
  iprop(some c (R.slot i) ∗ semVal ((c : Thread nD τ), .dma (R.semIn i)) 0 ∗ semVal ((c : Thread nD τ), .dma (R.semOut i)) 0)

/-- Chunk `k` still to be moved. -/
def idle (k : ℕ) : sProp 𝕄 := iprop(holds c (R.src k) (w k) ∗ some c (R.dst k))
/-- Chunk `k` on its way into its slot. -/
def coming (k : ℕ) : sProp 𝕄 :=
  iprop(Transfers.Flight EC (c : Thread nD τ) (.dma (R.semIn (k % 6))) () (R.slot (k % 6)).view.dmaCredit iprop(holds c (R.slot (k % 6)) (w k) ∗ holds c (R.src k) (w k))
    ∗ semVal ((c : Thread nD τ), .dma (R.semOut (k % 6))) 0 ∗ some c (R.dst k))
/-- Chunk `k` on its way out of its slot. -/
def going (k : ℕ) : sProp 𝕄 :=
  iprop(Transfers.Flight EC (c : Thread nD τ) (.dma (R.semOut (k % 6))) () (R.dst k).view.dmaCredit iprop(holds c (R.dst k) (w k) ∗ some c (R.slot (k % 6)))
    ∗ semVal ((c : Thread nD τ), .dma (R.semIn (k % 6))) 0 ∗ holds c (R.src k) (w k))
/-- Chunk `k` in its place. -/
def done (k : ℕ) : sProp 𝕄 := iprop(holds c (R.src k) (w k) ∗ holds c (R.dst k) (w k))

/-- What the core owes: nothing, whatever it has waited for. -/
def quiet (c : Dev nD) : sProp 𝕄 := iprop(∃ W : Waits sig Unit, owes (c : Thread nD τ) (0 : CellTallies nD τ sig Unit) W)

variable {α : Type} {Q : α → sProp (MT nD τ sig Unit Val ℕ U ℕ)} {K : PUnit → Prog (TpuEff nD τ sig Val Λ .tc) α}

/-- What a copy delivers, read: the target reads as the source did, and the source as before. -/
theorem landed {sp sp' : Space} {s : Shape} {e : EltTy} (m : Memref sig .tc sp s e) (m' : Memref sig .tc sp' s e) {x : s.Idx → Val e}
    (f : Buf Val (m.view.loc (c : Thread nD τ))) (f' : Buf Val (m'.view.loc (c : Thread nD τ))) (hf : m.view.read Val f = x) :
    (iprop((m'.view.loc (c : Thread nD τ) ↦[m'.view.set]{fullShare}
          m'.view.write Val f' (ReadAs.same.apply (m.view.read Val f)) Finset.univ)
        ∗ (m.view.loc (c : Thread nD τ) ↦[m.view.set]{fullShare} f)) : sProp 𝕄)
      ⊢ iprop(holds c m' x ∗ holds c m x) := by
  iintro ⟨H, Hs⟩
  isplitl [H]
  · iapply (holds_intro c m' _ ((View.read_write_univ _ _).trans hf)) $$ H
  · iapply (holds_intro c m f hf) $$ Hs

/-- A copy starts: its source and its target held, and its counter idle, it is on its way. -/
theorem wp_copy {sp sp' : Space} {s : Shape} {e : EltTy} (m : Memref sig .tc sp s e) (m' : Memref sig .tc sp' s e) (x : s.Idx → Val e)
    (sem : DmaSem sig) (hm : m.view.WordExact) (hm' : m'.view.WordExact) (hs : s.numel ≠ 0)
    (ht : (DmaTarget.here m' : DmaTarget nD τ sig .tc sp' s e).Typed sp (.dma sem)) :
    iprop(holds c m x ∗ some c m' ∗ semVal ((c : Thread nD τ), .dma sem) 0)
      ⊢ iprop((Transfers.Flight EC (c : Thread nD τ) (.dma sem) () m'.view.dmaCredit iprop(holds c m' x ∗ holds c m x)
            -∗ wp frame (wpE defs 𝒱 (c : Thread nD τ) bd) Set.univ (K ⟨⟩) Q)
          -∗ wp frame (wpE defs 𝒱 (c : Thread nD τ) bd) Set.univ
              (Prog.lift (.enqueueDma m (.here m') (.dma sem) hm hm' ht) >>= K) Q) := by
  rw [Prog.bind_lift]
  unfold some
  conv_lhs => unfold holds
  iintro ⟨⟨%f, %hf, Hf⟩, ⟨%f', Hf'⟩, Hv⟩ Hk
  iapply (Transfers.wp_dmaLocal EC 𝒱 (c : Thread nD τ) bd () (m'.view.dmaCredit) (View.amount_dma _ _)
    (Nat.pos_of_ne_zero fun h => hs ((View.amount_eq_zero_iff _ (.dma sem)).mp h)) subset_rfl) $$ [Hf Hf' Hv]
  · isplitl [Hf]; · iexact Hf
    isplitl [Hf'] <;> iassumption
  iintro Hfl
  iapply Hk
  iapply (Transfers.Flight_mono EC (c : Thread nD τ) (landed c m m' f f' hf)) $$ Hfl

/-- A copy is waited for: what it delivers is held again, and its counter is idle. -/
theorem wp_land {sp sp' : Space} {s : Shape} {e : EltTy} (m : Memref sig .tc sp s e) (m' : Memref sig .tc sp' s e)
    (sem : DmaSem sig) (hm : m.view.WordExact) (hm' : m'.view.WordExact) (D : sProp (MT nD τ sig Unit Val ℕ U ℕ)) :
    iprop(Transfers.Flight EC (c : Thread nD τ) (.dma sem) () m'.view.dmaCredit D ∗ quiet c)
      ⊢ iprop((iprop(D ∗ semVal ((c : Thread nD τ), .dma sem) 0 ∗ quiet c) -∗ wp frame (wpE defs 𝒱 (c : Thread nD τ) bd) Set.univ (K ⟨⟩) Q)
          -∗ wp frame (wpE defs 𝒱 (c : Thread nD τ) bd) Set.univ (Prog.lift (.waitDma2 sem m m' hm hm') >>= K) Q) := by
  rw [Prog.bind_lift]
  unfold quiet
  iintro ⟨Hfl, ⟨%W, HW⟩⟩ Hk
  iapply (Transfers.wp_waitLocal EC 𝒱 (c : Thread nD τ) bd () rfl) $$ [Hfl HW]
  · isplitl [Hfl] <;> iassumption
  iintro ⟨HD, Hv, HW⟩
  iapply Hk
  isplitl [HD]; · iexact HD
  isplitl [Hv]; · iexact Hv
  iexists _; iexact HW

/-- The copy in starts: an idle chunk and its free slot make a coming chunk. -/
theorem wp_startIn (k : ℕ) :
    iprop(R.idle c w k ∗ R.free c (k % 6))
      ⊢ iprop((R.coming EC c w k -∗ wp frame (wpE defs 𝒱 (c : Thread nD τ) bd) Set.univ (K ⟨⟩) Q)
          -∗ wp frame (wpE defs 𝒱 (c : Thread nD τ) bd) Set.univ (R.startIn k >>= K) Q) := by
  unfold idle free startIn
  iintro ⟨⟨Hs, Hd⟩, ⟨Hf, Hi, Ho⟩⟩ Hk
  iapply (wp_copy EC 𝒱 c bd (R.src k) (R.slot (k % 6)) (w k) (R.semIn (k % 6)) _ _ R.pos _) $$ [Hs Hf Hi]
  · isplitl [Hs]; · iexact Hs
    isplitl [Hf] <;> iassumption
  iintro Hfl
  iapply Hk
  unfold coming
  isplitl [Hfl]; · iexact Hfl
  isplitl [Ho] <;> iassumption

/-- The copy out starts, once the copy in has landed. -/
theorem wp_turn (k : ℕ) :
    iprop(R.coming EC c w k ∗ quiet c)
      ⊢ iprop((iprop(R.going EC c w k ∗ quiet c) -∗ wp frame (wpE defs 𝒱 (c : Thread nD τ) bd) Set.univ (K ⟨⟩) Q)
          -∗ wp frame (wpE defs 𝒱 (c : Thread nD τ) bd) Set.univ (R.waitIn k >>= fun _ => R.startOut k >>= K) Q) := by
  unfold coming waitIn startOut
  iintro ⟨⟨Hfl, Ho, Hd⟩, HW⟩ Hk
  iapply (wp_land EC 𝒱 c bd (R.src k) (R.slot (k % 6)) (R.semIn (k % 6)) _ _ _) $$ [Hfl HW]
  · isplitl [Hfl] <;> iassumption
  iintro ⟨⟨Hf, Hs⟩, Hi, HW⟩
  iapply (wp_copy EC 𝒱 c bd (R.slot (k % 6)) (R.dst k) (w k) (R.semOut (k % 6)) _ _ R.pos _) $$ [Hf Hd Ho]
  · isplitl [Hf]; · iexact Hf
    isplitl [Hd] <;> iassumption
  iintro Hfl
  iapply Hk
  unfold going
  isplitr [HW]; swap; · iexact HW
  isplitl [Hfl]
  · iapply (Transfers.Flight_mono EC (c : Thread nD τ) (BIClass.sep_mono (Entails.refl _) (holds_some c (R.slot (k % 6)) (w k)))) $$ Hfl
  isplitl [Hi] <;> iassumption

/-- The copy out is waited for: the chunk is in its place and its slot is free. -/
theorem wp_waitOut (k : ℕ) :
    iprop(R.going EC c w k ∗ quiet c)
      ⊢ iprop((iprop(R.done c w k ∗ R.free c (k % 6) ∗ quiet c) -∗ wp frame (wpE defs 𝒱 (c : Thread nD τ) bd) Set.univ (K ⟨⟩) Q)
          -∗ wp frame (wpE defs 𝒱 (c : Thread nD τ) bd) Set.univ (R.waitOut k >>= K) Q) := by
  unfold going waitOut
  iintro ⟨⟨Hfl, Hi, Hs⟩, HW⟩ Hk
  iapply (wp_land EC 𝒱 c bd (R.slot (k % 6)) (R.dst k) (R.semOut (k % 6)) _ _ _) $$ [Hfl HW]
  · isplitl [Hfl] <;> iassumption
  iintro ⟨⟨Hd, Hf⟩, Ho, HW⟩
  iapply Hk
  unfold done free
  isplitl [Hs Hd]
  · isplitl [Hs] <;> iassumption
  isplitl [Hf Hi Ho]
  · isplitl [Hf]; · iexact Hf
    isplitl [Hi] <;> iassumption
  iexact HW

/-- Any number of turns: with six chunks in the ring — three going, three coming — and the next ones idle, as many
    chunks are put in their places, and the six chunks in the ring are the next ones. -/
theorem wp_turns : ∀ (n k : ℕ),
    iprop(upto (R.going EC c w) 3 k ∗ upto (R.coming EC c w) 3 (k + 3) ∗ upto (R.idle c w) n (k + 6) ∗ quiet c)
      ⊢ iprop((iprop(upto (R.done c w) n k ∗ upto (R.going EC c w) 3 (k + n) ∗ upto (R.coming EC c w) 3 (k + n + 3) ∗ quiet c)
            -∗ wp frame (wpE defs 𝒱 (c : Thread nD τ) bd) Set.univ (K ⟨⟩) Q)
          -∗ wp frame (wpE defs 𝒱 (c : Thread nD τ) bd) Set.univ (R.turns n k >>= K) Q)
  | 0, k => by
    simp only [upto_zero, Nat.add_zero]
    iintro ⟨Hg, Hc, -, HW⟩ Hk
    iapply Hk
    isplitr; · iempintro
    isplitl [Hg]; · iexact Hg
    isplitl [Hc] <;> iassumption
  | n + 1, k => by
    have ih := wp_turns n (k + 1)
    simp only [upto_succ, upto_zero] at ih ⊢
    rw [show k + (n + 1) = k + 1 + n by omega]
    iintro ⟨⟨Hg0, Hg1, Hg2, -⟩, ⟨Hc0, Hc1, Hc2, -⟩, ⟨Hi, Hr⟩, HW⟩ Hk
    unfold turns
    simp only [Prog.bind_assoc]
    iapply (R.wp_waitOut EC 𝒱 c bd w k) $$ [Hg0 HW]
    · isplitl [Hg0] <;> iassumption
    iintro ⟨Hd, Hf, HW⟩
    iapply (R.wp_startIn EC 𝒱 c bd w (k + 6)) $$ [Hi Hf]
    · isplitl [Hi]; · iexact Hi
      rw [Nat.add_mod_right]
      iexact Hf
    iintro Hc3
    iapply (R.wp_turn EC 𝒱 c bd w (k + 3)) $$ [Hc0 HW]
    · isplitl [Hc0] <;> iassumption
    iintro ⟨Hg3, HW⟩
    iapply ih $$ [Hg1 Hg2 Hg3 Hc1 Hc2 Hc3 Hr HW]
    · isplitl [Hg1 Hg2 Hg3]
      · isplitl [Hg1]; · iexact Hg1
        isplitl [Hg2]; · iexact Hg2
        isplitl [Hg3]; · iexact Hg3
        iempintro
      isplitl [Hc1 Hc2 Hc3]
      · isplitl [Hc1]; · iexact Hc1
        isplitl [Hc2]; · iexact Hc2
        isplitl [Hc3]; · iexact Hc3
        iempintro
      isplitl [Hr] <;> iassumption
    iintro ⟨Hds, Hg, Hc, HW⟩
    iapply Hk
    isplitl [Hd Hds]
    · isplitl [Hd] <;> iassumption
    isplitl [Hg]; · iexact Hg
    isplitl [Hc] <;> iassumption

end Rules
end Ring
end Ring

end Cert.Slots

end
-- ==== Proof.Rows.lean ====
/-
  An array of `N` rows, each a block of 64 × 128 × 128 elements, row by row: the memref of a row, an array held as its
  rows held, in any order, and an array with some consecutive rows taken from another.
-/
module

public import proofs.«01_k».proof.Proof.Slots
public import Idealize.ShloMosaic.Lib.Pipeline.ValueKit.Geometry

@[expose] public section

noncomputable section

namespace Cert.Slots

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Ring (holds some holds_intro holds_elim)

/-- `N` rows, -/
abbrev S4 (N : ℕ) : Shape := ⟨4, ![N, 64, 128, 128]⟩
/-- and one of them. -/
abbrev S3 : Shape := ⟨3, ![64, 128, 128]⟩

theorem row_inb (N : ℕ) [NeZero N] (n : ℕ) : ∀ a, (![n % N, 0, 0, 0] : Fin 4 → ℕ) a + (S4 1).size a ≤ (S4 N).size a := by
  have : n % N < N := Nat.mod_lt _ (Nat.pos_of_ne_zero (NeZero.ne N))
  intro a
  fin_cases a
  · show n % N + 1 ≤ N
    omega
  all_goals exact Nat.le_of_ble_eq_true rfl

/-- The elements of row `n`. -/
def rowRect (N : ℕ) [NeZero N] (n : ℕ) : Rect (S4 N) := Rect.unit (s := S4 N) ![n % N, 0, 0, 0] (S4 1).size (row_inb N n)

section

variable {N : ℕ} [NeZero N] (hsq : (S4 1).Squeezes S3)

/-- Where element `z` of row `n` is. -/
def place (N : ℕ) [NeZero N] (n : ℕ) (z : S3.Idx) : (S4 N).Idx := (rowRect N n).emb (Shape.reshapeEquiv hsq.numel_eq z)

theorem place_zero (n : ℕ) (z : S3.Idx) : (place hsq N n z 0).val = n % N := by
  have h : (Shape.reshapeEquiv hsq.numel_eq z 0).val = 0 := Nat.lt_one_iff.mp (Shape.reshapeEquiv hsq.numel_eq z 0).isLt
  refine (ValueKit.rect_emb_unit_val (s := S4 N) ![n % N, 0, 0, 0] (S4 1).size (row_inb N n) (Shape.reshapeEquiv hsq.numel_eq z) 0).trans ?_
  show n % N + _ = _
  rw [h, Nat.add_zero]

theorem place_succ (n : ℕ) (z : S3.Idx) (a : Fin 3) :
    (place hsq N n z a.succ).val = (Shape.reshapeEquiv hsq.numel_eq z a.succ : ℕ) := by
  refine (ValueKit.rect_emb_unit_val (s := S4 N) ![n % N, 0, 0, 0] (S4 1).size (row_inb N n) (Shape.reshapeEquiv hsq.numel_eq z) a.succ).trans ?_
  fin_cases a <;> exact Nat.zero_add _

/-- Every element of row `n` is somewhere in it. -/
theorem exists_place (n : ℕ) (i : (S4 N).Idx) (h : (i 0).val = n % N) : ∃ z, place hsq N n z = i := by
  have hi : i ∈ (rowRect N n).set := Rect.mem_set_unit.mpr fun a => by
    fin_cases a
    · exact ⟨h.ge, by show (i 0).val < n % N + 1; omega⟩
    · exact ⟨Nat.zero_le _, (Nat.zero_add 64).symm ▸ (i 1).isLt⟩
    · exact ⟨Nat.zero_le _, (Nat.zero_add 128).symm ▸ (i 2).isLt⟩
    · exact ⟨Nat.zero_le _, (Nat.zero_add 128).symm ▸ (i 3).isLt⟩
  obtain ⟨y, -, hy⟩ := Finset.mem_map.mp ((Rect.map_emb_univ (rowRect N n)).symm ▸ hi)
  refine ⟨(Shape.reshapeEquiv hsq.numel_eq).symm y, ?_⟩
  exact (congrArg (rowRect N n).emb (Equiv.apply_symm_apply (Shape.reshapeEquiv hsq.numel_eq) y)).trans hy

/-- Row `n` of an array's contents. -/
def rowOf {V : Type} (x : (S4 N).Idx → V) (n : ℕ) : S3.Idx → V := fun z => x (place hsq N n z)

/-- Index `i` with another leading coordinate. -/
def reRow {N M : ℕ} (i : (S4 N).Idx) (n : Fin M) : (S4 M).Idx
  | 0 => n
  | 1 => i 1
  | 2 => i 2
  | 3 => i 3

/-- The array `x` with rows `lo`, …, `lo + M - 1` taken from `y`. -/
def splice {V : Type} {N M : ℕ} (lo : ℕ) (x : (S4 N).Idx → V) (y : (S4 M).Idx → V) : (S4 N).Idx → V := fun i =>
  if h : lo ≤ (i 0).val ∧ (i 0).val - lo < M then y (reRow i ⟨(i 0).val - lo, h.2⟩) else x i

theorem rowOf_splice_of_out {V : Type} {M : ℕ} (lo : ℕ) (x : (S4 N).Idx → V) (y : (S4 M).Idx → V) (n : ℕ)
    (h : n % N < lo ∨ lo + M ≤ n % N) : rowOf hsq (splice lo x y) n = rowOf hsq x n := by
  funext z
  show splice lo x y _ = x _
  unfold splice
  rw [dif_neg]
  have := place_zero hsq (N := N) n z
  omega

theorem rowOf_splice_of_in {V : Type} {M : ℕ} [NeZero M] (lo : ℕ) (x : (S4 N).Idx → V) (y : (S4 M).Idx → V) (n h : ℕ)
    (hh : h < M) (hn : n % N = lo + h) : rowOf hsq (splice lo x y) n = rowOf hsq y h := by
  funext z
  show splice lo x y _ = y _
  have h0 := place_zero hsq (N := N) n z
  unfold splice
  rw [dif_pos (by omega)]
  congr 1
  funext a
  apply Fin.ext
  refine Fin.cases ?_ (fun a => ?_) a
  · rw [place_zero hsq h z]
    show (place hsq N n z 0).val - lo = _
    rw [h0, hn, Nat.mod_eq_of_lt hh]; omega
  · rw [place_succ]
    fin_cases a
    · exact place_succ hsq (N := N) n z 0
    · exact place_succ hsq (N := N) n z 1
    · exact place_succ hsq (N := N) n z 2

variable {nD : Nat} {τ : Topo} {sig : RefSig} {Val : EltTy → Type} {U : Type} [URA U]
variable {sp : Space} {e : EltTy} (m : Memref sig .tc sp (S4 N) e) (c : Dev nD)

/-- Row `n` of an array. -/
def row (n : ℕ) : Memref sig .tc sp S3 e := (m.slice (rowRect N n) (fun _ => rfl)).squeeze S3 hsq

theorem read_row (f : m.view.ty.Contents Val) (n : ℕ) : (row hsq m n).view.read Val f = rowOf hsq (m.view.read Val f) n := rfl

theorem mem_row_set (n : ℕ) (i : (S4 N).Idx) : m.view.emb i ∈ (row hsq m n).view.set ↔ (i 0).val = n % N := by
  constructor
  · intro h
    obtain ⟨z, -, hz⟩ := Finset.mem_map.mp h
    have : place hsq N n z = i := m.view.emb.injective hz
    rw [← this, place_zero]
  · intro h
    obtain ⟨z, hz⟩ := exists_place hsq n i h
    exact Finset.mem_map.mpr ⟨z, Finset.mem_univ _, congrArg m.view.emb hz⟩

theorem row_subset (n : ℕ) : (row hsq m n).view.set ⊆ m.view.set := by
  intro i h
  obtain ⟨z, -, hz⟩ := Finset.mem_map.mp h
  exact Finset.mem_map.mpr ⟨place hsq N n z, Finset.mem_univ _, hz⟩

section Block

variable {M : ℕ} [NeZero M] (off : Fin 4 → ℕ) (inb : ∀ a, off a + (S4 M).size a ≤ (S4 N).size a) {lo : ℕ} (ho : off = ![lo, 0, 0, 0])
  (h : ℕ) (hh : h < M) (hlo : lo + M ≤ N)

/-- `M` consecutive rows of an array. -/
abbrev block : Memref sig .tc sp (S4 M) e := m.slice (Rect.unit (s := S4 N) off (S4 M).size inb) (fun _ => rfl)

include ho hh hlo

/-- A row of a block of rows, seen inside the block and inside the array. -/
theorem block_emb (z : S3.Idx) : (Rect.unit (s := S4 N) off (S4 M).size inb).emb (place hsq M h z) = place hsq N (lo + h) z := by
  subst ho
  funext a
  apply Fin.ext
  rw [ValueKit.rect_emb_unit_val (s := S4 N)]
  refine Fin.cases ?_ (fun a => ?_) a
  · show lo + (place hsq M h z 0).val = _
    rw [place_zero, place_zero, Nat.mod_eq_of_lt hh, Nat.mod_eq_of_lt (by omega)]
  · rw [place_succ hsq (N := N)]
    have := place_succ hsq (N := M) h z a
    fin_cases a <;> exact (Nat.zero_add _).trans this

theorem block_row_set : (row hsq (block m off inb) h).view.set = (row hsq m (lo + h)).view.set := by
  show Finset.univ.map _ = Finset.univ.map _
  refine congrArg (fun e => Finset.univ.map e) (Function.Embedding.ext fun z => ?_)
  show m.view.emb ((Rect.unit (s := S4 N) off (S4 M).size inb).emb (place hsq M h z)) = m.view.emb (place hsq N (lo + h) z)
  rw [block_emb hsq off inb ho h hh hlo z]

theorem block_row_read (f : m.view.ty.Contents Val) :
    (row hsq (block m off inb) h).view.read Val f = (row hsq m (lo + h)).view.read Val f := by
  rw [read_row, read_row]
  funext z
  show m.view.read Val f ((Rect.unit (s := S4 N) off (S4 M).size inb).emb (place hsq M h z)) = m.view.read Val f (place hsq N (lo + h) z)
  rw [block_emb hsq off inb ho h hh hlo z]

theorem block_row_some :
    (some c (row hsq (block m off inb) h) : sProp (MT nD τ sig Unit Val ℕ U ℕ)) = some c (row hsq m (lo + h)) := by
  have r := block_row_set hsq m off inb ho h hh hlo
  show (iprop(∃ f : Buf Val (m.view.loc (c : Thread nD τ)), (m.view.loc (c : Thread nD τ) ↦[(row hsq (block m off inb) h).view.set]{fullShare} f)) : sProp (MT nD τ sig Unit Val ℕ U ℕ))
    = iprop(∃ f : Buf Val (m.view.loc (c : Thread nD τ)), (m.view.loc (c : Thread nD τ) ↦[(row hsq m (lo + h)).view.set]{fullShare} f))
  rw [r]

theorem block_row_holds (x : S3.Idx → Val e) :
    (holds c (row hsq (block m off inb) h) x : sProp (MT nD τ sig Unit Val ℕ U ℕ)) = holds c (row hsq m (lo + h)) x := by
  have r := block_row_set hsq m off inb ho h hh hlo
  have r' := block_row_read (Val := Val) hsq m off inb ho h hh hlo
  show (iprop(∃ f : Buf Val (m.view.loc (c : Thread nD τ)), ⌜(row hsq (block m off inb) h).view.read Val f = x⌝ ∗ (m.view.loc (c : Thread nD τ) ↦[(row hsq (block m off inb) h).view.set]{fullShare} f)) : sProp (MT nD τ sig Unit Val ℕ U ℕ))
    = iprop(∃ f : Buf Val (m.view.loc (c : Thread nD τ)), ⌜(row hsq m (lo + h)).view.read Val f = x⌝ ∗ (m.view.loc (c : Thread nD τ) ↦[(row hsq m (lo + h)).view.set]{fullShare} f))
  rw [r]
  simp only [r']

end Block

/-- An order of the rows: every row once. -/
structure Order (N : ℕ) (ρ : ℕ → ℕ) : Prop where
  all : ∀ n, n < N → ∃ k, k < N ∧ ρ k % N = n
  inj : ∀ k k', k < N → k' < N → ρ k % N = ρ k' % N → k = k'

local notation "𝕄" => MT nD τ sig Unit Val ℕ U ℕ

variable {ρ : ℕ → ℕ} (hρ : Order N ρ)
include hρ

theorem rows_cover (i : Idx (nD := nD) (τ := τ) (m.view.loc (c : Thread nD τ))) (hi : i ∈ m.view.set) : ∃ k, 0 ≤ k ∧ k < 0 + N ∧ i ∈ (row hsq m (ρ k)).view.set := by
  obtain ⟨j, -, rfl⟩ := Finset.mem_map.mp hi
  obtain ⟨k, h1, h2⟩ := hρ.all (j 0).val (j 0).isLt
  exact ⟨k, Nat.zero_le _, by omega, (mem_row_set hsq m _ j).mpr h2.symm⟩

theorem rows_disjoint (k k' : ℕ) (hk : k < N) (hk' : k' < N) (hne : k ≠ k') :
    Disjoint (row hsq m (ρ k)).view.set (row hsq m (ρ k')).view.set :=
  Finset.disjoint_left.mpr fun i hi hi' => by
    obtain ⟨j, -, rfl⟩ := Finset.mem_map.mp (row_subset hsq m _ hi)
    exact hne (hρ.inj k k' hk hk' (((mem_row_set hsq m _ j).mp hi).symm.trans ((mem_row_set hsq m _ j).mp hi')))

/-- An array held is its rows held, in any order. -/
theorem pointsTo_rows (f : Buf Val (m.view.loc (c : Thread nD τ))) :
    ((m.view.loc (c : Thread nD τ) ↦[m.view.set]{fullShare} f) : sProp 𝕄)
      ⊣⊢ upto (fun k => (m.view.loc (c : Thread nD τ) ↦[(row hsq m (ρ k)).view.set]{fullShare} f)) N 0 :=
  split_upto _ N 0 _ (rows_cover hsq m c hρ) (fun k _ _ => row_subset hsq m _)
    (fun k k' _ hk _ hk' hne => rows_disjoint hsq m hρ k k' (by omega) (by omega) hne)

/-- The array's rows read as the array's contents' rows, -/
theorem holds_rows (x : (S4 N).Idx → Val e) :
    (holds c m x : sProp 𝕄) ⊢ upto (fun k => holds c (row hsq m (ρ k)) (rowOf hsq x (ρ k))) N 0 := by
  unfold holds
  iintro ⟨%f, %hf, H⟩
  have h1 := (pointsTo_rows (U := U) hsq m c hρ f).1.trans (upto_mono (P' := fun k => holds c (row hsq m (ρ k)) (rowOf hsq x (ρ k))) N 0 fun k _ _ =>
    holds_intro c (row hsq m (ρ k)) f (by rw [read_row, hf]))
  unfold holds at h1
  iapply h1 $$ H

/-- and make it. -/
theorem rows_holds (x : (S4 N).Idx → Val e) :
    upto (fun k => holds c (row hsq m (ρ k)) (rowOf hsq x (ρ k))) N 0 ⊢ (holds c m x : sProp 𝕄) := by
  have h0 : ∀ f : Buf Val (m.view.loc (c : Thread nD τ)),
      upto (fun k => holds c (row hsq m (ρ k)) (rowOf hsq x (ρ k))) N 0 ⊢ (holds c m x : sProp 𝕄) := fun f =>
    (upto_mono N 0 fun k _ _ => holds_elim c (row hsq m (ρ k)) (m.view.write Val f x Finset.univ)
      (by rw [read_row, View.read_write_univ])).trans ((pointsTo_rows hsq m c hρ _).2.trans (holds_intro c m _ (View.read_write_univ _ _)))
  obtain ⟨n, hn⟩ : ∃ n, N = n + 1 := ⟨N - 1, by have := NeZero.ne N; omega⟩
  have h1 : upto (fun k => holds c (row hsq m (ρ k)) (rowOf hsq x (ρ k))) N 0
      ⊢ (iprop(∃ f : Buf Val (m.view.loc (c : Thread nD τ)), upto (fun k => holds c (row hsq m (ρ k)) (rowOf hsq x (ρ k))) N 0) : sProp 𝕄) := by
    generalize hP : (fun k => (holds c (row hsq m (ρ k)) (rowOf hsq x (ρ k)) : sProp 𝕄)) = P
    have h2 : upto P N 0 = iprop(P 0 ∗ upto P n 1) := by
      have : ∀ N', N' = n + 1 → upto P N' 0 = iprop(P 0 ∗ upto P n 1) := by rintro _ rfl; rfl
      exact this N hn
    have h3 : P 0 ⊢ (iprop(∃ f : Buf Val (m.view.loc (c : Thread nD τ)), holds c (row hsq m (ρ 0)) (rowOf hsq x (ρ 0))) : sProp 𝕄) := by
      subst hP
      unfold holds
      iintro ⟨%f, Hf⟩
      iexists f
      iexists f
      iexact Hf
    rw [h2]
    iintro ⟨H0, Hr⟩
    ihave H0' := h3 $$ H0
    icases H0' with ⟨%f, Hf⟩
    iexists f
    subst hP
    isplitl [Hf] <;> iassumption
  refine h1.trans ?_
  iintro ⟨%f, H⟩
  iapply (h0 f) $$ H

end

section

variable {nD : Nat} {τ : Topo} {sig : RefSig} {Val : EltTy → Type} {U : Type} [URA U]

/-- Pieces held at any contents make the whole held at some. -/
theorem join_upto {ℓ : Loc nD τ sig} (I : ℕ → Finset (Idx ℓ)) (g : Buf Val ℓ) :
    ∀ (n a : ℕ) (S : Finset (Idx ℓ)), (∀ i ∈ S, ∃ k, a ≤ k ∧ k < a + n ∧ i ∈ I k) → (∀ k, a ≤ k → k < a + n → I k ⊆ S)
      → (∀ k k', a ≤ k → k < a + n → a ≤ k' → k' < a + n → k ≠ k' → Disjoint (I k) (I k'))
      → (upto (fun k => iprop(∃ f : Buf Val ℓ, (ℓ ↦[I k]{fullShare} f))) n a
          ⊢ (iprop(∃ f : Buf Val ℓ, (ℓ ↦[S]{fullShare} f)) : sProp (MT nD τ sig Unit Val ℕ U ℕ)))
  | 0, a, S, hS, _, _ => by
    have : S = ∅ := Finset.eq_empty_of_forall_notMem fun i hi => by
      obtain ⟨k, h1, h2, -⟩ := hS i hi; omega
    subst this
    iintro -
    iexists g
    rw [pointsTo_empty]
    iempintro
  | n + 1, a, S, hS, hI, hd => by
    have h0 : I a ⊆ S := hI a (by omega) (by omega)
    have ih := join_upto I g n (a + 1) (S \ I a) (fun i hi => by
      obtain ⟨hi, hn⟩ := Finset.mem_sdiff.mp hi
      obtain ⟨k, h1, h2, h3⟩ := hS i hi
      refine ⟨k, ?_, by omega, h3⟩
      rcases Nat.lt_or_ge a k with h | h
      · exact h
      · exact absurd (by rwa [show k = a by omega] at h3) hn)
      (fun k h1 h2 => Finset.subset_sdiff.mpr ⟨hI k (by omega) (by omega), hd k a (by omega) (by omega) (by omega) (by omega) (by omega)⟩)
      (fun k k' h1 h2 h3 h4 h5 => hd k k' (by omega) (by omega) (by omega) (by omega) h5)
    rw [upto_succ]
    iintro ⟨⟨%f, Hf⟩, Hr⟩
    ihave Hr' := ih $$ Hr
    icases Hr' with ⟨%f', Hf'⟩
    iexists _
    iapply (pointsTo_join_subset h0)
    isplitl [Hf] <;> iassumption

end

end Cert.Slots

end
-- ==== Proof.StreamProg.lean ====
/-
  The streaming kernel's program, read as a ring of staging slots: sixty chunks of the two feature arrays in the order
  they are moved, and the two halves of the new feature map, all through the six slots; beside the ring, the new frame
  into its own staging buffer, out again to its place, and the pooling loop.
-/
module

public import proofs.«01_k».proof.Proof.Gen.KernelIdeal
public import proofs.«01_k».proof.Proof.Gen.KernelIdeal.Skeleton
public import proofs.«01_k».proof.Proof.Slots

@[expose] public section

noncomputable section

namespace Cert.KernelIdeal.Hand

open Cert.KernelIdeal Cert.KernelIdeal.Gen Cert.Slots
open Idealize.ShloMosaic Idealize.ShloMosaic.TcCoe
open Idealize.SL Idealize.SL.Sem

variable {F : FTy → Type} [FloatOps F] [Named F]

theorem slot_inb (i : ℕ) : ∀ a, (![i % 6, 0, 0, 0] : Fin 4 → ℕ) a + S1x64x128x128.size a ≤ S6x64x128x128.size a := by
  have : i % 6 < 6 := Nat.mod_lt _ (by decide)
  intro a
  fin_cases a
  · show i % 6 + 1 ≤ 6
    omega
  all_goals exact Nat.le_of_ble_eq_true rfl

theorem sem_inb (i : ℕ) : ∀ a, (![i % 6] : Fin 1 → ℕ) a + S1.size a ≤ S6.size a := by
  have : i % 6 < 6 := Nat.mod_lt _ (by decide)
  intro a
  fin_cases a
  show i % 6 + 1 ≤ 6
  omega

theorem half_inb (h : ℕ) : ∀ a, (![h % 2, 0, 0, 0] : Fin 4 → ℕ) a + S1x64x128x128.size a ≤ S2x64x128x128.size a := by
  have : h % 2 < 2 := Nat.mod_lt _ (by decide)
  intro a
  fin_cases a
  · show h % 2 + 1 ≤ 2
    omega
  all_goals exact Nat.le_of_ble_eq_true rfl

section

variable (arg2 : Memref sig .tc .hbm S2x64x128x128 .f32) (arg3 arg4 arg5 arg6 : Memref sig .tc .hbm S32x64x128x128 .f32)
  (arg8 : Memref sig .tc .vmem S6x64x128x128 .f32) (arg10 arg11 : DmaSems sig S6)
  (v0 : BitVec 32) (hw : k0_chk1 v0)

/-- One half-frame of a feature array: half `j % 2` of the `j / 2`-th frame other than frame `v0`. -/
def slab (m : Memref sig .tc .hbm S32x64x128x128 .f32) (j : Fin 30) : Memref sig .tc .hbm S64x128x128 .f32 :=
  (m.slice (Rect.unit (s := S32x64x128x128) (k0_off1 v0 (k0_off1_at j).1 (k0_off1_at j).2.1 (k0_off1_at j).2.2)
    S1x64x128x128.size (k0_off1_inb v0 hw j)) (fun _ => rfl)).squeeze S64x128x128 squeezes_S1x64x128x128_S64x128x128

/-- Half `h` of frame `v0` of a feature array. -/
def slabNew (m : Memref sig .tc .hbm S32x64x128x128 .f32) (h : Fin 2) : Memref sig .tc .hbm S64x128x128 .f32 :=
  (m.slice (Rect.unit (s := S32x64x128x128) (k0_off5 v0 (BitVec.ofNat 32 h.val))
    S1x64x128x128.size (k0_off5_inb v0 hw h)) (fun _ => rfl)).squeeze S64x128x128 squeezes_S1x64x128x128_S64x128x128

/-- Half `h % 2` of a single frame. -/
def half (m : Memref sig .tc .hbm S2x64x128x128 .f32) (h : ℕ) : Memref sig .tc .hbm S64x128x128 .f32 :=
  (m.slice (Rect.unit (s := S2x64x128x128) ![h % 2, 0, 0, 0] S1x64x128x128.size (half_inb h)) (fun _ => rfl)).squeeze
    S64x128x128 squeezes_S1x64x128x128_S64x128x128

/-- Where chunk `k` comes from. -/
def chunkSrc (k : ℕ) : Memref sig .tc .hbm S64x128x128 .f32 :=
  if h : k < 30 then slab v0 hw arg3 ⟨k, h⟩
  else if h : k - 30 < 30 then slab v0 hw arg4 ⟨k - 30, h⟩
  else half arg2 k

/-- Where chunk `k` goes. -/
def chunkDst (k : ℕ) : Memref sig .tc .hbm S64x128x128 .f32 :=
  if h : k < 30 then slab v0 hw arg5 ⟨k, h⟩
  else if h : k - 30 < 30 then slab v0 hw arg6 ⟨k - 30, h⟩
  else slabNew v0 hw arg6 ⟨k % 2, Nat.mod_lt _ (by decide)⟩

/-- Slot `i`. -/
def slot (i : ℕ) : Memref sig .tc .vmem S64x128x128 .f32 :=
  (arg8.slice (Rect.unit (s := S6x64x128x128) ![i % 6, 0, 0, 0] S1x64x128x128.size (slot_inb i)) (fun _ => rfl)).squeeze
    S64x128x128 squeezes_S1x64x128x128_S64x128x128

/-- A slot's counter. -/
def slotSem (a : DmaSems sig S6) (i : ℕ) : DmaSem sig :=
  ((a.slice (Rect.unit (s := S6) ![i % 6] S1.size (sem_inb i))).squeeze S_ squeezes_S1_S_).sem

/-- The streaming kernel's ring. -/
def ring : Ring sig S64x128x128 .f32 where
  src := chunkSrc arg2 arg3 arg4 v0 hw
  dst := chunkDst arg5 arg6 v0 hw
  slot := slot arg8
  semIn := slotSem arg10
  semOut := slotSem arg11
  srcW := fun _ => View.wordExact_bits rfl
  dstW := fun _ => View.wordExact_bits rfl
  slotW := fun _ => View.wordExact_bits rfl
  pos := by decide +kernel

end

/-- The counter the new frame's copies in (`0`) and out (`1`) are counted on. -/
def frameSem0 (a : DmaSems sig S2) : DmaSem sig := ((a.slice (Rect.unit (s := S2) ![0] S1.size inb_S2_S1_0)).squeeze S_ squeezes_S1_S_).sem
def frameSem1 (a : DmaSems sig S2) : DmaSem sig := ((a.slice (Rect.unit (s := S2) ![1] S1.size inb_S2_S1_1)).squeeze S_ squeezes_S1_S_).sem

/-- Frame `v0` of a feature array, both halves. -/
def frameAt (v0 : BitVec 32) (hw : k0_chk1 v0) (m : Memref sig .tc .hbm S32x64x128x128 .f32) : Memref sig .tc .hbm S2x64x128x128 .f32 :=
  m.slice (Rect.unit (s := S32x64x128x128) (k0_off2 v0) S2x64x128x128.size (k0_off2_inb v0 hw)) (fun _ => rfl)

/-- The pooling loop. -/
abbrev poolLoop (arg0 : Memref sig .tc .smem S2 .i32) (harg0 : arg0.IsWhole) (arg1 : Memref sig .tc .hbm S2x64x128x128 .f32) (harg1 : arg1.IsWhole) (arg2 : Memref sig .tc .hbm S2x64x128x128 .f32) (harg2 : arg2.IsWhole) (arg3 : Memref sig .tc .hbm S32x64x128x128 .f32) (harg3 : arg3.IsWhole) (arg4 : Memref sig .tc .hbm S32x64x128x128 .f32) (harg4 : arg4.IsWhole) (arg5 : Memref sig .tc .hbm S32x64x128x128 .f32) (harg5 : arg5.IsWhole) (arg6 : Memref sig .tc .hbm S32x64x128x128 .f32) (harg6 : arg6.IsWhole) (arg7 : Memref sig .tc .vmem S128x32x32 .f32) (harg7 : arg7.IsWhole) (arg8 : Memref sig .tc .vmem S6x64x128x128 .f32) (harg8 : arg8.IsWhole) (arg9 : Memref sig .tc .vmem S2x64x128x128 .f32) (harg9 : arg9.IsWhole) (arg10 : DmaSems sig S6) (arg11 : DmaSems sig S6) (arg12 : DmaSems sig S2) (v0 : BitVec 32) (hw : k0_chk1 v0) :
    Prog (TpuEff nD τ sig (Elt F) Λ₀ .tc) PUnit :=
  Scf.Loop.for k0_t1_loop k0_t1_ok ⟨⟩ (k0_t1_body (F := F) arg0 harg0 arg1 harg1 arg2 harg2 arg3 harg3 arg4 harg4 arg5 harg5 arg6 harg6 arg7 harg7 arg8 harg8 arg9 harg9 arg10 arg11 arg12 v0 hw)

/-- The ring from when the pooling is done, its first thirty-four turns. -/
def midProg (R : Ring sig S64x128x128 .f32) : Prog (TpuEff nD τ sig (Elt F) Λ₀ .tc) PUnit := do
  R.startIn 4
  R.waitIn 1
  R.startOut 1
  R.startIn 5
  R.waitIn 2
  R.startOut 2
  R.turns 34 0

/-- The ring's last turns, and the ring run dry. -/
def endProg (R : Ring sig S64x128x128 .f32) : Prog (TpuEff nD τ sig (Elt F) Λ₀ .tc) PUnit := do
  R.turns 22 34
  R.waitIn 59
  R.startOut 59
  R.waitIn 60
  R.startOut 60
  R.waitIn 61
  R.startOut 61
  R.waitOut 56
  R.waitOut 57
  R.waitOut 58
  R.waitOut 59
  R.waitOut 60
  R.waitOut 61

/-- The ring's start: four chunks coming, the first of them turned out. -/
def startProg (R : Ring sig S64x128x128 .f32) : Prog (TpuEff nD τ sig (Elt F) Λ₀ .tc) PUnit := do
  R.startIn 0
  R.startIn 1
  R.startIn 2
  R.startIn 3
  R.waitIn 0
  R.startOut 0

/-- The streaming kernel as a ring: started, turned fifty-six times, and run dry. -/
def streamProg (arg0 : Memref sig .tc .smem S2 .i32) (harg0 : arg0.IsWhole) (arg1 : Memref sig .tc .hbm S2x64x128x128 .f32) (harg1 : arg1.IsWhole) (arg2 : Memref sig .tc .hbm S2x64x128x128 .f32) (harg2 : arg2.IsWhole) (arg3 : Memref sig .tc .hbm S32x64x128x128 .f32) (harg3 : arg3.IsWhole) (arg4 : Memref sig .tc .hbm S32x64x128x128 .f32) (harg4 : arg4.IsWhole) (arg5 : Memref sig .tc .hbm S32x64x128x128 .f32) (harg5 : arg5.IsWhole) (arg6 : Memref sig .tc .hbm S32x64x128x128 .f32) (harg6 : arg6.IsWhole) (arg7 : Memref sig .tc .vmem S128x32x32 .f32) (harg7 : arg7.IsWhole) (arg8 : Memref sig .tc .vmem S6x64x128x128 .f32) (harg8 : arg8.IsWhole) (arg9 : Memref sig .tc .vmem S2x64x128x128 .f32) (harg9 : arg9.IsWhole) (arg10 : DmaSems sig S6) (arg11 : DmaSems sig S6) (arg12 : DmaSems sig S2) :
    Prog (TpuEff nD τ sig (Elt F) Λ₀ .tc) PUnit := do
  let v0 : Elt F .i32 ← smemLoad arg0 (Rect.unit (s := S2) ![0] S1.size inb_S2_S1_0) numel1_S1 rfl
  have hw : k0_chk1 v0 := (← Prog.lift (TpuEff.assume (k0_chk1 v0) (k0_chk1.dec v0))).down
  Prog.lift (.enqueueDma arg1 (.here arg9) (.dma (frameSem0 arg12)) harg1.wordExact harg9.wordExact ⟨Or.inl rfl, trivial⟩)
  startProg (ring arg2 arg3 arg4 arg5 arg6 arg8 arg10 arg11 v0 hw)
  Prog.lift (.waitDma2 (frameSem0 arg12) arg1 arg9 harg1.wordExact harg9.wordExact)
  Prog.lift (.enqueueDma arg9 (.here (frameAt v0 hw arg5)) (.dma (frameSem1 arg12)) harg9.wordExact (View.wordExact_bits rfl) ⟨Or.inl rfl, trivial⟩)
  poolLoop arg0 harg0 arg1 harg1 arg2 harg2 arg3 harg3 arg4 harg4 arg5 harg5 arg6 harg6 arg7 harg7 arg8 harg8 arg9 harg9 arg10 arg11 arg12 v0 hw
  midProg (ring arg2 arg3 arg4 arg5 arg6 arg8 arg10 arg11 v0 hw)
  endProg (ring arg2 arg3 arg4 arg5 arg6 arg8 arg10 arg11 v0 hw)
  Prog.lift (.waitDma2 (frameSem1 arg12) arg9 (frameAt v0 hw arg5) harg9.wordExact (View.wordExact_bits rfl))

/-- The same, the loop and what follows it in brackets. -/
def streamProg' (arg0 : Memref sig .tc .smem S2 .i32) (harg0 : arg0.IsWhole) (arg1 : Memref sig .tc .hbm S2x64x128x128 .f32) (harg1 : arg1.IsWhole) (arg2 : Memref sig .tc .hbm S2x64x128x128 .f32) (harg2 : arg2.IsWhole) (arg3 : Memref sig .tc .hbm S32x64x128x128 .f32) (harg3 : arg3.IsWhole) (arg4 : Memref sig .tc .hbm S32x64x128x128 .f32) (harg4 : arg4.IsWhole) (arg5 : Memref sig .tc .hbm S32x64x128x128 .f32) (harg5 : arg5.IsWhole) (arg6 : Memref sig .tc .hbm S32x64x128x128 .f32) (harg6 : arg6.IsWhole) (arg7 : Memref sig .tc .vmem S128x32x32 .f32) (harg7 : arg7.IsWhole) (arg8 : Memref sig .tc .vmem S6x64x128x128 .f32) (harg8 : arg8.IsWhole) (arg9 : Memref sig .tc .vmem S2x64x128x128 .f32) (harg9 : arg9.IsWhole) (arg10 : DmaSems sig S6) (arg11 : DmaSems sig S6) (arg12 : DmaSems sig S2) :
    Prog (TpuEff nD τ sig (Elt F) Λ₀ .tc) PUnit := do
  let v0 : Elt F .i32 ← smemLoad arg0 (Rect.unit (s := S2) ![0] S1.size inb_S2_S1_0) numel1_S1 rfl
  have hw : k0_chk1 v0 := (← Prog.lift (TpuEff.assume (k0_chk1 v0) (k0_chk1.dec v0))).down
  Prog.lift (.enqueueDma arg1 (.here arg9) (.dma (frameSem0 arg12)) harg1.wordExact harg9.wordExact ⟨Or.inl rfl, trivial⟩)
  startProg (ring arg2 arg3 arg4 arg5 arg6 arg8 arg10 arg11 v0 hw)
  Prog.lift (.waitDma2 (frameSem0 arg12) arg1 arg9 harg1.wordExact harg9.wordExact)
  Prog.lift (.enqueueDma arg9 (.here (frameAt v0 hw arg5)) (.dma (frameSem1 arg12)) harg9.wordExact (View.wordExact_bits rfl) ⟨Or.inl rfl, trivial⟩)
  let ⟨v0, hw⟩ : Σ' (v0 : Elt F .i32), k0_chk1 v0 ← (do
    (do
      poolLoop arg0 harg0 arg1 harg1 arg2 harg2 arg3 harg3 arg4 harg4 arg5 harg5 arg6 harg6 arg7 harg7 arg8 harg8 arg9 harg9 arg10 arg11 arg12 v0 hw
      pure ⟨⟩)
    midProg (ring arg2 arg3 arg4 arg5 arg6 arg8 arg10 arg11 v0 hw)
    pure ⟨v0, hw⟩)
  endProg (ring arg2 arg3 arg4 arg5 arg6 arg8 arg10 arg11 v0 hw)
  Prog.lift (.waitDma2 (frameSem1 arg12) arg9 (frameAt v0 hw arg5) harg9.wordExact (View.wordExact_bits rfl))

theorem streamProg_bracketed : streamProg' (F := F) = streamProg (F := F) := by
  unfold streamProg streamProg'
  simp only [bind_assoc, pure_bind]

set_option maxRecDepth 100000 in
/-- The printed body is the ring. -/
theorem stream_eq_bracketed : cc0__stream_body (F := F) = streamProg' (F := F) := by
  sl_kernel_rfl

theorem stream_eq : cc0__stream_body (F := F) = streamProg (F := F) :=
  stream_eq_bracketed.trans streamProg_bracketed

end Cert.KernelIdeal.Hand

end
-- ==== Proof.StreamGeom.lean ====
/-
  The streaming kernel's buffers as rows: which row of which feature array each chunk is, and the buffers taken apart into
  the chunks to be moved and put together from the chunks moved.
-/
module

public import proofs.«01_k».proof.Proof.Rows
public import proofs.«01_k».proof.Proof.StreamProg

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Slots.Ring (holds some holds_intro holds_elim holds_some)

/-- The row chunk `k` of a feature array is: the halves of the fifteen frames other than frame `v`, in order, then the
    halves of frame `v`. -/
def frameRow (v k : ℕ) : ℕ := if k < 30 then (k / 2 + if v ≤ k / 2 then 1 else 0) * 2 + k % 2 else 2 * v + k % 2

theorem order_frameRow_fin : ∀ v : Fin 16, (∀ n, n < 32 → ∃ k, k < 32 ∧ frameRow v k % 32 = n)
    ∧ ∀ k, k < 32 → ∀ k', k' < 32 → frameRow v k % 32 = frameRow v k' % 32 → k = k' := by decide +kernel

theorem order_frameRow (v : ℕ) (hv : v < 16) : Order 32 (frameRow v) where
  all := (order_frameRow_fin ⟨v, hv⟩).1
  inj k k' h h' := (order_frameRow_fin ⟨v, hv⟩).2 k h k' h'

theorem order_self (N : ℕ) : Order N (fun k => k) where
  all n h := ⟨n, h, Nat.mod_eq_of_lt h⟩
  inj k k' h h' e := by rwa [Nat.mod_eq_of_lt h, Nat.mod_eq_of_lt h'] at e

theorem frameRow_out (v k : ℕ) (hv : v < 16) (hk : k < 30) : frameRow v k % 32 < 2 * v ∨ 2 * v + 2 ≤ frameRow v k % 32 := by
  unfold frameRow
  rw [if_pos hk]
  split <;> omega

theorem frameRow_new (v h : ℕ) (hv : v < 16) (hh : h < 2) : frameRow v (h + 30) = 2 * v + h := by
  unfold frameRow
  rw [if_neg (by omega)]; omega

/-! ### The program's chunks are rows -/

theorem off1_eq_fin : ∀ (v : Fin 16) (j : Fin 30),
    k0_off1 (BitVec.ofNat 32 v.val) (k0_off1_at j).1 (k0_off1_at j).2.1 (k0_off1_at j).2.2 = ![frameRow v j % 32, 0, 0, 0] := by
  decide +kernel

theorem off5_eq_fin : ∀ (v : Fin 16) (h : Fin 2),
    k0_off5 (BitVec.ofNat 32 v.val) (BitVec.ofNat 32 h.val) = ![(2 * v.val + h.val) % 32, 0, 0, 0] := by
  decide +kernel

theorem off2_eq_fin : ∀ v : Fin 16, k0_off2 (BitVec.ofNat 32 v.val) = ![2 * v.val, 0, 0, 0] := by
  decide +kernel

abbrev sq : (S4 1).Squeezes S3 := squeezes_S1x64x128x128_S64x128x128

variable {sp : Space} {N : ℕ} [NeZero N]

theorem row_of_off (m : Memref sig .tc sp (S4 N) .f32) (off : Fin 4 → ℕ) (inb : ∀ a, off a + (S4 1).size a ≤ (S4 N).size a) (n : ℕ)
    (h : off = ![n % N, 0, 0, 0]) :
    (m.slice (Rect.unit (s := S4 N) off (S4 1).size inb) (fun _ => rfl)).squeeze S3 sq = row sq m n := by
  subst h; rfl

variable (v0 : BitVec 32) (hw : k0_chk1 v0) (hv : v0.toNat < 16)

theorem ofNat_toNat' : BitVec.ofNat 32 v0.toNat = v0 := BitVec.ofNat_toNat 32 v0 |>.trans (BitVec.setWidth_eq v0)

include hv in
theorem slab_eq (m : Memref sig .tc .hbm S32x64x128x128 .f32) (j : Fin 30) : slab v0 hw m j = row sq m (frameRow v0.toNat j) :=
  row_of_off m _ _ _ (by
    have := off1_eq_fin ⟨v0.toNat, hv⟩ j
    rwa [ofNat_toNat'] at this)

include hv in
theorem slabNew_eq (m : Memref sig .tc .hbm S32x64x128x128 .f32) (h : Fin 2) : slabNew v0 hw m h = row sq m (2 * v0.toNat + h) :=
  row_of_off m _ _ _ (by
    have := off5_eq_fin ⟨v0.toNat, hv⟩ h
    rwa [ofNat_toNat'] at this)

include hv in
theorem off2_eq : k0_off2 v0 = ![2 * v0.toNat, 0, 0, 0] := by
  have := off2_eq_fin ⟨v0.toNat, hv⟩
  rwa [ofNat_toNat'] at this

section Chunks

variable (arg2 : Memref sig .tc .hbm S2x64x128x128 .f32) (arg3 arg4 arg5 arg6 : Memref sig .tc .hbm S32x64x128x128 .f32)

include hv

theorem src_lo (k : ℕ) (h : k < 30) : chunkSrc arg2 arg3 arg4 v0 hw k = row sq arg3 (frameRow v0.toNat k) := by
  unfold chunkSrc; rw [dif_pos h, slab_eq v0 hw hv]
theorem src_mid (k : ℕ) (h : k < 30) : chunkSrc arg2 arg3 arg4 v0 hw (k + 30) = row sq arg4 (frameRow v0.toNat k) := by
  unfold chunkSrc; rw [dif_neg (by omega), dif_pos (by omega), slab_eq v0 hw hv]; simp only [Nat.add_sub_cancel]
omit hv in
theorem src_hi (k : ℕ) : chunkSrc arg2 arg3 arg4 v0 hw (k + 60) = row sq arg2 k := by
  unfold chunkSrc; rw [dif_neg (by omega), dif_neg (by omega)]
  exact row_of_off arg2 _ _ _ (by rw [show (k + 60) % 2 = k % 2 by omega])
theorem dst_lo (k : ℕ) (h : k < 30) : chunkDst arg5 arg6 v0 hw k = row sq arg5 (frameRow v0.toNat k) := by
  unfold chunkDst; rw [dif_pos h, slab_eq v0 hw hv]
theorem dst_mid (k : ℕ) (h : k < 30) : chunkDst arg5 arg6 v0 hw (k + 30) = row sq arg6 (frameRow v0.toNat k) := by
  unfold chunkDst; rw [dif_neg (by omega), dif_pos (by omega), slab_eq v0 hw hv]; simp only [Nat.add_sub_cancel]
theorem dst_hi (k : ℕ) (h : k < 2) : chunkDst arg5 arg6 v0 hw (k + 60) = row sq arg6 (frameRow v0.toNat (k + 30)) := by
  unfold chunkDst; rw [dif_neg (by omega), dif_neg (by omega), slabNew_eq v0 hw hv, frameRow_new _ _ hv h]
  show row sq arg6 (2 * v0.toNat + (k + 60) % 2) = _
  rw [show (k + 60) % 2 = k by omega]

end Chunks

variable {Val : EltTy → Type}

/-- What each chunk carries. -/
def carried (v : ℕ) (x2 : (S4 2).Idx → Val .f32) (x3 x4 : (S4 32).Idx → Val .f32) (k : ℕ) : S3.Idx → Val .f32 :=
  if k < 30 then rowOf sq x3 (frameRow v k) else if k < 60 then rowOf sq x4 (frameRow v (k - 30)) else rowOf sq x2 (k - 60)

section

variable (v : ℕ) (x2 : (S4 2).Idx → Val .f32) (x3 x4 : (S4 32).Idx → Val .f32)

theorem carried_lo (k : ℕ) (h : k < 30) : carried v x2 x3 x4 k = rowOf sq x3 (frameRow v k) := if_pos h
theorem carried_mid (k : ℕ) (h : k < 30) : carried v x2 x3 x4 (k + 30) = rowOf sq x4 (frameRow v k) := by
  unfold carried; rw [if_neg (by omega), if_pos (by omega), Nat.add_sub_cancel]
theorem carried_hi (k : ℕ) : carried v x2 x3 x4 (k + 60) = rowOf sq x2 k := by
  unfold carried; rw [if_neg (by omega), if_neg (by omega), Nat.add_sub_cancel]

end

variable {U : Type} [URA U]
variable (c : Dev nD)

local notation "𝕄" => MT nD τ sig Unit Val ℕ U ℕ

/-- An array held at any contents is its rows held at any. -/
theorem some_rows (m : Memref sig .tc sp (S4 N) .f32) {ρ : ℕ → ℕ} (hρ : Order N ρ) :
    (some c m : sProp 𝕄) ⊢ upto (fun k => some c (row sq m (ρ k))) N 0 := by
  unfold Cert.Slots.Ring.some
  iintro ⟨%f, H⟩
  have h1 := (pointsTo_rows (U := U) sq m c hρ f).1.trans (upto_mono (P' := fun k => some c (row sq m (ρ k))) N 0 fun k _ _ =>
    (holds_intro c (row sq m (ρ k)) f rfl).trans (holds_some c _ _))
  unfold Cert.Slots.Ring.some at h1
  iapply h1 $$ H

/-- Rows held at any contents make the array held at some. -/
theorem rows_some (m : Memref sig .tc sp (S4 N) .f32) {ρ : ℕ → ℕ} (hρ : Order N ρ) (g : Buf Val (m.view.loc (c : Thread nD τ))) :
    upto (fun k => some c (row sq m (ρ k))) N 0 ⊢ (some c m : sProp 𝕄) := by
  unfold Cert.Slots.Ring.some
  exact join_upto _ g N 0 _ (rows_cover sq m c hρ) (fun k _ _ => row_subset sq m _)
    (fun k k' _ hk _ hk' hne => rows_disjoint sq m hρ k k' (by omega) (by omega) hne)

/-- Any contents, from a member held at any contents. -/
theorem some_contents {s : Shape} (m : Memref sig .tc sp s .f32) (P : sProp 𝕄)
    (h : Buf Val (m.view.loc (c : Thread nD τ)) → (some c m ⊢ P)) : (some c m ⊢ P) := by
  have : (some c m : sProp 𝕄) ⊢ iprop(∃ f : Buf Val (m.view.loc (c : Thread nD τ)), some c m) := by
    unfold Cert.Slots.Ring.some
    iintro ⟨%f, H⟩
    iexists f; iexists f; iexact H
  refine this.trans ?_
  iintro ⟨%f, H⟩
  iapply (h f) $$ H

theorem frame_row_some (hv' : v0.toNat < 16) (m : Memref sig .tc .hbm S32x64x128x128 .f32) (h : ℕ) (hh : h < 2) :
    (some c (row (N := 2) sq (frameAt v0 hw m) h) : sProp 𝕄) = some c (row (N := 32) sq m (2 * v0.toNat + h)) :=
  block_row_some sq (N := 32) (M := 2) m c _ _ (off2_eq v0 hv') _ hh (by omega)

theorem frame_row_holds (hv' : v0.toNat < 16) (m : Memref sig .tc .hbm S32x64x128x128 .f32) (h : ℕ) (hh : h < 2) (x : S3.Idx → Val .f32) :
    (holds c (row (N := 2) sq (frameAt v0 hw m) h) x : sProp 𝕄) = holds c (row (N := 32) sq m (2 * v0.toNat + h)) x :=
  block_row_holds sq (N := 32) (M := 2) m c _ _ (off2_eq v0 hv') _ hh (by omega) x

/-! ### Taking apart and putting together -/

section Whole

variable (arg2 : Memref sig .tc .hbm S2x64x128x128 .f32) (arg3 arg4 arg5 arg6 : Memref sig .tc .hbm S32x64x128x128 .f32)
  (arg8 : Memref sig .tc .vmem S6x64x128x128 .f32) (arg10 arg11 : DmaSems sig S6)
  (x1 x2 : (S4 2).Idx → Val .f32) (x3 x4 : (S4 32).Idx → Val .f32)

/-- What of the sources the kernel does not touch: frame `v0`'s rows of the two old arrays. -/
def untouched : sProp 𝕄 :=
  iprop(upto (fun k => holds c (row (N := 32) sq arg3 (frameRow v0.toNat k)) (rowOf sq x3 (frameRow v0.toNat k))) 2 30
    ∗ upto (fun k => holds c (row (N := 32) sq arg4 (frameRow v0.toNat k)) (rowOf sq x4 (frameRow v0.toNat k))) 2 30)

local notation "𝓡" => ring arg2 arg3 arg4 arg5 arg6 arg8 arg10 arg11 v0 hw
local notation "𝓦" => carried v0.toNat x2 x3 x4

include hv

/-- Each chunk's source, target and contents: of the first array, -/
theorem idle_lo (k : ℕ) (h : k < 30) : (Ring.idle 𝓡 c 𝓦 k : sProp 𝕄)
    = iprop(holds c (row (N := 32) sq arg3 (frameRow v0.toNat k)) (rowOf sq x3 (frameRow v0.toNat k)) ∗ some c (row (N := 32) sq arg5 (frameRow v0.toNat k))) := by
  unfold Ring.idle
  rw [show (𝓡).src k = _ from src_lo v0 hw hv arg2 arg3 arg4 k h, show (𝓡).dst k = _ from dst_lo v0 hw hv arg5 arg6 k h, carried_lo _ _ _ _ k h]
/-- of the second, -/
theorem idle_mid (k : ℕ) (h : k < 30) : (Ring.idle 𝓡 c 𝓦 (k + 30) : sProp 𝕄)
    = iprop(holds c (row (N := 32) sq arg4 (frameRow v0.toNat k)) (rowOf sq x4 (frameRow v0.toNat k)) ∗ some c (row (N := 32) sq arg6 (frameRow v0.toNat k))) := by
  unfold Ring.idle
  rw [show (𝓡).src (k + 30) = _ from src_mid v0 hw hv arg2 arg3 arg4 k h, show (𝓡).dst (k + 30) = _ from dst_mid v0 hw hv arg5 arg6 k h, carried_mid _ _ _ _ k h]
/-- and of the new map. -/
theorem idle_hi (k : ℕ) (h : k < 2) : (Ring.idle 𝓡 c 𝓦 (k + 60) : sProp 𝕄)
    = iprop(holds c (row (N := 2) sq arg2 k) (rowOf sq x2 k) ∗ some c (row (N := 32) sq arg6 (frameRow v0.toNat (k + 30)))) := by
  unfold Ring.idle
  rw [show (𝓡).src (k + 60) = _ from src_hi v0 hw arg2 arg3 arg4 k, show (𝓡).dst (k + 60) = _ from dst_hi v0 hw hv arg5 arg6 k h, carried_hi]
/-- The same when moved. -/
theorem done_lo (k : ℕ) (h : k < 30) : (Ring.done 𝓡 c 𝓦 k : sProp 𝕄)
    = iprop(holds c (row (N := 32) sq arg3 (frameRow v0.toNat k)) (rowOf sq x3 (frameRow v0.toNat k))
        ∗ holds c (row (N := 32) sq arg5 (frameRow v0.toNat k)) (rowOf sq x3 (frameRow v0.toNat k))) := by
  unfold Ring.done
  rw [show (𝓡).src k = _ from src_lo v0 hw hv arg2 arg3 arg4 k h, show (𝓡).dst k = _ from dst_lo v0 hw hv arg5 arg6 k h, carried_lo _ _ _ _ k h]
theorem done_mid (k : ℕ) (h : k < 30) : (Ring.done 𝓡 c 𝓦 (k + 30) : sProp 𝕄)
    = iprop(holds c (row (N := 32) sq arg4 (frameRow v0.toNat k)) (rowOf sq x4 (frameRow v0.toNat k))
        ∗ holds c (row (N := 32) sq arg6 (frameRow v0.toNat k)) (rowOf sq x4 (frameRow v0.toNat k))) := by
  unfold Ring.done
  rw [show (𝓡).src (k + 30) = _ from src_mid v0 hw hv arg2 arg3 arg4 k h, show (𝓡).dst (k + 30) = _ from dst_mid v0 hw hv arg5 arg6 k h, carried_mid _ _ _ _ k h]
theorem done_hi (k : ℕ) (h : k < 2) : (Ring.done 𝓡 c 𝓦 (k + 60) : sProp 𝕄)
    = iprop(holds c (row (N := 2) sq arg2 k) (rowOf sq x2 k) ∗ holds c (row (N := 32) sq arg6 (frameRow v0.toNat (k + 30))) (rowOf sq x2 k)) := by
  unfold Ring.done
  rw [show (𝓡).src (k + 60) = _ from src_hi v0 hw arg2 arg3 arg4 k, show (𝓡).dst (k + 60) = _ from dst_hi v0 hw hv arg5 arg6 k h, carried_hi]

/-- The buffers taken apart into the sixty-two chunks to be moved, the rows not touched, and the new frame's place. -/
theorem apart :
    iprop(holds c arg2 x2 ∗ holds c arg3 x3 ∗ holds c arg4 x4 ∗ some c arg5 ∗ some c arg6)
      ⊢ (iprop(upto (Ring.idle 𝓡 c 𝓦) 62 0 ∗ untouched v0 c arg3 arg4 x3 x4 ∗ some c (frameAt v0 hw arg5)) : sProp 𝕄) := by
  have hρ := order_frameRow v0.toNat hv
  have h2 := holds_rows (τ := τ) (U := U) sq arg2 c (order_self 2) x2
  have h3 := (holds_rows (τ := τ) (U := U) sq arg3 c hρ x3).trans (upto_add _ 30 2 0)
  have h4 := (holds_rows (τ := τ) (U := U) sq arg4 c hρ x4).trans (upto_add _ 30 2 0)
  have h5 := (some_rows (U := U) (Val := Val) c arg5 hρ).trans (upto_add _ 30 2 0)
  have h6 := (some_rows (U := U) (Val := Val) c arg6 hρ).trans (upto_add _ 30 2 0)
  have i1 := (upto_zip (M := 𝕄) _ _ 30 0).trans (upto_mono (P' := Ring.idle 𝓡 c 𝓦) 30 0 fun k _ hk =>
    Entails.of_eq (idle_lo v0 hw hv c arg2 arg3 arg4 arg5 arg6 arg8 arg10 arg11 x2 x3 x4 k (by omega)).symm)
  have i2 := (upto_zip (M := 𝕄) _ _ 30 0).trans ((upto_mono (P' := fun k => Ring.idle 𝓡 c 𝓦 (k + 30)) 30 0 fun k _ hk =>
    Entails.of_eq (idle_mid v0 hw hv c arg2 arg3 arg4 arg5 arg6 arg8 arg10 arg11 x2 x3 x4 k (by omega)).symm).trans
      (Entails.of_eq (upto_shift (Ring.idle 𝓡 c 𝓦) 30 30 0).symm))
  have i3 := (upto_zip (M := 𝕄) _ _ 2 0).trans ((upto_mono (P' := fun k => Ring.idle 𝓡 c 𝓦 (k + 60)) 2 0 fun k _ hk =>
    Entails.of_eq (idle_hi v0 hw hv c arg2 arg3 arg4 arg5 arg6 arg8 arg10 arg11 x2 x3 x4 k (by omega)).symm).trans
      (Entails.of_eq (upto_shift (Ring.idle 𝓡 c 𝓦) 60 2 0).symm))
  have h6' := Entails.of_eq (upto_shift (M := 𝕄) (fun k => some c (row (N := 32) sq arg6 (frameRow v0.toNat k))) 30 2 0)
  have h5' : ∀ g, upto (fun k => some c (row (N := 32) sq arg5 (frameRow v0.toNat k))) 2 (0 + 30) ⊢ (some c (frameAt v0 hw arg5) : sProp 𝕄) := fun g =>
    ((Entails.of_eq (upto_shift (M := 𝕄) (fun k => some c (row (N := 32) sq arg5 (frameRow v0.toNat k))) 30 2 0)).trans
      (upto_mono (P' := fun k => some c (row (N := 2) sq (frameAt v0 hw arg5) k)) 2 0 fun k _ hk =>
        Entails.of_eq (by rw [frameRow_new _ _ hv (by omega), frame_row_some v0 hw c hv arg5 k (by omega)]))).trans
      (rows_some (N := 2) c (frameAt v0 hw arg5) (order_self 2) g)
  have hsplit : (some c arg5 : sProp 𝕄) ⊢ iprop(∃ g : Buf Val (arg5.view.loc (c : Thread nD τ)), some c arg5) := by
    unfold Cert.Slots.Ring.some
    iintro ⟨%f, H⟩
    iexists f; iexists f; iexact H
  iintro ⟨H2, H3, H4, H5, H6⟩
  ihave H5 := hsplit $$ H5
  icases H5 with ⟨%g, H5⟩
  ihave H2 := h2 $$ H2
  ihave H3 := h3 $$ H3
  ihave H4 := h4 $$ H4
  ihave H5 := h5 $$ H5
  ihave H6 := h6 $$ H6
  icases H3 with ⟨H3, H3'⟩
  icases H4 with ⟨H4, H4'⟩
  icases H5 with ⟨H5, H5'⟩
  icases H6 with ⟨H6, H6'⟩
  ihave H6' := h6' $$ H6'
  isplitl [H2 H3 H4 H5 H6 H6']
  · iapply (upto_join (Ring.idle 𝓡 c 𝓦) 30 32 0)
    isplitl [H3 H5]
    · iapply i1
      isplitl [H3] <;> iassumption
    iapply (upto_join (Ring.idle 𝓡 c 𝓦) 30 2 (0 + 30))
    isplitl [H4 H6]
    · iapply i2
      isplitl [H4] <;> iassumption
    · iapply i3
      isplitl [H2] <;> iassumption
  isplitl [H3' H4']
  · unfold untouched
    isplitl [H3'] <;> iassumption
  · iapply (h5' g) $$ H5'

/-- The chunks moved, the rows not touched and the new frame in its place, put together: the sources as they were, and the
    two targets the old arrays with frame `v0` replaced. -/
theorem together :
    iprop(upto (Ring.done 𝓡 c 𝓦) 62 0 ∗ untouched v0 c arg3 arg4 x3 x4 ∗ holds c (frameAt v0 hw arg5) x1)
      ⊢ (iprop(holds c arg2 x2 ∗ holds c arg3 x3 ∗ holds c arg4 x4 ∗ holds c arg5 (splice (2 * v0.toNat) x3 x1)
          ∗ holds c arg6 (splice (2 * v0.toNat) x4 x2)) : sProp 𝕄) := by
  have hρ := order_frameRow v0.toNat hv
  have out : ∀ (x : (S4 32).Idx → Val .f32) (y : (S4 2).Idx → Val .f32) k, k < 30 →
      rowOf sq (splice (2 * v0.toNat) x y) (frameRow v0.toNat k) = rowOf sq x (frameRow v0.toNat k) := fun x y k hk =>
    rowOf_splice_of_out sq _ _ _ _ (frameRow_out _ _ hv hk)
  have ins : ∀ (x : (S4 32).Idx → Val .f32) (y : (S4 2).Idx → Val .f32) k, k < 2 →
      rowOf sq (splice (2 * v0.toNat) x y) (frameRow v0.toNat (k + 30)) = rowOf sq y k := fun x y k hk =>
    rowOf_splice_of_in sq _ _ _ _ _ hk (by rw [frameRow_new _ _ hv hk, Nat.mod_eq_of_lt (by omega)])
  have h2 := rows_holds (τ := τ) (U := U) sq arg2 c (order_self 2) x2
  have h3 := (upto_join _ 30 2 0).trans (rows_holds (τ := τ) (U := U) sq arg3 c hρ x3)
  have h4 := (upto_join _ 30 2 0).trans (rows_holds (τ := τ) (U := U) sq arg4 c hρ x4)
  have h5 := (upto_join _ 30 2 0).trans (rows_holds (τ := τ) (U := U) sq arg5 c hρ (splice (2 * v0.toNat) x3 x1))
  have h6 := (upto_join _ 30 2 0).trans (rows_holds (τ := τ) (U := U) sq arg6 c hρ (splice (2 * v0.toNat) x4 x2))
  have i1 := (upto_mono (M := 𝕄) (P := Ring.done 𝓡 c 𝓦)
      (P' := fun k => iprop(holds c (row (N := 32) sq arg3 (frameRow v0.toNat k)) (rowOf sq x3 (frameRow v0.toNat k))
        ∗ holds c (row (N := 32) sq arg5 (frameRow v0.toNat k)) (rowOf sq (splice (2 * v0.toNat) x3 x1) (frameRow v0.toNat k)))) 30 0 fun k _ hk =>
    Entails.of_eq ((done_lo v0 hw hv c arg2 arg3 arg4 arg5 arg6 arg8 arg10 arg11 x2 x3 x4 k (by omega)).trans
      (by rw [out x3 x1 k (by omega)]))).trans (upto_sep (M := 𝕄) _ _ 30 0)
  have i2 := ((Entails.of_eq (upto_shift (M := 𝕄) (Ring.done 𝓡 c 𝓦) 30 30 0)).trans (upto_mono (M := 𝕄)
      (P' := fun k => iprop(holds c (row (N := 32) sq arg4 (frameRow v0.toNat k)) (rowOf sq x4 (frameRow v0.toNat k))
        ∗ holds c (row (N := 32) sq arg6 (frameRow v0.toNat k)) (rowOf sq (splice (2 * v0.toNat) x4 x2) (frameRow v0.toNat k)))) 30 0 fun k _ hk =>
    Entails.of_eq ((done_mid v0 hw hv c arg2 arg3 arg4 arg5 arg6 arg8 arg10 arg11 x2 x3 x4 k (by omega)).trans
      (by rw [out x4 x2 k (by omega)])))).trans (upto_sep (M := 𝕄) _ _ 30 0)
  have i3 := ((Entails.of_eq (upto_shift (M := 𝕄) (Ring.done 𝓡 c 𝓦) 60 2 0)).trans (upto_mono (M := 𝕄)
      (P' := fun k => iprop(holds c (row (N := 2) sq arg2 k) (rowOf sq x2 k)
        ∗ holds c (row (N := 32) sq arg6 (frameRow v0.toNat (k + 30))) (rowOf sq (splice (2 * v0.toNat) x4 x2) (frameRow v0.toNat (k + 30))))) 2 0 fun k _ hk =>
    Entails.of_eq ((done_hi v0 hw hv c arg2 arg3 arg4 arg5 arg6 arg8 arg10 arg11 x2 x3 x4 k (by omega)).trans
      (by rw [ins x4 x2 k (by omega)])))).trans (upto_sep (M := 𝕄) _ _ 2 0)
  have hf := ((holds_rows (τ := τ) (U := U) (N := 2) sq (frameAt v0 hw arg5) c (order_self 2) x1).trans (upto_mono (M := 𝕄)
      (P' := fun k => holds c (row (N := 32) sq arg5 (frameRow v0.toNat (k + 30))) (rowOf sq (splice (2 * v0.toNat) x3 x1) (frameRow v0.toNat (k + 30)))) 2 0 fun k _ hk =>
    Entails.of_eq (by rw [ins x3 x1 k (by omega), frame_row_holds v0 hw c hv arg5 k (by omega), frameRow_new _ _ hv (by omega)]))).trans
      (Entails.of_eq (upto_shift (M := 𝕄) (fun k => holds c (row (N := 32) sq arg5 (frameRow v0.toNat k)) (rowOf sq (splice (2 * v0.toNat) x3 x1) (frameRow v0.toNat k))) 30 2 0).symm)
  have h6' := Entails.of_eq (upto_shift (M := 𝕄) (fun k => holds c (row (N := 32) sq arg6 (frameRow v0.toNat k)) (rowOf sq (splice (2 * v0.toNat) x4 x2) (frameRow v0.toNat k))) 30 2 0).symm
  iintro ⟨HD, HU, HF⟩
  unfold untouched
  icases HU with ⟨HU3, HU4⟩
  ihave HD := (upto_add (Ring.done 𝓡 c 𝓦) 30 32 0) $$ HD
  icases HD with ⟨HD1, HD⟩
  ihave HD := (upto_add (Ring.done 𝓡 c 𝓦) 30 2 (0 + 30)) $$ HD
  icases HD with ⟨HD2, HD3⟩
  ihave HD1 := i1 $$ HD1
  ihave HD2 := i2 $$ HD2
  ihave HD3 := i3 $$ HD3
  icases HD1 with ⟨H3, H5⟩
  icases HD2 with ⟨H4, H6⟩
  icases HD3 with ⟨H2, H6'⟩
  ihave HF := hf $$ HF
  ihave H6' := h6' $$ H6'
  isplitl [H2]
  · iapply h2 $$ H2
  isplitl [H3 HU3]
  · iapply h3
    isplitl [H3] <;> iassumption
  isplitl [H4 HU4]
  · iapply h4
    isplitl [H4] <;> iassumption
  isplitl [H5 HF]
  · iapply h5
    isplitl [H5] <;> iassumption
  · iapply h6
    isplitl [H6] <;> iassumption

end Whole

end Cert.KernelIdeal.Hand

end
-- ==== Proof.Pool.lean ====
/-
  The pooling loop: sixteen trips, each averaging eight channels' 4 × 4 tiles of the new frame.
-/
module

public import proofs.«01_k».proof.Proof.StreamGeom
public import proofs.«01_k».proof.Proof.Gen.KernelIdeal.Loops

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Slots.Ring (holds some holds_intro holds_elim holds_some quiet wp_copy wp_land)

variable {F : FTy → Type} [FloatOps F] [Named F]
variable {U : Type} [URA U]

local notation "𝕄" => MT nD τ sig Unit (Elt F) ℕ U ℕ

theorem trips_eq : k0_t1_loop.trips = 16 := by decide +kernel

/-- Where trip `k` reads, -/
abbrev readRect (k : Fin k0_t1_loop.trips) : Rect S2x64x128x128 := Rect.unit (s := S2x64x128x128) (k0_off3 k) S1x8x128x128.size (k0_off3_inb k)
/-- and where it writes: channels `8 k` to `8 k + 7`. -/
abbrev writeRect (k : Fin k0_t1_loop.trips) : Rect S128x32x32 := Rect.unit (s := S128x32x32) (k0_off4 k) S8x32x32.size (k0_off4_inb k)

theorem off3_eq : ∀ k : Fin k0_t1_loop.trips, k0_off3 k = ![k.val / 8, k.val % 8 * 8, 0, 0] := by decide +kernel
theorem off4_eq : ∀ k : Fin k0_t1_loop.trips, k0_off4 k = ![8 * k.val, 0, 0] := by decide +kernel

/-- The tile trip `k` writes, of the new frame's contents. -/
def poolTile (x : S2x64x128x128.Idx → Elt F .f32) (k : Fin k0_t1_loop.trips) : S8x32x32.Idx → Elt F .f32 :=
  k0_pay1 (fun y => x ((readRect k).emb y))

theorem chan_lt (i : S128x32x32.Idx) : (i 0).val / 8 < k0_t1_loop.trips := by
  have : (i 0).val < 128 := (i 0).isLt
  rw [trips_eq]; omega

/-- The channel `i` within its tile. -/
def inTile (i : S128x32x32.Idx) : S8x32x32.Idx
  | 0 => ⟨(i 0).val % 8, Nat.mod_lt _ (by decide)⟩
  | 1 => i 1
  | 2 => i 2

/-- The pooled frame. -/
def pooled (x : S2x64x128x128.Idx → Elt F .f32) : S128x32x32.Idx → Elt F .f32 := fun i =>
  poolTile x ⟨(i 0).val / 8, chan_lt i⟩ (inTile i)

/-- What a trip writes is the pooled frame there, -/
theorem tile_at (x : S2x64x128x128.Idx → Elt F .f32) (k : Fin k0_t1_loop.trips) (i : S128x32x32.Idx) (h : (i 0).val / 8 = k.val) :
    (writeRect k).emb (inTile i) = i ∧ pooled x i = poolTile x k (inTile i) := by
  constructor
  · funext a
    apply Fin.ext
    refine (ValueKit.rect_emb_unit_val (s := S128x32x32) _ _ _ _ a).trans ((congrArg (· + _) (congrFun (off4_eq k) a)).trans ?_)
    fin_cases a
    · show 8 * k.val + (i 0).val % 8 = (i 0).val
      omega
    · exact Nat.zero_add _
    · exact Nat.zero_add _
  · unfold pooled
    congr 1
    exact Fin.ext h

/-- and it writes nowhere else. -/
theorem tile_off (k : Fin k0_t1_loop.trips) (i : S128x32x32.Idx) (h : (i 0).val / 8 ≠ k.val) (j : S8x32x32.Idx) : (writeRect k).emb j ≠ i := by
  intro e
  have : ((writeRect k).emb j 0).val = (i 0).val := by rw [e]
  have h8 : (j 0).val < 8 := (j 0).isLt
  have : 8 * k.val + (j 0).val = (i 0).val :=
    ((ValueKit.rect_emb_unit_val (s := S128x32x32) _ _ _ j 0).trans (congrArg (· + _) (congrFun (off4_eq k) 0))).symm.trans this
  omega

variable (𝒱 : Variants) (c : Dev nD) (bd : Option 𝒱.V)

section

variable (arg0 : Memref sig .tc .smem S2 .i32) (harg0 : arg0.IsWhole) (arg1 : Memref sig .tc .hbm S2x64x128x128 .f32) (harg1 : arg1.IsWhole) (arg2 : Memref sig .tc .hbm S2x64x128x128 .f32) (harg2 : arg2.IsWhole) (arg3 : Memref sig .tc .hbm S32x64x128x128 .f32) (harg3 : arg3.IsWhole) (arg4 : Memref sig .tc .hbm S32x64x128x128 .f32) (harg4 : arg4.IsWhole) (arg5 : Memref sig .tc .hbm S32x64x128x128 .f32) (harg5 : arg5.IsWhole) (arg6 : Memref sig .tc .hbm S32x64x128x128 .f32) (harg6 : arg6.IsWhole) (arg7 : Memref sig .tc .vmem S128x32x32 .f32) (harg7 : arg7.IsWhole) (arg8 : Memref sig .tc .vmem S6x64x128x128 .f32) (harg8 : arg8.IsWhole) (arg9 : Memref sig .tc .vmem S2x64x128x128 .f32) (harg9 : arg9.IsWhole) (arg10 : DmaSems sig S6) (arg11 : DmaSems sig S6) (arg12 : DmaSems sig S2) (v0 : BitVec 32) (hw : k0_chk1 v0)
  (q : PosShare TreeShare) (x : S2x64x128x128.Idx → Elt F .f32)

/-- The loop's state before trip `k`: the new frame, read only, and the channels below `8 k` pooled. -/
def poolInv (f9 : Buf (Elt F) (arg9.view.loc (c : Thread nD τ))) (k : ℕ) (_ : Unit) : sProp 𝕄 :=
  iprop((arg9.view.loc (c : Thread nD τ) ↦[arg9.view.set]{q} f9)
    ∗ ∃ f : Buf (Elt F) (arg7.view.loc (c : Thread nD τ)), (arg7.view.loc (c : Thread nD τ) ↦[arg7.view.set]{fullShare} f)
      ∗ ⌜∀ i : S128x32x32.Idx, (i 0).val < 8 * k → arg7.view.read (Elt F) f i = pooled x i⌝)

theorem tile_read (k : Fin k0_t1_loop.trips) (f : arg7.view.ty.Contents (Elt F))
    (hf : ∀ i : S128x32x32.Idx, (i 0).val < 8 * k.val → arg7.view.read (Elt F) f i = pooled x i) (i : S128x32x32.Idx) (hi : (i 0).val < 8 * (k.val + 1)) :
    arg7.view.read (Elt F) ((arg7.access (writeRect k)).write (Elt F) f (poolTile x k) Finset.univ) i = pooled x i := by
  by_cases hk : (i 0).val / 8 = k.val
  · obtain ⟨e1, e2⟩ := tile_at x k i hk
    rw [e2, ← congrArg (arg7.view.read (Elt F) _) e1]
    exact View.read_slice_write_emb (v := arg7.view) (writeRect k) f (poolTile x k) (Finset.mem_univ _)
  · refine (View.read_slice_write_of_not_mem (v := arg7.view) (writeRect k) f (poolTile x k) Finset.univ fun hm => ?_).trans (hf i (by omega))
    obtain ⟨j, -, hj⟩ := Finset.mem_map.mp hm
    exact tile_off k i hk j hj

theorem poolInv_step (f9 : Buf (Elt F) (arg9.view.loc (c : Thread nD τ))) (h9 : arg9.view.read (Elt F) f9 = x) (k : Fin k0_t1_loop.trips) (acc : Unit) :
    (poolInv c arg7 arg9 q x f9 k acc : sProp 𝕄)
      ⊢ wp frame (wpE (defs₀ (F := F)) 𝒱 (c : Thread nD τ) bd) Set.univ
          (k0_t1_body (F := F) arg0 harg0 arg1 harg1 arg2 harg2 arg3 harg3 arg4 harg4 arg5 harg5 arg6 harg6 arg7 harg7 arg8 harg8 arg9 harg9 arg10 arg11 arg12 v0 hw k acc)
          (poolInv c arg7 arg9 q x f9 (k + 1)) := by
  unfold poolInv
  iintro ⟨H9, ⟨%f, H7, %hf⟩⟩
  unfold k0_t1_body
  rw [k0_part1_eq_skeleton]
  unfold k0_part1_skel
  dsimp only
  simp only [Prog.bind_lift, bind_assoc, pure_bind]
  iapply (wp_load_rect (m := arg9) (r := readRect k) (S := arg9.view.set) (q := q) (f := f9) 𝒱 (c : Thread nD τ) bd Set.univ (by rw [View.set_slice]; exact View.setOn_subset_set _ _)) $$ H9
  iintro H9
  iapply (wp_load_rect (m := arg7) (r := writeRect k) (S := arg7.view.set) (q := fullShare) (f := f) 𝒱 (c : Thread nD τ) bd Set.univ (by rw [View.set_slice]; exact View.setOn_subset_set _ _)) $$ H7
  iintro H7
  iapply (wp_store (m := arg7) (r := writeRect k) (S := arg7.view.set) (f := f) 𝒱 (c : Thread nD τ) bd Set.univ (by rw [View.setOn_univ, View.set_slice]; exact View.setOn_subset_set _ _)) $$ H7
  iintro H7
  rw [show (Pure.pure PUnit.unit : Prog (TpuEff nD τ sig (Elt F) Λ₀ .tc) PUnit) = .ret ⟨⟩ from rfl, wp_ret]
  dsimp only
  have ew : k0_pay1 ((arg9.access (readRect k)).read (Elt F) f9) = poolTile x k := by
    subst h9
    rfl
  rw [ew]
  imodintro
  isplitl [H9]; · iexact H9
  iexists ((arg7.access (writeRect k)).write (Elt F) f (poolTile x k) Finset.univ)
  isplitl [H7]; · iexact H7
  ipureintro
  exact tile_read arg7 x k f hf

/-- The pooling loop: the new frame read, its pooled frame written. -/
theorem wp_pool (f9 : Buf (Elt F) (arg9.view.loc (c : Thread nD τ))) (h9 : arg9.view.read (Elt F) f9 = x) {α : Type} {Q : α → sProp (MT nD τ sig Unit (Elt F) ℕ U ℕ)}
    {K : PUnit → Prog (TpuEff nD τ sig (Elt F) Λ₀ .tc) α} :
    iprop((arg9.view.loc (c : Thread nD τ) ↦[arg9.view.set]{q} f9) ∗ some c arg7)
      ⊢ (iprop((iprop((arg9.view.loc (c : Thread nD τ) ↦[arg9.view.set]{q} f9) ∗ holds c arg7 (pooled x))
            -∗ wp frame (wpE (defs₀ (F := F)) 𝒱 (c : Thread nD τ) bd) Set.univ (K ⟨⟩) Q)
          -∗ wp frame (wpE (defs₀ (F := F)) 𝒱 (c : Thread nD τ) bd) Set.univ
            (poolLoop (F := F) arg0 harg0 arg1 harg1 arg2 harg2 arg3 harg3 arg4 harg4 arg5 harg5 arg6 harg6 arg7 harg7 arg8 harg8 arg9 harg9 arg10 arg11 arg12 v0 hw >>= K) Q) : sProp 𝕄) := by
  have hl := Scf.wp_for_bind (M := 𝕄) frame (wpE (defs₀ (F := F)) 𝒱 (c : Thread nD τ) bd) Set.univ k0_t1_loop.lb k0_t1_loop.ub k0_t1_loop.st k0_t1_ok ()
    (k0_t1_body (F := F) arg0 harg0 arg1 harg1 arg2 harg2 arg3 harg3 arg4 harg4 arg5 harg5 arg6 harg6 arg7 harg7 arg8 harg8 arg9 harg9 arg10 arg11 arg12 v0 hw)
    (poolInv c arg7 arg9 q x f9)
    (poolInv_step 𝒱 c bd arg0 harg0 arg1 harg1 arg2 harg2 arg3 harg3 arg4 harg4 arg5 harg5 arg6 harg6 arg7 harg7 arg8 harg8 arg9 harg9 arg10 arg11 arg12 v0 hw q x f9 h9)
    (kk := K) (Q := Q)
  unfold Cert.Slots.Ring.some
  iintro ⟨H9, ⟨%f, H7⟩⟩ Hk
  iapply hl $$ [H9 H7]
  · unfold poolInv
    isplitl [H9]; · iexact H9
    iexists f
    isplitl [H7]; · iexact H7
    ipureintro
    intro i hi
    omega
  iintro %acc HI
  unfold poolInv
  icases HI with ⟨H9, ⟨%f', H7, %hf⟩⟩
  iapply Hk
  isplitl [H9]; · iexact H9
  iapply (holds_intro c arg7 f' (funext fun i => hf i (by
    have : (i 0).val < 128 := (i 0).isLt
    have := trips_eq
    show (i 0).val < 8 * k0_t1_loop.trips
    omega))) $$ H7

end

end Cert.KernelIdeal.Hand

end
-- ==== Proof.StreamBody.lean ====
/-
  The streaming kernel's body: from its operands to its results.
-/
module

public import proofs.«01_k».proof.Proof.Pool
public import proofs.«01_k».proof.Proof.Gen.KernelIdeal.Launch

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Slots.Ring (holds some holds_intro holds_elim holds_some quiet wp_copy wp_land)

variable {F : FTy → Type} [FloatOps F] [Named F]
variable {U : Type} [URA U]

local notation "𝕄" => MT nD τ sig Unit (Elt F) ℕ U ℕ

variable (EC : UEmb Counters (MT nD τ sig Unit (Elt F) ℕ U ℕ)) [EC.LandsIn (upEmb : UEmb _ (MT nD τ sig Unit (Elt F) ℕ U ℕ))]
variable {defs : Defs nD τ sig (Elt F) Λ₀} (𝒱 : Variants) (c : Dev nD) (bd : Option 𝒱.V)
variable {α : Type} {Q : α → sProp (MT nD τ sig Unit (Elt F) ℕ U ℕ)} {K : PUnit → Prog (TpuEff nD τ sig (Elt F) Λ₀ .tc) α}

/-! ### The ring, started and run dry -/

section RingProg

variable (R : Ring sig S64x128x128 .f32) (w : ℕ → S64x128x128.Idx → Elt F .f32)

/-- A slot's rest before its first chunk. -/
theorem wp_startProg :
    iprop(upto (R.idle c w) 4 0 ∗ upto (R.free c) 4 0 ∗ quiet c)
      ⊢ (iprop((iprop(R.going EC c w 0 ∗ upto (R.coming EC c w) 3 1 ∗ quiet c) -∗ wp frame (wpE defs 𝒱 (c : Thread nD τ) bd) Set.univ (K ⟨⟩) Q)
          -∗ wp frame (wpE defs 𝒱 (c : Thread nD τ) bd) Set.univ (startProg R >>= K) Q) : sProp 𝕄) := by
  simp only [upto_succ, upto_zero]
  unfold startProg
  simp only [bind_assoc]
  iintro ⟨⟨I0, I1, I2, I3, -⟩, ⟨F0, F1, F2, F3, -⟩, HW⟩ Hk
  iapply (R.wp_startIn EC 𝒱 c bd w 0) $$ [I0 F0]
  · isplitl [I0]; · iexact I0
    iexact F0
  iintro C0
  iapply (R.wp_startIn EC 𝒱 c bd w 1) $$ [I1 F1]
  · isplitl [I1]; · iexact I1
    iexact F1
  iintro C1
  iapply (R.wp_startIn EC 𝒱 c bd w 2) $$ [I2 F2]
  · isplitl [I2]; · iexact I2
    iexact F2
  iintro C2
  iapply (R.wp_startIn EC 𝒱 c bd w 3) $$ [I3 F3]
  · isplitl [I3]; · iexact I3
    iexact F3
  iintro C3
  iapply (R.wp_turn EC 𝒱 c bd w 0) $$ [C0 HW]
  · isplitl [C0] <;> iassumption
  iintro ⟨G0, HW⟩
  iapply Hk
  isplitl [G0]; · iexact G0
  isplitr [HW]; swap; · iexact HW
  isplitl [C1]; · iexact C1
  isplitl [C2]; · iexact C2
  isplitl [C3]; · iexact C3
  iempintro

theorem wp_midProg :
    iprop(R.going EC c w 0 ∗ upto (R.coming EC c w) 3 1 ∗ upto (R.idle c w) 36 4 ∗ upto (R.free c) 2 4 ∗ quiet c)
      ⊢ (iprop((iprop(upto (R.done c w) 34 0 ∗ upto (R.going EC c w) 3 34 ∗ upto (R.coming EC c w) 3 37 ∗ quiet c)
            -∗ wp frame (wpE defs 𝒱 (c : Thread nD τ) bd) Set.univ (K ⟨⟩) Q)
          -∗ wp frame (wpE defs 𝒱 (c : Thread nD τ) bd) Set.univ (midProg R >>= K) Q) : sProp 𝕄) := by
  have ht := R.wp_turns EC (defs := defs) 𝒱 c bd w (Q := Q) (K := K) 34 0
  rw [show upto (R.idle c w) 36 4 = (iprop(R.idle c w 4 ∗ R.idle c w 5 ∗ upto (R.idle c w) 34 6) : sProp 𝕄) from rfl]
  rw [show upto (R.going EC c w) 3 0 = iprop(R.going EC c w 0 ∗ R.going EC c w 1 ∗ R.going EC c w 2 ∗ emp) from rfl,
    show upto (R.coming EC c w) 3 (0 + 3) = iprop(R.coming EC c w 3 ∗ R.coming EC c w 4 ∗ R.coming EC c w 5 ∗ emp) from rfl] at ht
  rw [show upto (R.coming EC c w) 3 1 = iprop(R.coming EC c w 1 ∗ R.coming EC c w 2 ∗ R.coming EC c w 3 ∗ emp) from rfl,
    show (upto (R.free c) 2 4 : sProp 𝕄) = iprop(R.free c 4 ∗ R.free c 5 ∗ emp) from rfl]
  unfold midProg
  simp only [bind_assoc]
  iintro ⟨G0, ⟨C1, C2, C3, -⟩, ⟨I4, I5, Hi⟩, ⟨F4, F5, -⟩, HW⟩ Hk
  iapply (R.wp_startIn EC 𝒱 c bd w 4) $$ [I4 F4]
  · isplitl [I4]; · iexact I4
    iexact F4
  iintro C4
  iapply (R.wp_turn EC 𝒱 c bd w 1) $$ [C1 HW]
  · isplitl [C1] <;> iassumption
  iintro ⟨G1, HW⟩
  iapply (R.wp_startIn EC 𝒱 c bd w 5) $$ [I5 F5]
  · isplitl [I5]; · iexact I5
    iexact F5
  iintro C5
  iapply (R.wp_turn EC 𝒱 c bd w 2) $$ [C2 HW]
  · isplitl [C2] <;> iassumption
  iintro ⟨G2, HW⟩
  iapply ht $$ [G0 G1 G2 C3 C4 C5 Hi HW]
  · isplitl [G0 G1 G2]
    · isplitl [G0]; · iexact G0
      isplitl [G1]; · iexact G1
      isplitl [G2]; · iexact G2
      iempintro
    isplitl [C3 C4 C5]
    · isplitl [C3]; · iexact C3
      isplitl [C4]; · iexact C4
      isplitl [C5]; · iexact C5
      iempintro
    isplitl [Hi] <;> iassumption
  iexact Hk

theorem wp_endProg :
    iprop(upto (R.going EC c w) 3 34 ∗ upto (R.coming EC c w) 3 37 ∗ upto (R.idle c w) 22 40 ∗ quiet c)
      ⊢ (iprop((iprop(upto (R.done c w) 28 34 ∗ upto (R.free c) 6 0 ∗ quiet c)
            -∗ wp frame (wpE defs 𝒱 (c : Thread nD τ) bd) Set.univ (K ⟨⟩) Q)
          -∗ wp frame (wpE defs 𝒱 (c : Thread nD τ) bd) Set.univ (endProg R >>= K) Q) : sProp 𝕄) := by
  unfold endProg
  simp only [bind_assoc]
  iintro H Hk
  iapply (R.wp_turns EC (defs := defs) 𝒱 c bd w 22 34) $$ H
  rw [show upto (R.going EC c w) 3 (34 + 22) = iprop(R.going EC c w 56 ∗ R.going EC c w 57 ∗ R.going EC c w 58 ∗ emp) from rfl,
    show upto (R.coming EC c w) 3 (34 + 22 + 3) = iprop(R.coming EC c w 59 ∗ R.coming EC c w 60 ∗ R.coming EC c w 61 ∗ emp) from rfl]
  iintro ⟨HD, ⟨G56, G57, G58, -⟩, ⟨C59, C60, C61, -⟩, HW⟩
  iapply (R.wp_turn EC 𝒱 c bd w 59) $$ [C59 HW]
  · isplitl [C59] <;> iassumption
  iintro ⟨G59, HW⟩
  iapply (R.wp_turn EC 𝒱 c bd w 60) $$ [C60 HW]
  · isplitl [C60] <;> iassumption
  iintro ⟨G60, HW⟩
  iapply (R.wp_turn EC 𝒱 c bd w 61) $$ [C61 HW]
  · isplitl [C61] <;> iassumption
  iintro ⟨G61, HW⟩
  iapply (R.wp_waitOut EC 𝒱 c bd w 56) $$ [G56 HW]
  · isplitl [G56] <;> iassumption
  iintro ⟨D56, F2, HW⟩
  iapply (R.wp_waitOut EC 𝒱 c bd w 57) $$ [G57 HW]
  · isplitl [G57] <;> iassumption
  iintro ⟨D57, F3, HW⟩
  iapply (R.wp_waitOut EC 𝒱 c bd w 58) $$ [G58 HW]
  · isplitl [G58] <;> iassumption
  iintro ⟨D58, F4, HW⟩
  iapply (R.wp_waitOut EC 𝒱 c bd w 59) $$ [G59 HW]
  · isplitl [G59] <;> iassumption
  iintro ⟨D59, F5, HW⟩
  iapply (R.wp_waitOut EC 𝒱 c bd w 60) $$ [G60 HW]
  · isplitl [G60] <;> iassumption
  iintro ⟨D60, F0, HW⟩
  iapply (R.wp_waitOut EC 𝒱 c bd w 61) $$ [G61 HW]
  · isplitl [G61] <;> iassumption
  iintro ⟨D61, F1, HW⟩
  iapply Hk
  isplitr [HW F0 F1 F2 F3 F4 F5]
  · iapply (upto_join (R.done c w) 22 6 34)
    isplitl [HD]; · iexact HD
    simp only [upto_succ, upto_zero]
    isplitl [D56]; · iexact D56
    isplitl [D57]; · iexact D57
    isplitl [D58]; · iexact D58
    isplitl [D59]; · iexact D59
    isplitl [D60]; · iexact D60
    isplitl [D61]; · iexact D61
    iempintro
  isplitr [HW]; swap; · iexact HW
  simp only [upto_succ, upto_zero]
  isplitl [F0]; · iexact F0
  isplitl [F1]; · iexact F1
  isplitl [F2]; · iexact F2
  isplitl [F3]; · iexact F3
  isplitl [F4]; · iexact F4
  isplitl [F5]; · iexact F5
  iempintro

end RingProg

/-! ### The body -/

section Body

variable (arg0 : Memref sig .tc .smem S2 .i32) (harg0 : arg0.IsWhole) (arg1 : Memref sig .tc .hbm S2x64x128x128 .f32) (harg1 : arg1.IsWhole) (arg2 : Memref sig .tc .hbm S2x64x128x128 .f32) (harg2 : arg2.IsWhole) (arg3 : Memref sig .tc .hbm S32x64x128x128 .f32) (harg3 : arg3.IsWhole) (arg4 : Memref sig .tc .hbm S32x64x128x128 .f32) (harg4 : arg4.IsWhole) (arg5 : Memref sig .tc .hbm S32x64x128x128 .f32) (harg5 : arg5.IsWhole) (arg6 : Memref sig .tc .hbm S32x64x128x128 .f32) (harg6 : arg6.IsWhole) (arg7 : Memref sig .tc .vmem S128x32x32 .f32) (harg7 : arg7.IsWhole) (arg8 : Memref sig .tc .vmem S6x64x128x128 .f32) (harg8 : arg8.IsWhole) (arg9 : Memref sig .tc .vmem S2x64x128x128 .f32) (harg9 : arg9.IsWhole) (arg10 : DmaSems sig S6) (arg11 : DmaSems sig S6) (arg12 : DmaSems sig S2)
  (x1 x2 : S2x64x128x128.Idx → Elt F .f32) (x3 x4 : S32x64x128x128.Idx → Elt F .f32)

/-- The kernel's counters, idle. -/
def idleSems : sProp 𝕄 :=
  iprop(upto (fun i => semVal ((c : Thread nD τ), .dma (slotSem arg10 i)) 0) 6 0 ∗ upto (fun i => semVal ((c : Thread nD τ), .dma (slotSem arg11 i)) 0) 6 0
    ∗ semVal ((c : Thread nD τ), .dma (frameSem0 arg12)) 0 ∗ semVal ((c : Thread nD τ), .dma (frameSem1 arg12)) 0)

theorem free_eq (v0 : BitVec 32) (hw : k0_chk1 v0) : ((ring arg2 arg3 arg4 arg5 arg6 arg8 arg10 arg11 v0 hw).free c : ℕ → sProp 𝕄)
    = fun k => iprop(some c (row (N := 6) sq arg8 k)
        ∗ iprop(semVal ((c : Thread nD τ), .dma (slotSem arg10 k)) 0 ∗ semVal ((c : Thread nD τ), .dma (slotSem arg11 k)) 0)) := rfl

/-- The stage and its counters are the ring's free slots. -/
theorem stage_free (v0 : BitVec 32) (hw : k0_chk1 v0) :
    iprop(some c arg8 ∗ upto (fun i => semVal ((c : Thread nD τ), .dma (slotSem arg10 i)) 0) 6 0 ∗ upto (fun i => semVal ((c : Thread nD τ), .dma (slotSem arg11 i)) 0) 6 0)
      ⊢ (upto ((ring arg2 arg3 arg4 arg5 arg6 arg8 arg10 arg11 v0 hw).free c) 6 0 : sProp 𝕄) := by
  have h8 := some_rows (U := U) (Val := Elt F) (N := 6) c arg8 (order_self 6)
  rw [free_eq]
  iintro ⟨H8, Hi, Ho⟩
  ihave H8 := h8 $$ H8
  ihave Hs := (upto_zip (M := 𝕄) _ _ 6 0) $$ [Hi Ho]
  · isplitl [Hi] <;> iassumption
  iapply (upto_zip (M := 𝕄) (fun k => some c (row (N := 6) sq arg8 k)) _ 6 0)
  isplitl [H8] <;> iassumption

/-- And back. -/
theorem free_stage (v0 : BitVec 32) (hw : k0_chk1 v0) (g : Buf (Elt F) (arg8.view.loc (c : Thread nD τ))) :
    (upto ((ring arg2 arg3 arg4 arg5 arg6 arg8 arg10 arg11 v0 hw).free c) 6 0 : sProp 𝕄)
      ⊢ iprop(some c arg8 ∗ upto (fun i => semVal ((c : Thread nD τ), .dma (slotSem arg10 i)) 0) 6 0 ∗ upto (fun i => semVal ((c : Thread nD τ), .dma (slotSem arg11 i)) 0) 6 0) := by
  have h8 := rows_some (U := U) (Val := Elt F) (N := 6) c arg8 (order_self 6) g
  rw [free_eq]
  iintro H
  ihave H := (upto_sep (M := 𝕄) (fun k => some c (row (N := 6) sq arg8 k))
    (fun i => iprop(semVal ((c : Thread nD τ), .dma (slotSem arg10 i)) 0 ∗ semVal ((c : Thread nD τ), .dma (slotSem arg11 i)) 0)) 6 0) $$ H
  icases H with ⟨H8, Hs⟩
  ihave Hs := (upto_sep (M := 𝕄) _ _ 6 0) $$ Hs
  isplitl [H8]
  · iapply h8 $$ H8
  iexact Hs

/-- A copy out of a memref of which only a share is held. -/
theorem wp_copyShare {sp sp' : Space} {s : Shape} {e : EltTy} (m : Memref sig .tc sp s e) (m' : Memref sig .tc sp' s e) (q : PosShare TreeShare)
    (f : Buf (Elt F) (m.view.loc (c : Thread nD τ))) (x : s.Idx → Elt F e) (hf : m.view.read (Elt F) f = x)
    (sem : DmaSem sig) (hm : m.view.WordExact) (hm' : m'.view.WordExact) (hs : s.numel ≠ 0)
    (ht : (DmaTarget.here m' : DmaTarget nD τ sig .tc sp' s e).Typed sp (.dma sem)) :
    iprop((m.view.loc (c : Thread nD τ) ↦[m.view.set]{q} f) ∗ some c m' ∗ semVal ((c : Thread nD τ), .dma sem) 0)
      ⊢ (iprop((Transfers.Flight EC (c : Thread nD τ) (.dma sem) () m'.view.dmaCredit iprop(holds c m' x ∗ (m.view.loc (c : Thread nD τ) ↦[m.view.set]{q} f))
            -∗ wp frame (wpE defs 𝒱 (c : Thread nD τ) bd) Set.univ (K ⟨⟩) Q)
          -∗ wp frame (wpE defs 𝒱 (c : Thread nD τ) bd) Set.univ
              (Prog.lift (.enqueueDma m (.here m') (.dma sem) hm hm' ht) >>= K) Q) : sProp 𝕄) := by
  rw [Prog.bind_lift]
  unfold Cert.Slots.Ring.some
  iintro ⟨Hf, ⟨%f', Hf'⟩, Hv⟩ Hk
  iapply (Transfers.wp_dmaLocal EC 𝒱 (c : Thread nD τ) bd () (m'.view.dmaCredit) (View.amount_dma _ _)
    (Nat.pos_of_ne_zero fun h => hs ((View.amount_eq_zero_iff _ (.dma sem)).mp h)) subset_rfl) $$ [Hf Hf' Hv]
  · isplitl [Hf]; · iexact Hf
    isplitl [Hf'] <;> iassumption
  iintro Hfl
  iapply Hk
  iapply (Transfers.Flight_mono EC (c : Thread nD τ) (BIClass.sep_mono (holds_intro c m' _ ((View.read_write_univ _ _).trans hf)) (Entails.refl _))) $$ Hfl

/-- What the body is given: the table, the four sources at their contents, the two targets, the pooled frame's block and
    the scratch buffers at any, and its counters idle; -/
def bodyGiven (T : Buf (Elt F) (arg0.view.loc (c : Thread nD τ))) : sProp 𝕄 :=
  iprop((arg0.view.loc (c : Thread nD τ) ↦[arg0.view.set]{fullShare} T)
    ∗ iprop(holds c arg1 x1 ∗ holds c arg2 x2 ∗ holds c arg3 x3 ∗ holds c arg4 x4)
    ∗ iprop(some c arg5 ∗ some c arg6 ∗ some c arg7)
    ∗ iprop(some c arg8 ∗ some c arg9 ∗ idleSems c arg10 arg11 arg12) ∗ quiet c)

/-- and what it gives back: the targets the old arrays with frame `v` replaced by the new one, and the new frame pooled. -/
def bodyGives (T : Buf (Elt F) (arg0.view.loc (c : Thread nD τ))) (v : ℕ) : sProp 𝕄 :=
  iprop((arg0.view.loc (c : Thread nD τ) ↦[arg0.view.set]{fullShare} T)
    ∗ iprop(holds c arg1 x1 ∗ holds c arg2 x2 ∗ holds c arg3 x3 ∗ holds c arg4 x4)
    ∗ iprop(holds c arg5 (splice (N := 32) (M := 2) (2 * v) x3 x1) ∗ holds c arg6 (splice (N := 32) (M := 2) (2 * v) x4 x2) ∗ holds c arg7 (pooled x1))
    ∗ iprop(some c arg8 ∗ some c arg9 ∗ idleSems c arg10 arg11 arg12) ∗ quiet c)

include EC in
/-- The body's rule. -/
theorem wp_stream (T : Buf (Elt F) (arg0.view.loc (c : Thread nD τ))) (v0 : BitVec 32)
    (hT : ∀ i, arg0.view.read (Elt F) T ((Rect.unit (s := S2) ![0] S1.size inb_S2_S1_0).emb i) = v0)
    (hw : k0_chk1 v0) (hv : v0.toNat < 16) :
    (bodyGiven c arg0 arg1 arg2 arg3 arg4 arg5 arg6 arg7 arg8 arg9 arg10 arg11 arg12 x1 x2 x3 x4 T : sProp 𝕄)
      ⊢ wp frame (wpE (defs₀ (F := F)) 𝒱 (c : Thread nD τ) bd) Set.univ
          (cc0__stream_body (F := F) arg0 harg0 arg1 harg1 arg2 harg2 arg3 harg3 arg4 harg4 arg5 harg5 arg6 harg6 arg7 harg7 arg8 harg8 arg9 harg9 arg10 arg11 arg12)
          (fun _ => bodyGives c arg0 arg1 arg2 arg3 arg4 arg5 arg6 arg7 arg8 arg9 arg10 arg11 arg12 x1 x2 x3 x4 T v0.toNat) := by
  rw [stream_eq, ← bind_pure (streamProg arg0 harg0 arg1 harg1 arg2 harg2 arg3 harg3 arg4 harg4 arg5 harg5 arg6 harg6 arg7 harg7 arg8 harg8 arg9 harg9 arg10 arg11 arg12)]
  unfold streamProg bodyGiven idleSems
  iintro ⟨H0, ⟨H1, H2, H3, H4⟩, ⟨H5, H6, H7⟩, ⟨H8, H9, ⟨Hi, Ho, Hf0, Hf1⟩⟩, HW⟩
  simp only [bind_assoc]
  unfold smemLoad
  rw [smemLoadElt_bind]
  iapply (wp_smemLoadElt_named 𝒱 (c : Thread nD τ) bd Set.univ (S := arg0.view.set) (q := fullShare) (f := T)
    (by rw [View.set_slice]; exact View.setOn_subset_set _ _)) $$ H0
  iintro H0 %v %hvT
  obtain rfl : v = v0 := hvT.trans (hT _)
  have hrb : ∀ (k : Elt F .i32 → Prog (TpuEff nD τ sig (Elt F) Λ₀ .tc) PUnit), (Prog.ret v >>= k) = k v := fun _ => rfl
  rw [hrb, Prog.bind_lift]
  iapply (wp_assume 𝒱 (c : Thread nD τ) bd Set.univ hw)
  have hap := apart (U := U) (Val := Elt F) v hw hv c arg2 arg3 arg4 arg5 arg6 arg8 arg10 arg11 x2 x3 x4
  ihave HA := hap $$ [H2 H3 H4 H5 H6]
  · isplitl [H2]; · iexact H2
    isplitl [H3]; · iexact H3
    isplitl [H4]; · iexact H4
    isplitl [H5] <;> iassumption
  icases HA with ⟨Hid, HU, HF⟩
  have hst : (some c arg8 : sProp 𝕄) ⊢ iprop(∃ g : Buf (Elt F) (arg8.view.loc (c : Thread nD τ)), some c arg8) := by
    unfold Cert.Slots.Ring.some
    iintro ⟨%f, H⟩
    iexists f; iexists f; iexact H
  ihave H8 := hst $$ H8
  icases H8 with ⟨%g8, H8⟩
  ihave Hfr := (stage_free (U := U) (F := F) c arg2 arg3 arg4 arg5 arg6 arg8 arg10 arg11 v hw) $$ [H8 Hi Ho]
  · isplitl [H8]; · iexact H8
    isplitl [Hi] <;> iassumption
  have htog := together (U := U) (Val := Elt F) v hw hv c arg2 arg3 arg4 arg5 arg6 arg8 arg10 arg11 x1 x2 x3 x4
  have hback := free_stage (U := U) (F := F) c arg2 arg3 arg4 arg5 arg6 arg8 arg10 arg11 v hw g8
  generalize ring arg2 arg3 arg4 arg5 arg6 arg8 arg10 arg11 v hw = R at *
  generalize carried v.toNat x2 x3 x4 = w at *
  -- the new frame comes in
  iapply (wp_copy EC 𝒱 c bd arg1 arg9 x1 (frameSem0 arg12) _ _ (by decide +kernel) _) $$ [H1 H9 Hf0]
  · isplitl [H1]; · iexact H1
    isplitl [H9] <;> iassumption
  iintro Hfl0
  -- the ring starts
  ihave Hid := (upto_add (R.idle c w) 4 58 0) $$ Hid
  icases Hid with ⟨Hid0, Hid⟩
  ihave Hfr := (upto_add (R.free c) 4 2 0) $$ Hfr
  icases Hfr with ⟨Hfr0, Hfr⟩
  iapply (wp_startProg EC 𝒱 c bd R w) $$ [Hid0 Hfr0 HW]
  · isplitl [Hid0]; · iexact Hid0
    isplitl [Hfr0] <;> iassumption
  iintro ⟨Hg0, Hc, HW⟩
  -- the new frame is there, and goes out to its place
  iapply (wp_land EC 𝒱 c bd arg1 arg9 (frameSem0 arg12) _ _ _) $$ [Hfl0 HW]
  · isplitl [Hfl0] <;> iassumption
  iintro ⟨⟨H9, H1⟩, Hf0, HW⟩
  have hex : (holds c arg9 x1 : sProp 𝕄) ⊢ iprop(∃ f : Buf (Elt F) (arg9.view.loc (c : Thread nD τ)), ⌜arg9.view.read (Elt F) f = x1⌝
      ∗ ((arg9.view.loc (c : Thread nD τ) ↦[arg9.view.set]{fullShare.left} f) ∗ (arg9.view.loc (c : Thread nD τ) ↦[arg9.view.set]{fullShare.right} f))) := by
    unfold Cert.Slots.Ring.holds
    iintro ⟨%f, %hf, H⟩
    iexists f
    isplitr; · ipureintro; exact hf
    iapply (pointsTo_share (PosShare.mem_left_op_right fullShare)).1 $$ H
  ihave H9 := hex $$ H9
  icases H9 with ⟨%f9, %hf9, H9l, H9r⟩
  iapply (wp_copyShare EC 𝒱 c bd arg9 (frameAt v hw arg5) fullShare.left f9 x1 hf9 (frameSem1 arg12) _ _ (by decide +kernel) _) $$ [H9l HF Hf1]
  · isplitl [H9l]; · iexact H9l
    isplitl [HF] <;> iassumption
  iintro Hfl1
  -- while the new frame is pooled
  iapply (wp_pool 𝒱 c bd arg0 harg0 arg1 harg1 arg2 harg2 arg3 harg3 arg4 harg4 arg5 harg5 arg6 harg6 arg7 harg7 arg8 harg8 arg9 harg9 arg10 arg11 arg12 v hw
    fullShare.right x1 f9 hf9) $$ [H9r H7]
  · isplitl [H9r] <;> iassumption
  iintro ⟨H9r, H7⟩
  -- the ring turns, and is run dry
  ihave Hid := (upto_add (R.idle c w) 36 22 (0 + 4)) $$ Hid
  icases Hid with ⟨Hid1, Hid2⟩
  iapply (wp_midProg EC 𝒱 c bd R w) $$ [Hg0 Hc Hid1 Hfr HW]
  · isplitl [Hg0]; · iexact Hg0
    isplitl [Hc]; · iexact Hc
    isplitl [Hid1]; · iexact Hid1
    isplitl [Hfr] <;> iassumption
  iintro ⟨HD1, Hg, Hc, HW⟩
  iapply (wp_endProg EC 𝒱 c bd R w) $$ [Hg Hc Hid2 HW]
  · isplitl [Hg]; · iexact Hg
    isplitl [Hc]; · iexact Hc
    isplitl [Hid2] <;> iassumption
  iintro ⟨HD2, Hfr, HW⟩
  iapply (wp_land EC 𝒱 c bd arg9 (frameAt v hw arg5) (frameSem1 arg12) _ _ _) $$ [Hfl1 HW]
  · isplitl [Hfl1] <;> iassumption
  iintro ⟨⟨HF, H9l⟩, Hf1, HW⟩
  rw [show (Pure.pure PUnit.unit : Prog (TpuEff nD τ sig (Elt F) Λ₀ .tc) PUnit) = .ret ⟨⟩ from rfl, wp_ret]
  imodintro
  ihave HD := (upto_join (R.done c w) 34 28 0) $$ [HD1 HD2]
  · isplitl [HD1] <;> iassumption
  ihave HT := htog $$ [HD HU HF]
  · isplitl [HD]; · iexact HD
    isplitl [HU] <;> iassumption
  icases HT with ⟨H2, H3, H4, H5, H6⟩
  ihave HB := hback $$ Hfr
  icases HB with ⟨H8, Hi, Ho⟩
  ihave H9 := (pointsTo_share (PosShare.mem_left_op_right fullShare)).2 $$ [H9l H9r]
  · isplitl [H9l] <;> iassumption
  unfold bodyGives idleSems
  isplitl [H0]; · iexact H0
  isplitl [H1 H2 H3 H4]
  · isplitl [H1]; · iexact H1
    isplitl [H2]; · iexact H2
    isplitl [H3] <;> iassumption
  isplitl [H5 H6 H7]
  · isplitl [H5]; · iexact H5
    isplitl [H6] <;> iassumption
  isplitr [HW]; swap; · iexact HW
  isplitl [H8]; · iexact H8
  isplitl [H9]
  · iapply ((holds_intro c arg9 f9 hf9).trans (holds_some c arg9 x1)) $$ H9
  isplitl [Hi]; · iexact Hi
  isplitl [Ho]; · iexact Ho
  isplitl [Hf0] <;> iassumption

end Body

end Cert.KernelIdeal.Hand

end
-- ==== Proof.Region0.lean ====
/-
  The first kernel as a region of the program: what it is entered with, what it leaves, and its body at its one point.
-/
module

public import proofs.«01_k».proof.Proof.StreamBody
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Regions
public import Idealize.ShloMosaic.Lib.Pipeline.RegionsLoop

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Slots.Ring (holds some holds_intro holds_elim holds_some quiet)

variable {F : FTy → Type} [FloatOps F] [Named F]

/-- The proof's algebra: the pipelines' beside the copies' counters. -/
abbrev UU : Type := Pipeline.UD sig nD τ

local notation "𝕄" => MT nD τ sig Unit (Elt F) ℕ UU ℕ

-- the buffers' contents on entry, and on leaving
variable (V Vp : Dev nD → Valuation τ sig (Elt F))

/-- The table's one staged block is the table. -/
theorem table_block (f : S2.Idx → Elt F .i32) : (win0_0.blk t0_0).view.read (Elt F) f = f := by
  funext i
  exact congrArg f (funext fun a => Fin.ext (by show 0 * _ + 1 * (i a).val = _; simp))

/-- The frame number in the table. -/
def frameNo (c : Dev nD) : BitVec 32 := (V c main_v3 : S2.Idx → Elt F .i32) (show S2.Idx from fun a => ⟨0, by match a with | ⟨0, _⟩ => exact Nat.succ_pos 1⟩)

/-- The counters the kernel declares: six, six and two. -/
abbrev osem0 : Fin 14 → SemLoc sig := fun j => SemLoc.dma ⟨2 + j.val, by have := j.isLt; show 2 + j.val < 38; omega⟩
theorem ownSemFacts0 : Pipeline.OwnSemFacts spec0 osem0 := by decide

/-- The operands the kernel addresses itself. -/
def H0 : Finset (Ref sig .tc) := {main_v6, main_v7, main_v4, main_v5, main_v8_0, main_v8_1}
theorem H0_sub : H0 ⊆ Pipeline.restRefs sig spec0 := by decide

/-- Those operands at contents `W`. -/
def hbm (c : Dev nD) (W : Valuation τ sig (Elt F)) : sProp 𝕄 :=
  bigSep H0 fun b => ((c : Thread nD τ).loc b) ↦{fullShare} W (Proc.devRef .tc b)

/-- What the body holds beside its windows before (`n = 0`) and after it. -/
def Phi0 (c : Dev nD) (n : ℕ) : sProp 𝕄 :=
  iprop(Pipeline.scopedRest spec0 c ∗ Pipeline.ownSems0 osem0 c ∗ hbm c (if n = 0 then V c else Vp c))

/-- The region's proof data: its two arrays on entry, its windows after the body, what it holds beside them. -/
def dat0 (c : Dev nD) : Dat τ (Elt F) Unit ℕ UU ℕ cfg0 c where
  A w := V c (Proc.devRef .tc (Pipeline.arrRef spec0 w))
  after w _ := match w with
    | ⟨0, _⟩ => (V c main_v3 : S2.Idx → Elt F .i32)
    | ⟨1, _⟩ => pooled (F := F) (V c main_v6)
  Φ t := Phi0 V Vp c t.val
  q _ := fullShare
  owed _ := 0

theorem before0 (c : Dev nD) (d : (cfg0.win 0).block.Idx → Elt F (cfg0.win 0).elt) :
    (dat0 V Vp c).before 0 t0_0 d = (V c main_v3 : S2.Idx → Elt F .i32) := by
  unfold Dat.before
  rw [if_pos (fetch0_0 t0_0)]
  exact table_block (F := F) _

theorem sems_eq (c : Dev nD) : (Pipeline.ownSems0 osem0 c : sProp 𝕄) ⊣⊢ idleSems c cc0_scratch2 cc0_scratch3 cc0_scratch4 := by
  rw [Pipeline.ownSems0_eq_of_list c osem0 [0, 1, 2, 3, 4, 5, 6, 7, 8, 9, 10, 11, 12, 13] (by decide) (by decide)]
  unfold idleSems
  have hc : ∀ (i : Fin 14) (l : List (Fin 14)) (Φ : Fin 14 → sProp 𝕄), bigSepL (i :: l) Φ = iprop(Φ i ∗ bigSepL l Φ) := bigSepL_cons
  simp only [upto_succ, upto_zero, hc]
  constructor
  · iintro ⟨H0, H1, H2, H3, H4, H5, H6, H7, H8, H9, H10, H11, H12, H13, -⟩
    isplitl [H0 H1 H2 H3 H4 H5]
    · isplitl [H0]; · iexact H0
      isplitl [H1]; · iexact H1
      isplitl [H2]; · iexact H2
      isplitl [H3]; · iexact H3
      isplitl [H4]; · iexact H4
      isplitl [H5]; · iexact H5
      iempintro
    isplitl [H6 H7 H8 H9 H10 H11]
    · isplitl [H6]; · iexact H6
      isplitl [H7]; · iexact H7
      isplitl [H8]; · iexact H8
      isplitl [H9]; · iexact H9
      isplitl [H10]; · iexact H10
      isplitl [H11]; · iexact H11
      iempintro
    isplitl [H12]; · iexact H12
    iexact H13
  · iintro ⟨⟨H0, H1, H2, H3, H4, H5, -⟩, ⟨H6, H7, H8, H9, H10, H11, -⟩, H12, H13⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iempintro

theorem hbm_eq (c : Dev nD) (W : Valuation τ sig (Elt F)) : (hbm c W : sProp 𝕄)
    = iprop((((c : Thread nD τ).loc main_v6) ↦{fullShare} W main_v6) ∗ (((c : Thread nD τ).loc main_v7) ↦{fullShare} W main_v7)
      ∗ (((c : Thread nD τ).loc main_v4) ↦{fullShare} W main_v4) ∗ (((c : Thread nD τ).loc main_v5) ↦{fullShare} W main_v5)
      ∗ (((c : Thread nD τ).loc main_v8_0) ↦{fullShare} W main_v8_0) ∗ (((c : Thread nD τ).loc main_v8_1) ↦{fullShare} W main_v8_1)) := by
  unfold hbm
  rw [BI.bigSep_eq_bigSepL_of_eq [main_v6, main_v7, main_v4, main_v5, main_v8_0, main_v8_1] (by decide) (by decide)]; rfl

theorem holds_whole (c : Dev nD) (b : Ref sig .tc) (f : b.ty.Contents (Elt F)) :
    (holds c (Memref.whole b) f : sProp 𝕄) = (((c : Thread nD τ).loc b) ↦{fullShare} f) := owns_whole _ _ _ _

theorem some_whole (c : Dev nD) (b : Ref sig .tc) :
    (Cert.Slots.Ring.some c (Memref.whole b) : sProp 𝕄) = iprop(∃ f : Buf (Elt F) ((c : Thread nD τ).loc b), ((c : Thread nD τ).loc b) ↦{fullShare} f) := by
  unfold Cert.Slots.Ring.some
  have h : ∀ f : Buf (Elt F) ((c : Thread nD τ).loc b), (((Memref.whole b).view.loc (c : Thread nD τ)) ↦[(Memref.whole b).view.set]{fullShare} f : sProp 𝕄)
      = (((c : Thread nD τ).loc b) ↦{fullShare} f) := fun f => by
    show (((c : Thread nD τ).loc b) ↦[(Memref.whole b).view.set]{fullShare} f : sProp 𝕄) = _
    rw [show (Memref.whole b).view.set = Finset.univ from View.set_whole b]
  exact congrArg _ (funext h)

theorem scoped0_split (c : Dev nD) : (Pipeline.scopedRest spec0 c : sProp 𝕄)
    = iprop((Cert.Slots.Ring.some c (Memref.whole cc0_scratch0) ∗ Cert.Slots.Ring.some c (Memref.whole cc0_scratch1))
      ∗ Pipeline.scopedRestBut spec0 c [cc0_scratch0, cc0_scratch1]) := by
  rw [Pipeline.scopedRest_split_of_list spec0 c [cc0_scratch0, cc0_scratch1] (by decide) (by decide), some_whole, some_whole]
  rfl

theorem defs₀_row0 (t : Fin cfg0.N) (sl) : (defs₀ (F := F)) .tc cfg0.body (cfg0.bodyArgs t sl)
    = cc0__stream_body (win0_0.stage (sl 0)) (hstage0_0 0) (Memref.whole main_v6) (Memref.isWhole_whole _) (Memref.whole main_v7) (Memref.isWhole_whole _)
        (Memref.whole main_v4) (Memref.isWhole_whole _) (Memref.whole main_v5) (Memref.isWhole_whole _) (Memref.whole main_v8_0) (Memref.isWhole_whole _)
        (Memref.whole main_v8_1) (Memref.isWhole_whole _) (win0_1.stage (sl 1)) (hstage0_1 0) (Memref.whole cc0_scratch0) (Memref.isWhole_whole _)
        (Memref.whole cc0_scratch1) (Memref.isWhole_whole _) cc0_scratch2 cc0_scratch3 cc0_scratch4 := by
  unfold defs₀; rw [Defs.onTc_tc]

/-- What the region's end is asked to hold: the two large buffers with the frame replaced, everything else as it was. -/
structure Streamed (c : Dev nD) : Prop where
  bound : (frameNo V c).toNat < 16
  fits : k0_chk1 (frameNo V c)
  fmap1 : Vp c main_v8_0 = splice (N := 32) (M := 2) (2 * (frameNo V c).toNat) (V c main_v4) (V c main_v6)
  imap : Vp c main_v8_1 = splice (N := 32) (M := 2) (2 * (frameNo V c).toNat) (V c main_v5) (V c main_v7)
  pool : Vp c main_v8_2 = pooled (F := F) (V c main_v6)
  rest : ∀ b : Ref sig .tc, b ≠ main_v8_0 → b ≠ main_v8_1 → b ≠ main_v8_2 → Vp c (Proc.devRef .tc b) = V c (Proc.devRef .tc b)

variable {V Vp}

theorem hbm_streamed (c : Dev nD) (h : Streamed V Vp c) : (hbm c (Vp c) : sProp 𝕄)
    = iprop((((c : Thread nD τ).loc main_v6) ↦{fullShare} V c main_v6) ∗ (((c : Thread nD τ).loc main_v7) ↦{fullShare} V c main_v7)
      ∗ (((c : Thread nD τ).loc main_v4) ↦{fullShare} V c main_v4) ∗ (((c : Thread nD τ).loc main_v5) ↦{fullShare} V c main_v5)
      ∗ (((c : Thread nD τ).loc main_v8_0) ↦{fullShare} splice (N := 32) (M := 2) (2 * (frameNo V c).toNat) (V c main_v4) (V c main_v6))
      ∗ (((c : Thread nD τ).loc main_v8_1) ↦{fullShare} splice (N := 32) (M := 2) (2 * (frameNo V c).toNat) (V c main_v5) (V c main_v7))) := by
  have h6 := h.rest main_v6 (by decide) (by decide) (by decide)
  have h7 := h.rest main_v7 (by decide) (by decide) (by decide)
  have h4 := h.rest main_v4 (by decide) (by decide) (by decide)
  have h5 := h.rest main_v5 (by decide) (by decide) (by decide)
  have e0 := h.fmap1
  have e1 := h.imap
  rw [hbm_eq]
  exact congrArg₂ _ (congrArg _ h6) (congrArg₂ _ (congrArg _ h7) (congrArg₂ _ (congrArg _ h4) (congrArg₂ _ (congrArg _ h5) (congrArg₂ _ (congrArg _ e0) (congrArg _ e1)))))

theorem body0 (c : Dev nD) (h : Streamed V Vp c) : BodyObligation (dat0 V Vp c) (defs₀ (F := F)) Variants.none () Set.univ := fun t => by
  obtain rfl := fin_N0 t
  rw [bigSep_W0, bigSep_W0, defs₀_row0]
  rw [show (dat0 V Vp c).Φ t0_0.castSucc = Phi0 V Vp c 0 from rfl, show (dat0 V Vp c).Φ t0_0.succ = Phi0 V Vp c 1 from rfl,
    show (dat0 V Vp c).owesAt () t0_0.succ = (dat0 V Vp c).owesAt () t0_0.castSucc from rfl]
  unfold Phi0
  rw [if_pos rfl, if_neg Nat.one_ne_zero, scoped0_split, hbm_eq, hbm_streamed c h]
  iintro ⟨⟨⟨⟨Hs0, Hs1⟩, Hrest⟩, Hsem, ⟨H6, H7, H4, H5, Ho0, Ho1⟩⟩, Howes, ⟨%d0, Ht⟩, ⟨%d1, Hp⟩⟩
  rw [before0]
  unfold owns
  icases Ht with ⟨%T, %hT, Ht⟩
  icases Hp with ⟨%fp, -, Hp⟩
  ihave Hsem := (sems_eq c).1 $$ Hsem
  unfold Dat.owesAt Pipeline.owesWithin
  icases Howes with ⟨%Wt, -, HW⟩
  have key := wp_stream (F := F) (U := UU) (EC := countersEmb) Variants.none c none (win0_0.stage (cfg0.slots t0_0 0)) (hstage0_0 0) (Memref.whole main_v6) (Memref.isWhole_whole _) (Memref.whole main_v7) (Memref.isWhole_whole _)
        (Memref.whole main_v4) (Memref.isWhole_whole _) (Memref.whole main_v5) (Memref.isWhole_whole _) (Memref.whole main_v8_0) (Memref.isWhole_whole _)
        (Memref.whole main_v8_1) (Memref.isWhole_whole _) (win0_1.stage (cfg0.slots t0_0 1)) (hstage0_1 0) (Memref.whole cc0_scratch0) (Memref.isWhole_whole _)
        (Memref.whole cc0_scratch1) (Memref.isWhole_whole _) cc0_scratch2 cc0_scratch3 cc0_scratch4
        (V c main_v6) (V c main_v7) (V c main_v4) (V c main_v5) T (frameNo V c)
        (fun i => by rw [hT]; unfold frameNo; exact congrArg (V c main_v3 : S2.Idx → Elt F .i32) (funext fun a => Fin.ext (by
          match a with
          | ⟨0, _⟩ => exact (ValueKit.rect_emb_unit_val ..).trans (by have := (i 0).isLt; show 0 + (i 0).val = 0; have h1 : (i 0).val < 1 := (i 0).isLt; omega))))
        h.fits h.bound
  unfold bodyGiven bodyGives at key
  simp only [holds_whole] at key
  ihave Hwp := key $$ [Ht H6 H7 H4 H5 Ho0 Ho1 Hp Hs0 Hs1 Hsem HW]
  · isplitl [Ht]; · iexact Ht
    isplitl [H6 H7 H4 H5]
    · isplitl [H6]; · iexact H6
      isplitl [H7]; · iexact H7
      isplitl [H4]; · iexact H4
      iexact H5
    isplitl [Ho0 Ho1 Hp]
    · isplitl [Ho0]; · rw [some_whole]; iexists _; iexact Ho0
      isplitl [Ho1]; · rw [some_whole]; iexists _; iexact Ho1
      unfold Cert.Slots.Ring.some; iexists _; iexact Hp
    isplitr [HW]
    · isplitl [Hs0]; · iexact Hs0
      isplitl [Hs1]; · iexact Hs1
      iexact Hsem
    unfold quiet; iexists _; iexact HW
  · iapply (wp_wand frame (wpE (defs₀ (F := F)) Variants.none (c : Thread nD τ) none) Set.univ) $$ Hwp
    iintro %u ⟨Ht, ⟨H6, H7, H4, H5⟩, ⟨Ho0, Ho1, Hp⟩, ⟨Hs0, Hs1, Hsem⟩, HW⟩
    ihave Hsem := (sems_eq c).2 $$ Hsem
    isplitr [HW Ht Hp]
    · isplitl [Hs0 Hs1 Hrest]
      · isplitr [Hrest]
        · isplitl [Hs0]; · iexact Hs0
          iexact Hs1
        iexact Hrest
      isplitl [Hsem]; · iexact Hsem
      isplitl [H6]; · iexact H6
      isplitl [H7]; · iexact H7
      isplitl [H4]; · iexact H4
      isplitl [H5]; · iexact H5
      isplitl [Ho0]; · iexact Ho0
      iexact Ho1
    isplitl [HW]
    · unfold quiet; icases HW with ⟨%W', HW⟩; iexists W'; isplitr; · ipureintro; exact fun _ _ => Or.inl trivial
      iexact HW
    isplitl [Ht]
    · iexists T; isplitr; · ipureintro; exact hT
      iexact Ht
    ihave Hp := (show ((((c : Thread nD τ).loc cc0_stg1_0) ↦{fullShare} pooled (F := F) (V c main_v6) : sProp 𝕄))
        ⊢ holds c (Memref.whole cc0_stg1_0) (pooled (F := F) (V c main_v6)) from by rw [holds_whole]) $$ Hp
    unfold Cert.Slots.Ring.holds
    icases Hp with ⟨%g, %hg, Hp⟩
    iexists g; isplitr; · ipureintro; exact hg
    iexact Hp

/-- The pooled output's array at the end of the region. -/
theorem arrAt0 (c : Dev nD) : (dat0 V Vp c).arrAt 1 cfg0.N = pooled (F := F) (V c main_v6) := by
  have hb : ∀ f : Buf (Elt F) ((c : Thread nD τ).loc main_v8_2), ((cfg0.win 1).blk t0_0).view.read (Elt F) f = f := fun f => by
    funext i
    exact congrArg f (funext fun a => Fin.ext (by
      match a with
      | ⟨0, _⟩ => show 0 * _ + 1 * (i 0).val = _; simp
      | ⟨1, _⟩ => show 0 * _ + 1 * (i 1).val = _; simp
      | ⟨2, _⟩ => show 0 * _ + 1 * (i 2).val = _; simp))
  have := (dat0 V Vp c).read_blk_arrAt 1 (pooled (F := F) (V c main_v6)) (fun t _ => by obtain rfl := fin_N0 t; exact (hb _).symm) t0_0 (flush0_1 _)
  exact (hb _).symm.trans (this.trans (hb _))

variable (V Vp)
variable (adm : (p : Fin 2) → (pcfgs (F := F) p).Adm)
variable (d1 : (c : Dev nD) → Dat τ (Elt F) Unit ℕ UU ℕ (Pipeline.pin (pcfgs (F := F)) adm 1) c)

/-- The proof data of the two regions. -/
def pdats : (p : Fin 2) → (c : Dev nD) → Dat τ (Elt F) Unit ℕ UU ℕ (Pipeline.pin (pcfgs (F := F)) adm p) c
  | ⟨0, _⟩ => fun c => dat0 V Vp c
  | ⟨1, _⟩ => d1

variable (L : GSem nD τ sig → Finset Unit) (lv : GSem nD τ sig → Unit → ℕ)

/-- What is held of the operands the first region neither stages nor addresses. -/
def aside (c : Dev nD) (W : Valuation τ sig (Elt F)) : sProp 𝕄 :=
  bigSep (Pipeline.restRefs sig spec0 \ H0) fun b => ((c : Thread nD τ).loc b) ↦{fullShare} W (Proc.devRef .tc b)

theorem aside_eq (c : Dev nD) (h : Streamed V Vp c) : (aside c (V c) : sProp 𝕄) = aside c (Vp c) := by
  unfold aside
  refine bigSep_congr fun b hb => ?_
  have hb' := Finset.mem_sdiff.mp hb
  have h0 : b ≠ main_v8_0 := fun e => hb'.2 (e ▸ by decide)
  have h1 : b ≠ main_v8_1 := fun e => hb'.2 (e ▸ by decide)
  have h2 : b ≠ main_v8_2 := fun e => absurd hb'.1 (e ▸ by decide)
  rw [h.rest b h0 h1 h2]

theorem rest0_split (c : Dev nD) (W : Valuation τ sig (Elt F)) :
    (Pipeline.unscopedRest (Ix := Unit) (Name := ℕ) (U := UU) (Lvl := ℕ) spec0 c (fun b => W b) : sProp 𝕄) = iprop(hbm c W ∗ aside c W) :=
  Pipeline.unscopedRest_sdiff spec0 H0 H0_sub c (fun b => W b)

set_option backward.isDefEq.respectTransparency.types false in
/-- The first kernel as a region. -/
def reg0 (h : ∀ c, Streamed V Vp c) : Pipeline.RegionSeg (pcfgs (F := F)) adm (pdats V Vp adm d1) () defs₀ Variants.none L lv 0 where
  win := (launch0 (F := F)).win.to₀
  block_pos := (launch0 (F := F)).block_pos
  stage_whole := (launch0 (F := F)).stage_whole
  K := Fin 14
  osem := osem0
  ho := ownSemFacts0
  hbody c := (body0 c (h c)).loose
  hwaits := Pipeline.hwaits_of_owed_zero _ _ _ _ L lv 0 fun _ _ => rfl
  pre c := iprop(unscopedBufs c (fun b => V c b) ∗ quiet c)
  post c := iprop(unscopedBufs c (fun b => Vp c b) ∗ quiet c)
  X c := iprop(Pipeline.ownSems0 osem0 c ∗ hbm c (V c))
  Y c := hbm c (Vp c)
  Z c := aside c (V c)
  hentry c := by
    have hsplit := Pipeline.arrays_of_unscopedBufs (p := 0) (pcfgs (F := F)) adm (pdats V Vp adm d1) (launch0 (F := F)).win (launch0 (F := F)).arr_whole c
      ((pdats V Vp adm d1 0 c).share_full fun _ => rfl) (fun b => V c b) fun _ => rfl
    have hr := rest0_split c (V c)
    unfold quiet
    iintro ⟨⟨Hub, HO⟩, Hsem, -⟩
    ihave H := hsplit $$ Hub
    icases H with ⟨Ha, Hrest⟩
    ihave Hrest := (Entails.of_eq hr) $$ Hrest
    icases Hrest with ⟨Hh, Hz⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr [Hz]
    · isplitl [Hsem]; · iexact Hsem
      iexact Hh
    iexact Hz
  hin c := by
    rw [show (pdats V Vp adm d1 0 c).Φ 0 = Phi0 V Vp c 0 from rfl]
    unfold Phi0
    rw [if_pos rfl]
    iintro ⟨⟨Hs, Hh⟩, -, Hr⟩
    isplitl [Hr]; · iexact Hr
    isplitl [Hs]; · iexact Hs
    iexact Hh
  hout c := by
    rw [show (pdats V Vp adm d1 0 c).Φ (Fin.last _) = Phi0 V Vp c 1 from rfl]
    unfold Phi0
    rw [if_neg Nat.one_ne_zero]
    iintro ⟨Hr, Hs, Hh⟩
    isplitl [Hh]; · iexact Hh
    isplitl [Hs]; · iexact Hs
    iexact Hr
  hexit c := by
    have hjoin := Pipeline.unscopedBufs_of_arrays (p := 0) (pcfgs (F := F)) adm (Ix := Unit) (Name := ℕ) (U := UU) (Lvl := ℕ) (launch0 (F := F)).win (launch0 (F := F)).arr_whole c
      (pdats V Vp adm d1) ((pdats V Vp adm d1 0 c).share_full fun _ => rfl) (fun b => Vp c b) (fun b => Vp c b) ((pdats V Vp adm d1 0 c).arrAt · cfg0.N)
      (fun w => by
        fin_cases w
        · exact ((pdats V Vp adm d1 0 c).arrAt_in 0 rfl _).trans ((h c).rest main_v3 (by decide) (by decide) (by decide)).symm
        · exact (arrAt0 c).trans (h c).pool.symm)
      (fun b hb => rfl)
    have hr := (rest0_split c (Vp c)).symm
    have hz := aside_eq V Vp c (h c)
    unfold quiet
    iintro ⟨Ha, HO, Hh, Hz⟩
    ihave Hz := (Entails.of_eq hz) $$ Hz
    imodintro
    isplitl [Ha Hh Hz]
    · iapply hjoin; isplitl [Ha]; · iexact Ha
      iapply (Entails.of_eq hr)
      isplitl [Hh]; · iexact Hh
      iexact Hz
    unfold Pipeline.Dat.owesAt Pipeline.owesWithin
    icases HO with ⟨%W, -, HO⟩; iexists W; iexact HO

end Cert.KernelIdeal.Hand

end
-- ==== Proof.Host.lean ====
/-
  What the host operations before the first kernel compute: the ring's row to replace, which is in range for every
  frame number, and the arrays as the kernel takes them.
-/
module

public import proofs.«01_k».proof.Proof.Region0
public import proofs.«01_k».proof.Proof.Gen.KernelIdeal.Regions

@[expose] public section

noncomputable section

namespace Cert.KernelIdeal.Hand

open Cert.KernelIdeal Cert.KernelIdeal.Gen Cert.Slots
open Idealize.ShloMosaic Idealize.ShloMosaic.TcCoe Idealize.ShloMosaic.Tactic

/-- The remainder by sixteen, as the host computes it: the remainder of the dividend's sign, sixteen added to a negative one. -/
def slotWord (n : BitVec 32) : BitVec 32 :=
  let d := Scalar.select (IntOp.cmpi .eq 16#32 0#32) 1#32 16#32
  let r := IntOp.remsi .host n d
  Scalar.select (IntOp.andi (IntOp.cmpi .ne (IntOp.cmpi .slt r 0#32) (IntOp.cmpi .slt d 0#32)) (IntOp.cmpi .ne r 0#32)) (IntOp.addi r d) r

theorem fixed_lt : ∀ k : Fin 31, (Scalar.select (IntOp.andi (IntOp.cmpi .ne (IntOp.cmpi .slt (BitVec.ofInt 32 ((k.val : ℤ) - 15)) 0#32) (IntOp.cmpi .slt 16#32 0#32))
      (IntOp.cmpi .ne (BitVec.ofInt 32 ((k.val : ℤ) - 15)) 0#32)) (IntOp.addi (BitVec.ofInt 32 ((k.val : ℤ) - 15)) 16#32) (BitVec.ofInt 32 ((k.val : ℤ) - 15))).toNat < 16 := by
  decide

/-- A remainder by sixteen lies strictly between -16 and 16. -/
theorem srem_range (n : BitVec 32) : ∃ k : Fin 31, n.srem 16#32 = BitVec.ofInt 32 ((k.val : ℤ) - 15) := by
  have h : (n.srem 16#32).toInt = n.toInt.tmod 16 := by rw [BitVec.toInt_srem]; rfl
  have h1 : n.toInt.tmod 16 < 16 := Int.tmod_lt_of_pos _ (by decide)
  have h2 : -16 < n.toInt.tmod 16 := Int.lt_tmod_of_pos _ (by decide)
  refine ⟨⟨(n.toInt.tmod 16 + 15).toNat, by omega⟩, ?_⟩
  rw [← BitVec.ofInt_toInt (x := n.srem 16#32), h]
  congr 1
  show _ = (((n.toInt.tmod 16 + 15).toNat : ℕ) : ℤ) - 15
  omega

theorem remsi_sixteen (n : BitVec 32) : IntOp.remsi .host n 16#32 = n.srem 16#32 :=
  if_neg (by rintro (h | ⟨-, h⟩) <;> exact absurd h (by decide))

/-- The row to replace is one of the ring's sixteen. -/
theorem slotWord_lt (n : BitVec 32) : (slotWord n).toNat < 16 := by
  obtain ⟨k, hk⟩ := srem_range n
  have h := fixed_lt k
  rw [← hk, ← remsi_sixteen n] at h
  exact h

theorem chk1_fin : ∀ v : Fin 16, k0_chk1 (BitVec.ofNat 32 v.val) := fun v =>
  ⟨fun j x => by
    rw [off1_eq_fin v j]
    match x with
    | ⟨0, _⟩ => exact Nat.succ_le_of_lt (Nat.mod_lt _ (by decide))
    | ⟨1, _⟩ => exact le_rfl
    | ⟨2, _⟩ => exact le_rfl
    | ⟨3, _⟩ => exact le_rfl,
  fun x => by
    rw [off2_eq_fin v]
    have hv := v.isLt
    match x with
    | ⟨0, _⟩ => show 2 * v.val + 2 ≤ 32; omega
    | ⟨1, _⟩ => exact le_rfl
    | ⟨2, _⟩ => exact le_rfl
    | ⟨3, _⟩ => exact le_rfl,
  fun h x => by
    rw [off5_eq_fin v h]
    match x with
    | ⟨0, _⟩ => exact Nat.succ_le_of_lt (Nat.mod_lt _ (by decide))
    | ⟨1, _⟩ => exact le_rfl
    | ⟨2, _⟩ => exact le_rfl
    | ⟨3, _⟩ => exact le_rfl⟩

/-- Every transfer of the first kernel stays inside its array when the row is one of the ring's. -/
theorem chk1_of_lt (v : BitVec 32) (hv : v.toNat < 16) : k0_chk1 v := by
  have h := chk1_fin ⟨v.toNat, hv⟩
  rwa [show BitVec.ofNat 32 v.toNat = v from ofNat_toNat' v] at h

variable {F : FTy → Type} [FloatOps F] [Named F] (m : (ℓ : Loc nD τ sig) → Buf (Elt F) ℓ)

/-- The frame's number, as the program is given it. -/
def frameN (c : Dev nD) : BitVec 32 := (m ((c : Thread nD τ).loc main_arg5) : S_.Idx → BitVec 32) (show S_.Idx from fun x => x.elim0)

theorem V3_v0 (c : Dev nD) : (V3 m c main_v0 : S_.Idx → BitVec 32) = fun _ => slotWord (frameN m c) := by
  refine (V3_of m c main_v0 (by decide)).trans ?_
  show StableHlo.after hostOps0_1 (StableHlo.after hostOps0 (V0 m c)) main_v0 = _
  after_results
  funext i
  rw [show i = (show S_.Idx from fun x => x.elim0) from funext fun x => x.elim0]
  rfl

theorem frameNo_V3 (c : Dev nD) : frameNo (V3 m) c = slotWord (frameN m c) := by
  have h : (V3 m c main_v3 : S2.Idx → BitVec 32) = concatenate S2 0 [⟨S1, broadcastInDim S1 ![] bcast_S_S1 (V3 m c main_v0 : S_.Idx → BitVec 32)⟩,
      ⟨S1, broadcastInDim S1 ![] bcast_S_S1 (m ((c : Thread nD τ).loc main_arg5) : S_.Idx → BitVec 32)⟩] concatenates_S1_S1_S2_d0 := by
    rw [V3_of m c main_v0 (by decide)]
    show StableHlo.after hostOps0_2 (V2 m c) main_v3 = _
    after_results
  unfold frameNo
  rw [h, V3_v0]
  rfl

/-- Every buffer after the first kernel. -/
def Vp (c : Dev nD) : Valuation τ sig (Elt F) :=
  Function.update (Function.update (Function.update (V3 m c)
    main_v8_2 (show (⟨S128x32x32, .f32⟩ : BufTy).Contents (Elt F) from pooled (F := F) (V3 m c main_v6)))
    main_v8_0 (show (⟨S32x64x128x128, .f32⟩ : BufTy).Contents (Elt F) from splice (N := 32) (M := 2) (2 * (frameNo (V3 m) c).toNat) (V3 m c main_v4) (V3 m c main_v6)))
    main_v8_1 (show (⟨S32x64x128x128, .f32⟩ : BufTy).Contents (Elt F) from splice (N := 32) (M := 2) (2 * (frameNo (V3 m) c).toNat) (V3 m c main_v5) (V3 m c main_v7))

theorem streamed (c : Dev nD) : Streamed (V3 m) (Vp m) c where
  bound := by rw [frameNo_V3]; exact slotWord_lt _
  fits := chk1_of_lt _ (by rw [frameNo_V3]; exact slotWord_lt _)
  fmap1 := by
    unfold Vp
    rw [Function.update_of_ne (StableHlo.devRef_ne_of_ne (by decide)), Function.update_self]
  imap := by
    unfold Vp
    rw [Function.update_self]
  pool := by
    unfold Vp
    rw [Function.update_of_ne (StableHlo.devRef_ne_of_ne (by decide)), Function.update_of_ne (StableHlo.devRef_ne_of_ne (by decide)), Function.update_self]
  rest b h0 h1 h2 := by
    unfold Vp
    rw [Function.update_of_ne (StableHlo.devRef_ne_of_ne h1), Function.update_of_ne (StableHlo.devRef_ne_of_ne h0), Function.update_of_ne (StableHlo.devRef_ne_of_ne h2)]

end Cert.KernelIdeal.Hand
-- ==== Proof.Whole.lean ====
/-
  Loads and stores of a whole memref: what a load reads is what is held there, and after a store what is held there is
  what was stored.
-/
module

public import proofs.«01_k».proof.Proof.Slots
public import Idealize.ShloMosaic.Lib.VecWindow

@[expose] public section

noncomputable section

namespace Cert.Slots

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Slots.Ring (holds some holds_intro holds_elim holds_some)

variable {nD : ℕ} {τ : Topo} {sig : RefSig} {Val : EltTy → Type} {Λ : Labels}
variable {U : Type} [URA U]
variable {defs : Defs nD τ sig Val Λ} (𝒱 : Variants) (c : Dev nD) (bd : Option 𝒱.V)
variable {α : Type} {Q : α → sProp (MT nD τ sig Unit Val ℕ U ℕ)}

/-- A load of the whole of a memref reads what is held there. -/
theorem wp_loadWhole {cs : CoreSpace} {s : Shape} {e : EltTy} (m : Memref sig .tc cs s e) (off : Fin s.rank → ℕ)
    (inb : ∀ a, off a + s.size a ≤ s.size a) (hl : m.view.LoadsAt (Rect.unit off s.size inb)) (x : s.Idx → Val e)
    {K : (s.Idx → Val e) → Prog (TpuEff nD τ sig Val Λ .tc) α} :
    (holds c m x : sProp (MT nD τ sig Unit Val ℕ U ℕ))
      ⊢ iprop((holds c m x -∗ wp frame (wpE defs 𝒱 (c : Thread nD τ) bd) Set.univ (K x) Q)
          -∗ wp frame (wpE defs 𝒱 (c : Thread nD τ) bd) Set.univ
              (Prog.lift (.load m (Rect.unit off s.size inb).toLoadRect hl) >>= K) Q) := by
  rw [Prog.bind_lift]
  unfold holds
  iintro ⟨%f, %hf, H⟩ Hk
  iapply (wp_load_rect (m := m) (r := Rect.unit off s.size inb) (S := m.view.set) (q := fullShare) (f := f) 𝒱 (c : Thread nD τ) bd Set.univ
    (by rw [View.set_slice]; exact View.setOn_subset_set _ _)) $$ H
  iintro H
  have hx : (m.access (Rect.unit off s.size inb)).read Val f = x := by
    subst hf
    funext z
    have h := congrArg (m.view.read Val f) (Rect.emb_unit_full inb z)
    exact h
  rw [hx]
  iapply Hk
  iexists f
  isplitr
  · ipureintro; exact hf
  · iexact H

/-- A store to the whole of a memref leaves there what was stored. -/
theorem wp_storeWhole {cs : CoreSpace} {s : Shape} {e : EltTy} (m : Memref sig .tc cs s e) (off : Fin s.rank → ℕ)
    (inb : ∀ a, off a + s.size a ≤ s.size a) (w : s.Idx → Val e)
    (hx : (m.access (Rect.unit off s.size inb)).Stores Finset.univ) (hm)
    {K : PUnit → Prog (TpuEff nD τ sig Val Λ .tc) α} :
    (Cert.Slots.Ring.some c m : sProp (MT nD τ sig Unit Val ℕ U ℕ))
      ⊢ iprop((holds c m w -∗ wp frame (wpE defs 𝒱 (c : Thread nD τ) bd) Set.univ (K ⟨⟩) Q)
          -∗ wp frame (wpE defs 𝒱 (c : Thread nD τ) bd) Set.univ
              (Prog.lift (.store m (Rect.unit off s.size inb) w Finset.univ hx hm) >>= K) Q) := by
  rw [Prog.bind_lift]
  unfold Cert.Slots.Ring.some
  iintro ⟨%f, H⟩ Hk
  iapply (wp_store (m := m) (r := Rect.unit off s.size inb) (S := m.view.set) (f := f) 𝒱 (c : Thread nD τ) bd Set.univ
    (by rw [View.setOn_univ, View.set_slice]; exact View.setOn_subset_set _ _)) $$ H
  iintro H
  iapply Hk
  iapply (holds_intro c m _ ?_) $$ H
  have h1 := View.read_write_univ (v := m.access (Rect.unit off s.size inb)) (Val := Val) f w
  funext z
  have h2 := congrFun h1 z
  refine Eq.trans ?_ h2
  exact (congrArg (m.view.read Val _) (Rect.emb_unit_full inb z)).symm

/-- What a memref holds is read, what another holds is read and dropped, and a value of the first is stored in the
    second. -/
theorem wp_move {cs cs' : CoreSpace} {s s' : Shape} {e e' : EltTy} (a : Memref sig .tc cs s e) (b : Memref sig .tc cs' s' e')
    (off : Fin s.rank → ℕ) (inb : ∀ i, off i + s.size i ≤ s.size i) (hl : a.view.LoadsAt (Rect.unit off s.size inb))
    (off' : Fin s'.rank → ℕ) (inb' : ∀ i, off' i + s'.size i ≤ s'.size i) (hl' : b.view.LoadsAt (Rect.unit off' s'.size inb'))
    (x : s.Idx → Val e) (pay : (s.Idx → Val e) → (s'.Idx → Val e'))
    (hx : (b.access (Rect.unit off' s'.size inb')).Stores Finset.univ) (hm)
    {K : PUnit → Prog (TpuEff nD τ sig Val Λ .tc) α} :
    (iprop(holds c a x ∗ Cert.Slots.Ring.some c b) : sProp (MT nD τ sig Unit Val ℕ U ℕ))
      ⊢ iprop((iprop(holds c a x ∗ holds c b (pay x)) -∗ wp frame (wpE defs 𝒱 (c : Thread nD τ) bd) Set.univ (K ⟨⟩) Q)
          -∗ wp frame (wpE defs 𝒱 (c : Thread nD τ) bd) Set.univ
              (Prog.lift (.load a (Rect.unit off s.size inb).toLoadRect hl) >>= fun v : s.Idx → Val e =>
                Prog.lift (.load b (Rect.unit off' s'.size inb').toLoadRect hl') >>= fun _ : s'.Idx → Val e' =>
                Prog.lift (.store b (Rect.unit off' s'.size inb') (pay v) Finset.univ hx hm) >>= K) Q) := by
  conv_lhs => unfold Cert.Slots.Ring.some
  iintro ⟨Ha, ⟨%g, Hb⟩⟩ Hk
  iapply (wp_loadWhole 𝒱 c bd a off inb hl x) $$ Ha
  iintro Ha
  ihave Hb := (holds_intro c b g rfl) $$ Hb
  iapply (wp_loadWhole 𝒱 c bd b off' inb' hl' (b.view.read Val g)) $$ Hb
  iintro Hb
  ihave Hb := (holds_some c b _) $$ Hb
  iapply (wp_storeWhole 𝒱 c bd b off' inb' (pay x) hx hm) $$ Hb
  iintro Hb
  iapply Hk
  isplitl [Ha] <;> iassumption

/-- What a memref holds is read and dropped, and another value is stored in it. -/
theorem wp_overwrite {cs' : CoreSpace} {s' : Shape} {e' : EltTy} (b : Memref sig .tc cs' s' e')
    (off' : Fin s'.rank → ℕ) (inb' : ∀ i, off' i + s'.size i ≤ s'.size i) (hl' : b.view.LoadsAt (Rect.unit off' s'.size inb'))
    (w : s'.Idx → Val e') (hx : (b.access (Rect.unit off' s'.size inb')).Stores Finset.univ) (hm)
    {K : PUnit → Prog (TpuEff nD τ sig Val Λ .tc) α} :
    (Cert.Slots.Ring.some c b : sProp (MT nD τ sig Unit Val ℕ U ℕ))
      ⊢ iprop((holds c b w -∗ wp frame (wpE defs 𝒱 (c : Thread nD τ) bd) Set.univ (K ⟨⟩) Q)
          -∗ wp frame (wpE defs 𝒱 (c : Thread nD τ) bd) Set.univ
              (Prog.lift (.load b (Rect.unit off' s'.size inb').toLoadRect hl') >>= fun _ : s'.Idx → Val e' =>
                Prog.lift (.store b (Rect.unit off' s'.size inb') w Finset.univ hx hm) >>= K) Q) := by
  conv_lhs => unfold Cert.Slots.Ring.some
  iintro ⟨%g, Hb⟩ Hk
  ihave Hb := (holds_intro c b g rfl) $$ Hb
  iapply (wp_loadWhole 𝒱 c bd b off' inb' hl' (b.view.read Val g)) $$ Hb
  iintro Hb
  ihave Hb := (holds_some c b _) $$ Hb
  iapply (wp_storeWhole 𝒱 c bd b off' inb' w hx hm) $$ Hb
  iintro Hb
  iapply Hk
  iexact Hb

end Cert.Slots

end
-- ==== Proof.Small.lean ====
/-
  The second kernel's body, at one row of the ring: the row being replaced is written from the new frame, every other
  row from what the ring held, and at row 0 the time buffer is written whole.
-/
module

public import proofs.«01_k».proof.Proof.Whole
public import proofs.«01_k».proof.Proof.Gen.KernelIdeal.Skeleton

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Slots.Ring (holds holds_intro holds_elim holds_some)

variable {F : FTy → Type} [FloatOps F] [Named F]
variable {U : Type} [URA U]

variable (𝒱 : Variants) (c : Dev nD) (bd : Option 𝒱.V)

local notation "𝕄" => MT nD τ sig Unit (Elt F) ℕ U ℕ

/-- The body takes one of its first two branches, never both. -/
theorem cond2_iff (i : grid1.Coords) (v0 : BitVec 32) : k1_cond2 i v0 = 1#1 ↔ ¬ k1_cond1 i v0 = 1#1 := by
  unfold k1_cond1 k1_cond2
  by_cases h : BitVec.ofNat 32 (i 0).val = v0
  · simp [Scalar.cmpi, Scalar.extui, IntOp.cmpi, h]
  · have hb : (BitVec.ofNat 32 (i 0).val == v0) = false := by simpa using h
    simp [Scalar.cmpi, Scalar.extui, IntOp.cmpi, bne, hb]

/-- The row of the pooled ring, of the new pooled frame and the old row, -/
def rowPooled (i : grid1.Coords) (v0 : BitVec 32) (x4 x6 : Vec F S1x128x1024 .f32) : Vec F S1x128x1024 .f32 :=
  if k1_cond1 i v0 = 1#1 then k1_pay7 x4 else k1_pay2 x6
/-- the row of the patch ring, -/
def rowPatches (i : grid1.Coords) (v0 : BitVec 32) (x5 x7 : Vec F S1x80x1152 .f32) : Vec F S1x80x1152 .f32 :=
  if k1_cond1 i v0 = 1#1 then k1_pay8 x5 else k1_pay3 x7
/-- the row of the patch states, of the new coordinates and the old row, -/
def rowState (i : grid1.Coords) (v0 : BitVec 32) (x3 : Vec F S1x2x80 .f32) (x8 : Vec F S1x3x80 .f32) : Vec F S1x3x80 .f32 :=
  if k1_cond1 i v0 = 1#1 then k1_pay9 x3 else k1_pay4 x8
/-- the row of the source frames, of the frame's number and the old row, -/
def rowSource (i : grid1.Coords) (v0 v1 : BitVec 32) (x10 : Vec F S1x1x80 .i32) : Vec F S1x1x80 .i32 :=
  if k1_cond1 i v0 = 1#1 then k1_pay1 (k1_pay10 (F := F) v1) else k1_pay5 (F := F) x10
/-- and the times: written at row 0, kept after it. -/
def times (i : grid1.Coords) (v0 : BitVec 32) (x2 : Vec F S1x1 .f32) (x9 x14 : Vec F S1x16 .f32) : Vec F S1x16 .f32 :=
  if k1_cond3 i = 1#1 then k1_pay6 v0 x2 x9 else x14

variable (i : grid1.Coords) (arg1 : Memref sig .tc .smem S2 .i32) (harg1 : arg1.IsWhole) (arg2 : Memref sig .tc .vmem S1x1 .f32) (harg2 : arg2.IsWhole) (arg3 : Memref sig .tc .vmem S1x2x80 .f32) (harg3 : arg3.IsWhole) (arg4 : Memref sig .tc .vmem S1x128x1024 .f32) (harg4 : arg4.IsWhole) (arg5 : Memref sig .tc .vmem S1x80x1152 .f32) (harg5 : arg5.IsWhole) (arg6 : Memref sig .tc .vmem S1x128x1024 .f32) (harg6 : arg6.IsWhole) (arg7 : Memref sig .tc .vmem S1x80x1152 .f32) (harg7 : arg7.IsWhole) (arg8 : Memref sig .tc .vmem S1x3x80 .f32) (harg8 : arg8.IsWhole) (arg9 : Memref sig .tc .vmem S1x16 .f32) (harg9 : arg9.IsWhole) (arg10 : Memref sig .tc .vmem S1x1x80 .i32) (harg10 : arg10.IsWhole) (arg11 : Memref sig .tc .vmem S1x128x1024 .f32) (harg11 : arg11.IsWhole) (arg12 : Memref sig .tc .vmem S1x80x1152 .f32) (harg12 : arg12.IsWhole) (arg13 : Memref sig .tc .vmem S1x3x80 .f32) (harg13 : arg13.IsWhole) (arg14 : Memref sig .tc .vmem S1x16 .f32) (harg14 : arg14.IsWhole) (arg15 : Memref sig .tc .vmem S1x1x80 .i32) (harg15 : arg15.IsWhole)
variable (x2 : Vec F S1x1 .f32) (x3 : Vec F S1x2x80 .f32) (x4 x6 : Vec F S1x128x1024 .f32) (x5 x7 : Vec F S1x80x1152 .f32)
  (x8 : Vec F S1x3x80 .f32) (x9 x14 : Vec F S1x16 .f32) (x10 : Vec F S1x1x80 .i32)

/-- The body's last statement: at row 0 the times are written. -/
def timesProg (v0 : Elt F .i32) : Prog (TpuEff nD τ sig (Elt F) Λ₀ .tc) PUnit :=
  if k1_h3 : k1_cond3 i = 1#1 then do
    let v14 : Vec F S1x1 .f32 ← Prog.lift (.load arg2 (Rect.unit (s := S1x1) ![0, 0] S1x1.size inb_S1x1_S1x1_0_0).toLoadRect (View.loadsAt_vmem h_S1x1))
    let v16 : Vec F S1x16 .f32 ← Prog.lift (.load arg9 (Rect.unit (s := S1x16) ![0, 0] S1x16.size inb_S1x16_S1x16_0_0).toLoadRect (View.loadsAt_vmem h_S1x16))
    let v20 : Vec F S1x16 .f32 ← Prog.lift (.load arg14 (Rect.unit (s := S1x16) ![0, 0] S1x16.size inb_S1x16_S1x16_0_0).toLoadRect (View.loadsAt_vmem h_S1x16))
    Prog.lift (.store arg14 (Rect.unit (s := S1x16) ![0, 0] S1x16.size inb_S1x16_S1x16_0_0) (k1_pay6 v0 v14 v16) Finset.univ (View.stores_vmem_bits_univ h_S1x16 rfl) (.inl rfl))
    pure ⟨⟩
  else pure ⟨⟩

/-- The times are written at row 0 and kept at every other. -/
theorem wp_times (v0 : Elt F .i32) :
    (iprop(holds c arg2 x2 ∗ holds c arg9 x9 ∗ holds c arg14 x14) : sProp 𝕄)
      ⊢ wp frame (wpE (defs₀ (F := F)) 𝒱 (c : Thread nD τ) bd) Set.univ (timesProg i arg2 arg9 arg14 v0)
        (fun _ => iprop(holds c arg2 x2 ∗ holds c arg9 x9 ∗ holds c arg14 (times i v0 x2 x9 x14))) := by
  unfold timesProg times
  have hret : ∀ Q : PUnit → sProp 𝕄, Q ⟨⟩ ⊢ wp frame (wpE (defs₀ (F := F)) 𝒱 (c : Thread nD τ) bd) Set.univ
      (pure ⟨⟩ : Prog (TpuEff nD τ sig (Elt F) Λ₀ .tc) PUnit) Q := fun Q => by
    rw [show (Pure.pure PUnit.unit : Prog (TpuEff nD τ sig (Elt F) Λ₀ .tc) PUnit) = .ret ⟨⟩ from rfl, wp_ret]
    iintro H
    imodintro
    iexact H
  by_cases h : k1_cond3 i = 1#1
  · simp only [dif_pos h, if_pos h]
    iintro ⟨H2, H9, H14⟩
    iapply (wp_loadWhole 𝒱 c bd arg2 _ _ _ x2) $$ H2
    iintro H2
    iapply (wp_loadWhole 𝒱 c bd arg9 _ _ _ x9) $$ H9
    iintro H9
    ihave H14 := (holds_some c arg14 x14) $$ H14
    iapply (wp_overwrite 𝒱 c bd arg14 _ _ _ (k1_pay6 v0 x2 x9) _ _) $$ H14
    iintro H14
    iapply hret
    isplitl [H2]; · iexact H2
    isplitl [H9] <;> iassumption
  · simp only [dif_neg h, if_neg h]
    iintro H
    iapply hret
    iexact H

/-- What the nine windows read by the body hold. -/
def smallReads : sProp 𝕄 :=
  iprop(holds c arg2 x2 ∗ holds c arg3 x3 ∗ holds c arg4 x4 ∗ holds c arg5 x5 ∗ holds c arg6 x6 ∗ holds c arg7 x7 ∗ holds c arg8 x8 ∗ holds c arg9 x9 ∗ holds c arg10 x10)

/-- What the body is run with: its table, the nine windows it reads, the four it writes at every row, and the times. -/
def smallGiven (T : Buf (Elt F) (arg1.view.loc (c : Thread nD τ))) : sProp 𝕄 :=
  iprop((arg1.view.loc (c : Thread nD τ) ↦[arg1.view.set]{fullShare} T)
    ∗ smallReads c arg2 arg3 arg4 arg5 arg6 arg7 arg8 arg9 arg10 x2 x3 x4 x6 x5 x7 x8 x9 x10
    ∗ (Cert.Slots.Ring.some c arg11 ∗ Cert.Slots.Ring.some c arg12 ∗ Cert.Slots.Ring.some c arg13 ∗ Cert.Slots.Ring.some c arg15) ∗ holds c arg14 x14)

/-- What it leaves: the table and the nine windows as before, the rows and the times written. -/
def smallGives (T : Buf (Elt F) (arg1.view.loc (c : Thread nD τ))) (v0 v1 : BitVec 32) : sProp 𝕄 :=
  iprop((arg1.view.loc (c : Thread nD τ) ↦[arg1.view.set]{fullShare} T)
    ∗ smallReads c arg2 arg3 arg4 arg5 arg6 arg7 arg8 arg9 arg10 x2 x3 x4 x6 x5 x7 x8 x9 x10
    ∗ (holds c arg11 (rowPooled i v0 x4 x6) ∗ holds c arg12 (rowPatches i v0 x5 x7) ∗ holds c arg13 (rowState i v0 x3 x8)
      ∗ holds c arg15 (rowSource i v0 v1 x10))
    ∗ holds c arg14 (times i v0 x2 x9 x14))

theorem wp_small (T : Buf (Elt F) (arg1.view.loc (c : Thread nD τ))) (v0 v1 : BitVec 32)
    (hT0 : ∀ i, arg1.view.read (Elt F) T ((Rect.unit (s := S2) ![0] S1.size inb_S2_S1_0).emb i) = v0)
    (hT1 : ∀ i, arg1.view.read (Elt F) T ((Rect.unit (s := S2) ![1] S1.size inb_S2_S1_1).emb i) = v1) :
    (smallGiven c arg1 arg2 arg3 arg4 arg5 arg6 arg7 arg8 arg9 arg10 arg11 arg12 arg13 arg14 arg15 x2 x3 x4 x6 x5 x7 x8 x9 x14 x10 T : sProp 𝕄)
      ⊢ wp frame (wpE (defs₀ (F := F)) 𝒱 (c : Thread nD τ) bd) Set.univ
          (cc1__small_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15)
          (fun _ => smallGives c i arg1 arg2 arg3 arg4 arg5 arg6 arg7 arg8 arg9 arg10 arg11 arg12 arg13 arg14 arg15 x2 x3 x4 x6 x5 x7 x8 x9 x14 x10 T v0 v1) := by
  rw [cc1__small_body_eq_skeleton]
  unfold cc1__small_body_skel smallGiven smallGives smallReads
  iintro ⟨H1, ⟨H2, H3, H4, H5, H6, H7, H8, H9, H10⟩, ⟨H11, H12, H13, H15⟩, H14⟩
  unfold smemLoad
  rw [smemLoadElt_bind]
  iapply (wp_smemLoadElt_named 𝒱 (c : Thread nD τ) bd Set.univ (S := arg1.view.set) (q := fullShare) (f := T)
    (by rw [View.set_slice]; exact View.setOn_subset_set _ _)) $$ H1
  iintro H1 %v %hvT
  obtain rfl : v = v0 := hvT.trans (hT0 _)
  have hrb : ∀ (w : Elt F .i32) (k : Elt F .i32 → Prog (TpuEff nD τ sig (Elt F) Λ₀ .tc) PUnit), (Prog.ret w >>= k) = k w := fun _ _ => rfl
  rw [hrb, smemLoadElt_bind]
  iapply (wp_smemLoadElt_named 𝒱 (c : Thread nD τ) bd Set.univ (S := arg1.view.set) (q := fullShare) (f := T)
    (by rw [View.set_slice]; exact View.setOn_subset_set _ _)) $$ H1
  iintro H1 %v' %hvT'
  obtain rfl : v' = v1 := hvT'.trans (hT1 _)
  rw [hrb]
  have hT : ∀ x14 : Vec F S1x16 .f32, (iprop(holds c arg2 x2 ∗ holds c arg9 x9 ∗ holds c arg14 x14) : sProp 𝕄)
      ⊢ wp frame (wpE (defs₀ (F := F)) 𝒱 (c : Thread nD τ) bd) Set.univ (timesProg i arg2 arg9 arg14 v)
        (fun _ => iprop(holds c arg2 x2 ∗ holds c arg9 x9 ∗ holds c arg14 (times i v x2 x9 x14))) := fun x14 =>
    wp_times 𝒱 c bd i arg2 arg9 arg14 x2 x9 x14 v
  unfold timesProg at hT
  by_cases h1 : k1_cond1 i v = 1#1
  · have h2 : ¬ k1_cond2 i v = 1#1 := fun h => (cond2_iff i v).mp h h1
    simp only [dif_pos h1, dif_neg h2, k1_part1_eq_skeleton]
    unfold k1_part1_skel
    simp only [bind_assoc, pure_bind]
    unfold rowPooled rowPatches rowState rowSource
    simp only [if_pos h1]
    iapply (wp_move 𝒱 c bd arg4 arg11 _ _ _ _ _ _ x4 k1_pay7 _ _) $$ [H4 H11]
    · isplitl [H4] <;> iassumption
    iintro ⟨H4, H11⟩
    iapply (wp_move 𝒱 c bd arg5 arg12 _ _ _ _ _ _ x5 k1_pay8 _ _) $$ [H5 H12]
    · isplitl [H5] <;> iassumption
    iintro ⟨H5, H12⟩
    iapply (wp_move 𝒱 c bd arg3 arg13 _ _ _ _ _ _ x3 k1_pay9 _ _) $$ [H3 H13]
    · isplitl [H3] <;> iassumption
    iintro ⟨H3, H13⟩
    iapply (wp_overwrite 𝒱 c bd arg15 _ _ _ (k1_pay1 (k1_pay10 (F := F) v')) _ _) $$ H15
    iintro H15
    ihave Ht := (hT x14) $$ [H2 H9 H14]
    · isplitl [H2]; · iexact H2
      isplitl [H9] <;> iassumption
    iapply (wp_wand frame (wpE (defs₀ (F := F)) 𝒱 (c : Thread nD τ) bd) Set.univ) $$ Ht
    iintro %u ⟨H2, H9, H14⟩
    isplitl [H1]; · iexact H1
    isplitl [H2 H3 H4 H5 H6 H7 H8 H9 H10]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9] <;> iassumption
    isplitr [H14]
    · isplitl [H11]; · iexact H11
      isplitl [H12]; · iexact H12
      isplitl [H13] <;> iassumption
    · iexact H14
  · have h2 : k1_cond2 i v = 1#1 := (cond2_iff i v).mpr h1
    simp only [dif_neg h1, dif_pos h2]
    unfold rowPooled rowPatches rowState rowSource
    simp only [if_neg h1]
    iapply (wp_move 𝒱 c bd arg6 arg11 _ _ _ _ _ _ x6 k1_pay2 _ _) $$ [H6 H11]
    · isplitl [H6] <;> iassumption
    iintro ⟨H6, H11⟩
    iapply (wp_move 𝒱 c bd arg7 arg12 _ _ _ _ _ _ x7 k1_pay3 _ _) $$ [H7 H12]
    · isplitl [H7] <;> iassumption
    iintro ⟨H7, H12⟩
    iapply (wp_move 𝒱 c bd arg8 arg13 _ _ _ _ _ _ x8 k1_pay4 _ _) $$ [H8 H13]
    · isplitl [H8] <;> iassumption
    iintro ⟨H8, H13⟩
    iapply (wp_move 𝒱 c bd arg10 arg15 _ _ _ _ _ _ x10 (k1_pay5 (F := F)) _ _) $$ [H10 H15]
    · isplitl [H10] <;> iassumption
    iintro ⟨H10, H15⟩
    ihave Ht := (hT x14) $$ [H2 H9 H14]
    · isplitl [H2]; · iexact H2
      isplitl [H9] <;> iassumption
    iapply (wp_wand frame (wpE (defs₀ (F := F)) 𝒱 (c : Thread nD τ) bd) Set.univ) $$ Ht
    iintro %u ⟨H2, H9, H14⟩
    isplitl [H1]; · iexact H1
    isplitl [H2 H3 H4 H5 H6 H7 H8 H9 H10]
    · isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9] <;> iassumption
    isplitr [H14]
    · isplitl [H11]; · iexact H11
      isplitl [H12]; · iexact H12
      isplitl [H13] <;> iassumption
    · iexact H14

end Cert.KernelIdeal.Hand

end
-- ==== Proof.Region1.lean ====
/-
  The second kernel as a region of the program: what it is entered with, what it leaves, and its body at each row.
-/
module

public import proofs.«01_k».proof.Proof.Region0
public import proofs.«01_k».proof.Proof.Small
public import Idealize.ShloMosaic.Lib.Pipeline.TableIdle
public import Idealize.ShloMosaic.Lib.Pipeline.Value

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.Slots.Ring (holds some holds_intro holds_elim holds_some quiet)

variable {F : FTy → Type} [FloatOps F] [Named F]

local notation "𝕄" => MT nD τ sig Unit (Elt F) ℕ UU ℕ

variable (a : (pcfg1 (F := F)).Adm) (W : Dev nD → Valuation τ sig (Elt F))

/-- The two numbers in the table: the frame to replace, and the frame's number. -/
def tab0 : BitVec 32 := (a.1 0 : S2.Idx → Elt F .i32) (show S2.Idx from fun x => ⟨0, by match x with | ⟨0, _⟩ => exact Nat.succ_pos 1⟩)
@[inherit_doc tab0] def tab1 : BitVec 32 := (a.1 0 : S2.Idx → Elt F .i32) (show S2.Idx from fun x => ⟨1, by match x with | ⟨0, _⟩ => exact Nat.lt_succ_self 1⟩)

/-- The table's contents as its buffer's. -/
def tbl (c : Dev nD) : Buf (Elt F) ((c : Thread nD τ).loc main_v24) := a.1 0

theorem tab0_read (i) : (a.1 0 : S2.Idx → Elt F .i32) ((Rect.unit (s := S2) ![0] S1.size inb_S2_S1_0).emb i) = tab0 a :=
  congrArg (a.1 0 : S2.Idx → Elt F .i32) (funext fun x => Fin.ext (by
    match x with
    | ⟨0, _⟩ => exact (ValueKit.rect_emb_unit_val ..).trans (by have h1 : (i 0).val < 1 := (i 0).isLt; show 0 + (i 0).val = 0; omega)))
theorem tab1_read (i) : (a.1 0 : S2.Idx → Elt F .i32) ((Rect.unit (s := S2) ![1] S1.size inb_S2_S1_1).emb i) = tab1 a :=
  congrArg (a.1 0 : S2.Idx → Elt F .i32) (funext fun x => Fin.ext (by
    match x with
    | ⟨0, _⟩ => exact (ValueKit.rect_emb_unit_val ..).trans (by have h1 : (i 0).val < 1 := (i 0).isLt; show 1 + (i 0).val = 1; omega)))

/-- A window's block at a row, on entry. -/
def blk1 (c : Dev nD) (w : Fin 14) (t : Fin (cfg1 a).N) : ((cfg1 a).win w).block.Idx → Elt F ((cfg1 a).win w).elt :=
  (((cfg1 a).win w).blk t).view.read (Elt F) (W c (Proc.devRef .tc (Pipeline.arrRef spec1 w)))

/-- The times after the region. -/
def timesOf (c : Dev nD) (t : Fin (cfg1 a).N) : Vec F S1x16 .f32 := k1_pay6 (tab0 a) (blk1 a W c 0 t) (blk1 a W c 7 t)

/-- The region's proof data. -/
def dat1 (c : Dev nD) : Dat τ (Elt F) Unit ℕ UU ℕ (cfg1 a) c where
  A w := W c (Proc.devRef .tc (Pipeline.arrRef spec1 w))
  after w t := match w with
    | ⟨0, _⟩ => blk1 a W c 0 t
    | ⟨1, _⟩ => blk1 a W c 1 t
    | ⟨2, _⟩ => blk1 a W c 2 t
    | ⟨3, _⟩ => blk1 a W c 3 t
    | ⟨4, _⟩ => blk1 a W c 4 t
    | ⟨5, _⟩ => blk1 a W c 5 t
    | ⟨6, _⟩ => blk1 a W c 6 t
    | ⟨7, _⟩ => blk1 a W c 7 t
    | ⟨8, _⟩ => blk1 a W c 8 t
    | ⟨9, _⟩ => rowPooled (F := F) (grid1.coords t) (tab0 a) (blk1 a W c 2 t) (blk1 a W c 4 t)
    | ⟨10, _⟩ => rowPatches (F := F) (grid1.coords t) (tab0 a) (blk1 a W c 3 t) (blk1 a W c 5 t)
    | ⟨11, _⟩ => rowState (F := F) (grid1.coords t) (tab0 a) (blk1 a W c 1 t) (blk1 a W c 6 t)
    | ⟨12, _⟩ => timesOf a W c t
    | ⟨13, _⟩ => rowSource (F := F) (grid1.coords t) (tab0 a) (tab1 a) (blk1 a W c 8 t)
  Φ _ := iprop(Pipeline.scopedRest spec1 c ∗ Pipeline.prefHeld pre1 c (fun _ => fullShare) a.1)
  q _ := fullShare
  owed _ := 0

theorem before1 (c : Dev nD) (w : Fin 14) (h : w.val < 9) (t : Fin (cfg1 a).N) (d) : (dat1 a W c).before w t d = blk1 a W c w t := by
  match w, h with
  | ⟨0, _⟩, _ => exact ((dat1 a W c).before_in_eq_fetched (0 : Fin 14) rfl (fun _ => rfl) (fun _ _ _ => rfl) (fun _ => rfl) t d).trans rfl
  | ⟨1, _⟩, _ => exact ((dat1 a W c).before_in_eq_fetched (1 : Fin 14) rfl (fun _ => rfl) (fun _ _ _ => rfl) (fun _ => rfl) t d).trans rfl
  | ⟨2, _⟩, _ => exact ((dat1 a W c).before_in_eq_fetched (2 : Fin 14) rfl (fun _ => rfl) (fun _ _ _ => rfl) (fun _ => rfl) t d).trans rfl
  | ⟨3, _⟩, _ => exact ((dat1 a W c).before_in_eq_fetched (3 : Fin 14) rfl (fun _ => rfl) (fun _ _ _ => rfl) (fun _ => rfl) t d).trans rfl
  | ⟨4, _⟩, _ => exact ((dat1 a W c).before_in_eq_fetched (4 : Fin 14) rfl (fun _ => rfl) (fun _ _ _ => rfl) (fun _ => rfl) t d).trans rfl
  | ⟨5, _⟩, _ => exact ((dat1 a W c).before_in_eq_fetched (5 : Fin 14) rfl (fun _ => rfl) (fun _ _ _ => rfl) (fun _ => rfl) t d).trans rfl
  | ⟨6, _⟩, _ => exact ((dat1 a W c).before_in_eq_fetched (6 : Fin 14) rfl (fun _ => rfl) (fun _ _ _ => rfl) (fun _ => rfl) t d).trans rfl
  | ⟨7, _⟩, _ => exact ((dat1 a W c).before_in_eq_fetched (7 : Fin 14) rfl (fun _ => rfl) (fun _ _ _ => rfl) (fun _ => rfl) t d).trans rfl
  | ⟨8, _⟩, _ => exact ((dat1 a W c).before_in_eq_fetched (8 : Fin 14) rfl (fun _ => rfl) (fun _ _ _ => rfl) (fun _ => rfl) t d).trans rfl

theorem prefHeld1 (c : Dev nD) : (Pipeline.prefHeld pre1 c (fun _ => fullShare) a.1 : sProp 𝕄)
    = iprop(((c : Thread nD τ).loc main_v24) ↦{fullShare} tbl a c) := by
  unfold Pipeline.prefHeld
  rw [show (Finset.univ : Finset (Fin 1)) = {0} from rfl, bigSep_singleton]
  rfl

theorem N1_eq : (cfg1 a).N = 16 := N_1

/-- The times' block is the same at every row, and written back after the last alone. -/
theorem flush12 (t : Fin (cfg1 a).N) (h : t.val + 1 < 16) : ((cfg1 a).win 12).flush t = false := by
  unfold Pipeline.Window.flush
  have h1 : ¬ t.val + 1 = grid1.N := by rw [N_1]; omega
  have h2 : ¬ ∃ h : t.val + 1 < grid1.N, ((cfg1 a).win 12).index ⟨t.val + 1, h⟩ ≠ ((cfg1 a).win 12).index t := fun ⟨_, hn⟩ => hn rfl
  simp [h1, h2]

theorem timesOf_eq (c : Dev nD) (t t' : Fin (cfg1 a).N) : timesOf a W c t = timesOf a W c t' := rfl

theorem cond3_zero (t : Fin (cfg1 a).N) (h : t.val = 0) : k1_cond3 (grid1.coords t) = 1#1 := by
  obtain rfl : t = (t1_0 : Fin grid1.N) := Fin.ext h
  decide +kernel

theorem cond3_pos (t : Fin (cfg1 a).N) (h : k1_cond3 (grid1.coords t) = 1#1) : t.val = 0 :=
  (by decide +kernel : ∀ t : Fin grid1.N, k1_cond3 (grid1.coords t) = 1#1 → t.val = 0) t h

theorem fresh12 : ∀ n : ℕ, n < 15 → (cfg1 a).fresh 12 (n + 1) = false
  | 0, h => by
    have hN : 0 < (cfg1 a).N := by rw [N1_eq]; omega
    rw [(cfg1 a).fresh_succ 12 0 hN, flush12 a ⟨0, hN⟩ (by show 0 + 1 < 16; omega)]
    have : (cfg1 a).idle 12 ((cfg1 a).grid.coords ⟨0, hN⟩) = false := by
      show (!(k1_cond3 (grid1.coords ⟨0, hN⟩) == 1#1)) = false
      rw [cond3_zero a ⟨0, hN⟩ rfl]; rfl
    rw [this]; rfl
  | n + 1, h => by
    have hN : n + 1 < (cfg1 a).N := by rw [N1_eq]; omega
    rw [(cfg1 a).fresh_succ 12 (n + 1) hN, flush12 a ⟨n + 1, hN⟩ (by show n + 1 + 1 < 16; omega), fresh12 n (by omega), Bool.and_false]; rfl

theorem times_kept (c : Dev nD) (t : Fin (cfg1 a).N) (d) (h : t.val ≠ 0) : (dat1 a W c).before 12 t d = timesOf a W c t := by
  rw [Pipeline.Dat.before_out_traj (dat1 a W c) 12 rfl (fun _ _ => rfl) (fun _ _ _ _ => rfl) t.val t rfl d]
  have ht : t.val < 16 := N1_eq a ▸ t.isLt
  obtain ⟨n, hn⟩ : ∃ n, t.val = n + 1 := ⟨t.val - 1, by omega⟩
  have hf : (cfg1 a).fresh 12 t.val = false := by rw [hn]; exact fresh12 a n (by omega)
  exact (if_neg (by rw [hf]; exact Bool.false_ne_true)).trans rfl

theorem idle_rows (t : Fin (cfg1 a).N) (v0 : BitVec 32) : (!(k1_cond1 (grid1.coords t) v0 == 1#1) && !(k1_cond2 (grid1.coords t) v0 == 1#1)) = false := by
  by_cases h : k1_cond1 (grid1.coords t) v0 = 1#1
  · rw [h]; rfl
  · rw [(cond2_iff _ _).mpr h]; simp

/-- The staging buffers in use at a row. -/
def slot1 (t : Fin (cfg1 a).N) : (w : Fin 14) → Fin (spec1 w).nbuf := (cfg1 a).slots t

theorem defs₀_row1 (t : Fin (cfg1 a).N) : (defs₀ (F := F)) .tc (cfg1 a).body ((cfg1 a).bodyArgs t ((cfg1 a).slots t))
    = cc1__small_body (grid1.coords t) (Memref.whole main_v24) (Memref.isWhole_whole _) (spec1_0.stage ((slot1 a t) 0)) (hstage1_0 (((slot1 a t) 0).cast nbuf1_0)) (spec1_1.stage ((slot1 a t) 1)) (hstage1_1 (((slot1 a t) 1).cast nbuf1_1)) (spec1_2.stage ((slot1 a t) 2)) (hstage1_2 (((slot1 a t) 2).cast nbuf1_2)) (spec1_3.stage ((slot1 a t) 3)) (hstage1_3 (((slot1 a t) 3).cast nbuf1_3)) (spec1_4.stage ((slot1 a t) 4)) (hstage1_4 (((slot1 a t) 4).cast nbuf1_4)) (spec1_5.stage ((slot1 a t) 5)) (hstage1_5 (((slot1 a t) 5).cast nbuf1_5)) (spec1_6.stage ((slot1 a t) 6)) (hstage1_6 (((slot1 a t) 6).cast nbuf1_6)) (spec1_7.stage ((slot1 a t) 7)) (hstage1_7 (((slot1 a t) 7).cast nbuf1_7)) (spec1_8.stage ((slot1 a t) 8)) (hstage1_8 (((slot1 a t) 8).cast nbuf1_8)) (spec1_9.stage ((slot1 a t) 9)) (hstage1_9 (((slot1 a t) 9).cast nbuf1_9)) (spec1_10.stage ((slot1 a t) 10)) (hstage1_10 (((slot1 a t) 10).cast nbuf1_10)) (spec1_11.stage ((slot1 a t) 11)) (hstage1_11 (((slot1 a t) 11).cast nbuf1_11)) (spec1_12.stage ((slot1 a t) 12)) (hstage1_12 (((slot1 a t) 12).cast nbuf1_12)) (spec1_13.stage ((slot1 a t) 13)) (hstage1_13 (((slot1 a t) 13).cast nbuf1_13)) := by
  unfold defs₀; rw [Defs.onTc_tc]; rfl

/-- What the body's rule asks to be left of a window. -/
def post1 (c : Dev nD) (w : Fin 14) (t : Fin (cfg1 a).N) : sProp 𝕄 :=
  match (cfg1 a).idle w ((cfg1 a).grid.coords t) with
  | true => match ((cfg1 a).win w).flush t with
    | false => iprop(∃ d, owns (c : Thread nD τ) (((cfg1 a).win w).stage ((cfg1 a).slots t w)) fullShare ((dat1 a W c).before w t d))
    | true => owns (c : Thread nD τ) (((cfg1 a).win w).stage ((cfg1 a).slots t w)) fullShare ((dat1 a W c).after w t)
  | false => owns (c : Thread nD τ) (((cfg1 a).win w).stage ((cfg1 a).slots t w)) fullShare ((dat1 a W c).after w t)

theorem post1_live (c : Dev nD) (w : Fin 14) (t : Fin (cfg1 a).N) (h : (cfg1 a).idle w ((cfg1 a).grid.coords t) = false) :
    (post1 a W c w t : sProp 𝕄) = owns (c : Thread nD τ) (((cfg1 a).win w).stage ((cfg1 a).slots t w)) fullShare ((dat1 a W c).after w t) := by
  unfold post1; rw [h]

theorem post1_idle (c : Dev nD) (w : Fin 14) (t : Fin (cfg1 a).N) (d) (h : (cfg1 a).idle w ((cfg1 a).grid.coords t) = true)
    (hk : (dat1 a W c).before w t d = (dat1 a W c).after w t) :
    owns (c : Thread nD τ) (((cfg1 a).win w).stage ((cfg1 a).slots t w)) fullShare ((dat1 a W c).before w t d) ⊢ (post1 a W c w t : sProp 𝕄) := by
  unfold post1; rw [h]
  cases hf : ((cfg1 a).win w).flush t
  · show _ ⊢ iprop(∃ d, owns (c : Thread nD τ) (((cfg1 a).win w).stage ((cfg1 a).slots t w)) fullShare ((dat1 a W c).before w t d))
    iintro H; iexists d; iexact H
  · rw [hk]

theorem post1_times (c : Dev nD) (t : Fin (cfg1 a).N) (d) :
    holds c (spec1_12.stage (slot1 a t 12)) (times (grid1.coords t) (tab0 a) (blk1 a W c 0 t) (blk1 a W c 7 t) ((dat1 a W c).before 12 t d))
      ⊢ (post1 a W c 12 t : sProp 𝕄) := by
  by_cases h : k1_cond3 (grid1.coords t) = 1#1
  · refine (Entails.of_eq (congrArg (holds c (spec1_12.stage (slot1 a t 12))) (if_pos h))).trans ?_
    rw [post1_live a W c 12 t (by show (!(k1_cond3 (grid1.coords t) == 1#1)) = false; rw [h]; rfl)]
    exact .rfl
  · refine (Entails.of_eq (congrArg (holds c (spec1_12.stage (slot1 a t 12))) (if_neg h))).trans ?_
    have ht : t.val ≠ 0 := fun e => h (cond3_zero a t e)
    have hi : (cfg1 a).idle 12 ((cfg1 a).grid.coords t) = true := by
      show (!(k1_cond3 (grid1.coords t) == 1#1)) = true
      simpa using h
    exact post1_idle a W c 12 t d hi (times_kept a W c t d ht)

set_option maxHeartbeats 1000000 in
theorem body1 (c : Dev nD) : BodyObligation (dat1 a W c) (defs₀ (F := F)) Variants.none () Set.univ := fun t => by
  have hT0 := fun i => tab0_read a i
  have hT1 := fun i => tab1_read a i
  have key := fun x14 => wp_small (F := F) (U := UU) Variants.none c none (grid1.coords t) (Memref.whole main_v24) (Memref.isWhole_whole _) (spec1_0.stage ((slot1 a t) 0)) (hstage1_0 (((slot1 a t) 0).cast nbuf1_0)) (spec1_1.stage ((slot1 a t) 1)) (hstage1_1 (((slot1 a t) 1).cast nbuf1_1)) (spec1_2.stage ((slot1 a t) 2)) (hstage1_2 (((slot1 a t) 2).cast nbuf1_2)) (spec1_3.stage ((slot1 a t) 3)) (hstage1_3 (((slot1 a t) 3).cast nbuf1_3)) (spec1_4.stage ((slot1 a t) 4)) (hstage1_4 (((slot1 a t) 4).cast nbuf1_4)) (spec1_5.stage ((slot1 a t) 5)) (hstage1_5 (((slot1 a t) 5).cast nbuf1_5)) (spec1_6.stage ((slot1 a t) 6)) (hstage1_6 (((slot1 a t) 6).cast nbuf1_6)) (spec1_7.stage ((slot1 a t) 7)) (hstage1_7 (((slot1 a t) 7).cast nbuf1_7)) (spec1_8.stage ((slot1 a t) 8)) (hstage1_8 (((slot1 a t) 8).cast nbuf1_8)) (spec1_9.stage ((slot1 a t) 9)) (hstage1_9 (((slot1 a t) 9).cast nbuf1_9)) (spec1_10.stage ((slot1 a t) 10)) (hstage1_10 (((slot1 a t) 10).cast nbuf1_10)) (spec1_11.stage ((slot1 a t) 11)) (hstage1_11 (((slot1 a t) 11).cast nbuf1_11)) (spec1_12.stage ((slot1 a t) 12)) (hstage1_12 (((slot1 a t) 12).cast nbuf1_12)) (spec1_13.stage ((slot1 a t) 13)) (hstage1_13 (((slot1 a t) 13).cast nbuf1_13))
    (blk1 a W c 0 t) (blk1 a W c 1 t) (blk1 a W c 2 t) (blk1 a W c 4 t) (blk1 a W c 3 t) (blk1 a W c 5 t) (blk1 a W c 6 t) (blk1 a W c 7 t) x14 (blk1 a W c 8 t)
    (tbl a c) (tab0 a) (tab1 a) hT0 hT1
  rw [bigSep_W1, bigSep_W1, defs₀_row1 a t]
  rw [show (dat1 a W c).Φ t.castSucc = iprop(Pipeline.scopedRest spec1 c ∗ Pipeline.prefHeld pre1 c (fun _ => fullShare) a.1) from rfl,
    show (dat1 a W c).Φ t.succ = iprop(Pipeline.scopedRest spec1 c ∗ Pipeline.prefHeld pre1 c (fun _ => fullShare) a.1) from rfl,
    show (dat1 a W c).owesAt () t.succ = (dat1 a W c).owesAt () t.castSucc from rfl, prefHeld1]
  show iprop((Pipeline.scopedRest spec1 c ∗ (((c : Thread nD τ).loc main_v24) ↦{fullShare} tbl a c)) ∗ (dat1 a W c).owesAt () t.castSucc ∗ (∃ d, holds c (spec1_0.stage (slot1 a t 0)) ((dat1 a W c).before 0 t d)) ∗ (∃ d, holds c (spec1_1.stage (slot1 a t 1)) ((dat1 a W c).before 1 t d)) ∗ (∃ d, holds c (spec1_2.stage (slot1 a t 2)) ((dat1 a W c).before 2 t d)) ∗ (∃ d, holds c (spec1_3.stage (slot1 a t 3)) ((dat1 a W c).before 3 t d)) ∗ (∃ d, holds c (spec1_4.stage (slot1 a t 4)) ((dat1 a W c).before 4 t d)) ∗ (∃ d, holds c (spec1_5.stage (slot1 a t 5)) ((dat1 a W c).before 5 t d)) ∗ (∃ d, holds c (spec1_6.stage (slot1 a t 6)) ((dat1 a W c).before 6 t d)) ∗ (∃ d, holds c (spec1_7.stage (slot1 a t 7)) ((dat1 a W c).before 7 t d)) ∗ (∃ d, holds c (spec1_8.stage (slot1 a t 8)) ((dat1 a W c).before 8 t d)) ∗ (∃ d, holds c (spec1_9.stage (slot1 a t 9)) ((dat1 a W c).before 9 t d)) ∗ (∃ d, holds c (spec1_10.stage (slot1 a t 10)) ((dat1 a W c).before 10 t d)) ∗ (∃ d, holds c (spec1_11.stage (slot1 a t 11)) ((dat1 a W c).before 11 t d)) ∗ (∃ d, holds c (spec1_12.stage (slot1 a t 12)) ((dat1 a W c).before 12 t d)) ∗ (∃ d, holds c (spec1_13.stage (slot1 a t 13)) ((dat1 a W c).before 13 t d)))
    ⊢ wp frame (wpE (defs₀ (F := F)) Variants.none (c : Thread nD τ) none) Set.univ _ fun _ => iprop((Pipeline.scopedRest spec1 c ∗ (((c : Thread nD τ).loc main_v24) ↦{fullShare} tbl a c)) ∗ (dat1 a W c).owesAt () t.castSucc ∗ post1 a W c 0 t ∗ post1 a W c 1 t ∗ post1 a W c 2 t ∗ post1 a W c 3 t ∗ post1 a W c 4 t ∗ post1 a W c 5 t ∗ post1 a W c 6 t ∗ post1 a W c 7 t ∗ post1 a W c 8 t ∗ post1 a W c 9 t ∗ post1 a W c 10 t ∗ post1 a W c 11 t ∗ post1 a W c 12 t ∗ post1 a W c 13 t)
  iintro ⟨⟨Hsc, HT⟩, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  ihave H0 := (show holds c (spec1_0.stage (slot1 a t 0)) ((dat1 a W c).before 0 t d0) ⊢ (holds c (spec1_0.stage (slot1 a t 0)) (blk1 a W c 0 t) : sProp 𝕄) from Entails.of_eq (congrArg (holds c (spec1_0.stage (slot1 a t 0))) (before1 a W c 0 (by decide) t d0))) $$ H0
  ihave H1 := (show holds c (spec1_1.stage (slot1 a t 1)) ((dat1 a W c).before 1 t d1) ⊢ (holds c (spec1_1.stage (slot1 a t 1)) (blk1 a W c 1 t) : sProp 𝕄) from Entails.of_eq (congrArg (holds c (spec1_1.stage (slot1 a t 1))) (before1 a W c 1 (by decide) t d1))) $$ H1
  ihave H2 := (show holds c (spec1_2.stage (slot1 a t 2)) ((dat1 a W c).before 2 t d2) ⊢ (holds c (spec1_2.stage (slot1 a t 2)) (blk1 a W c 2 t) : sProp 𝕄) from Entails.of_eq (congrArg (holds c (spec1_2.stage (slot1 a t 2))) (before1 a W c 2 (by decide) t d2))) $$ H2
  ihave H3 := (show holds c (spec1_3.stage (slot1 a t 3)) ((dat1 a W c).before 3 t d3) ⊢ (holds c (spec1_3.stage (slot1 a t 3)) (blk1 a W c 3 t) : sProp 𝕄) from Entails.of_eq (congrArg (holds c (spec1_3.stage (slot1 a t 3))) (before1 a W c 3 (by decide) t d3))) $$ H3
  ihave H4 := (show holds c (spec1_4.stage (slot1 a t 4)) ((dat1 a W c).before 4 t d4) ⊢ (holds c (spec1_4.stage (slot1 a t 4)) (blk1 a W c 4 t) : sProp 𝕄) from Entails.of_eq (congrArg (holds c (spec1_4.stage (slot1 a t 4))) (before1 a W c 4 (by decide) t d4))) $$ H4
  ihave H5 := (show holds c (spec1_5.stage (slot1 a t 5)) ((dat1 a W c).before 5 t d5) ⊢ (holds c (spec1_5.stage (slot1 a t 5)) (blk1 a W c 5 t) : sProp 𝕄) from Entails.of_eq (congrArg (holds c (spec1_5.stage (slot1 a t 5))) (before1 a W c 5 (by decide) t d5))) $$ H5
  ihave H6 := (show holds c (spec1_6.stage (slot1 a t 6)) ((dat1 a W c).before 6 t d6) ⊢ (holds c (spec1_6.stage (slot1 a t 6)) (blk1 a W c 6 t) : sProp 𝕄) from Entails.of_eq (congrArg (holds c (spec1_6.stage (slot1 a t 6))) (before1 a W c 6 (by decide) t d6))) $$ H6
  ihave H7 := (show holds c (spec1_7.stage (slot1 a t 7)) ((dat1 a W c).before 7 t d7) ⊢ (holds c (spec1_7.stage (slot1 a t 7)) (blk1 a W c 7 t) : sProp 𝕄) from Entails.of_eq (congrArg (holds c (spec1_7.stage (slot1 a t 7))) (before1 a W c 7 (by decide) t d7))) $$ H7
  ihave H8 := (show holds c (spec1_8.stage (slot1 a t 8)) ((dat1 a W c).before 8 t d8) ⊢ (holds c (spec1_8.stage (slot1 a t 8)) (blk1 a W c 8 t) : sProp 𝕄) from Entails.of_eq (congrArg (holds c (spec1_8.stage (slot1 a t 8))) (before1 a W c 8 (by decide) t d8))) $$ H8
  have key := key ((dat1 a W c).before 12 t d12)
  unfold smallGiven smallGives smallReads at key
  have hset : (((Memref.whole main_v24).view.loc (c : Thread nD τ)) ↦[(Memref.whole main_v24).view.set]{fullShare} tbl a c : sProp 𝕄)
      = (((c : Thread nD τ).loc main_v24) ↦{fullShare} tbl a c) := by rw [show (Memref.whole main_v24).view.set = Finset.univ from View.set_whole main_v24]
  ihave Hwp := key $$ [HT H0 H1 H2 H3 H4 H5 H6 H7 H8 H9 H10 H11 H12 H13]
  · isplitl [HT]; · iapply (Entails.of_eq hset.symm); iexact HT
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitr [H12]
    · unfold Cert.Slots.Ring.some holds
      icases H9 with ⟨%f9, -, H9⟩
      icases H10 with ⟨%f10, -, H10⟩
      icases H11 with ⟨%f11, -, H11⟩
      icases H13 with ⟨%f13, -, H13⟩
      isplitl [H9]; · iexists _; iexact H9
      isplitl [H10]; · iexists _; iexact H10
      isplitl [H11]; · iexists _; iexact H11
      iexists _; iexact H13
    iexact H12
  · iapply (wp_wand frame (wpE (defs₀ (F := F)) Variants.none (c : Thread nD τ) none) Set.univ) $$ Hwp
    iintro %u ⟨HT, ⟨H0, H1, H2, H3, H4, H5, H6, H7, H8⟩, ⟨H9, H10, H11, H13⟩, H12⟩
    ihave HT := (Entails.of_eq hset) $$ HT
    isplitl [Hsc HT]
    · isplitl [Hsc]; · iexact Hsc
      iexact HT
    isplitl [Howes]; · iexact Howes
    isplitl [H0]; · iapply (show holds c (spec1_0.stage (slot1 a t 0)) (blk1 a W c 0 t) ⊢ post1 a W c 0 t from Entails.of_eq (post1_live a W c 0 t rfl).symm); iexact H0
    isplitl [H1]; · iapply (show holds c (spec1_1.stage (slot1 a t 1)) (blk1 a W c 1 t) ⊢ post1 a W c 1 t from Entails.of_eq (post1_live a W c 1 t rfl).symm); iexact H1
    isplitl [H2]; · iapply (show holds c (spec1_2.stage (slot1 a t 2)) (blk1 a W c 2 t) ⊢ post1 a W c 2 t from Entails.of_eq (post1_live a W c 2 t rfl).symm); iexact H2
    isplitl [H3]; · iapply (show holds c (spec1_3.stage (slot1 a t 3)) (blk1 a W c 3 t) ⊢ post1 a W c 3 t from Entails.of_eq (post1_live a W c 3 t rfl).symm); iexact H3
    isplitl [H4]; · iapply (show holds c (spec1_4.stage (slot1 a t 4)) (blk1 a W c 4 t) ⊢ post1 a W c 4 t from Entails.of_eq (post1_live a W c 4 t rfl).symm); iexact H4
    isplitl [H5]; · iapply (show holds c (spec1_5.stage (slot1 a t 5)) (blk1 a W c 5 t) ⊢ post1 a W c 5 t from Entails.of_eq (post1_live a W c 5 t rfl).symm); iexact H5
    isplitl [H6]; · iapply (show holds c (spec1_6.stage (slot1 a t 6)) (blk1 a W c 6 t) ⊢ post1 a W c 6 t from Entails.of_eq (post1_live a W c 6 t rfl).symm); iexact H6
    isplitl [H7]; · iapply (show holds c (spec1_7.stage (slot1 a t 7)) (blk1 a W c 7 t) ⊢ post1 a W c 7 t from Entails.of_eq (post1_live a W c 7 t rfl).symm); iexact H7
    isplitl [H8]; · iapply (show holds c (spec1_8.stage (slot1 a t 8)) (blk1 a W c 8 t) ⊢ post1 a W c 8 t from Entails.of_eq (post1_live a W c 8 t rfl).symm); iexact H8
    isplitl [H9]; · iapply (show holds c (spec1_9.stage (slot1 a t 9)) (rowPooled (F := F) (grid1.coords t) (tab0 a) (blk1 a W c 2 t) (blk1 a W c 4 t)) ⊢ post1 a W c 9 t from Entails.of_eq (post1_live a W c 9 t (idle_rows a t _)).symm); iexact H9
    isplitl [H10]; · iapply (show holds c (spec1_10.stage (slot1 a t 10)) (rowPatches (F := F) (grid1.coords t) (tab0 a) (blk1 a W c 3 t) (blk1 a W c 5 t)) ⊢ post1 a W c 10 t from Entails.of_eq (post1_live a W c 10 t (idle_rows a t _)).symm); iexact H10
    isplitl [H11]; · iapply (show holds c (spec1_11.stage (slot1 a t 11)) (rowState (F := F) (grid1.coords t) (tab0 a) (blk1 a W c 1 t) (blk1 a W c 6 t)) ⊢ post1 a W c 11 t from Entails.of_eq (post1_live a W c 11 t (idle_rows a t _)).symm); iexact H11
    isplitl [H12]; · iapply (post1_times a W c t d12); iexact H12
    iapply (show holds c (spec1_13.stage (slot1 a t 13)) (rowSource (F := F) (grid1.coords t) (tab0 a) (tab1 a) (blk1 a W c 8 t)) ⊢ post1 a W c 13 t from Entails.of_eq (post1_live a W c 13 t (idle_rows a t _)).symm); iexact H13

/-- What is held of the operands the second region does not stage: its table, and the others. -/
def aside1 (c : Dev nD) (X : Valuation τ sig (Elt F)) : sProp 𝕄 :=
  bigSep (Pipeline.restRefs sig spec1 \ {main_v24}) fun b => ((c : Thread nD τ).loc b) ↦{fullShare} X (Proc.devRef .tc b)

theorem rest1_split (c : Dev nD) (X : Valuation τ sig (Elt F)) :
    (Pipeline.unscopedRest (Ix := Unit) (Name := ℕ) (U := UU) (Lvl := ℕ) spec1 c (fun b => X b) : sProp 𝕄)
      = iprop((((c : Thread nD τ).loc main_v24) ↦{fullShare} X main_v24) ∗ aside1 c X) := by
  rw [Pipeline.unscopedRest_sdiff spec1 {main_v24} (by decide) c (fun b => X b), bigSep_singleton]
  rfl

variable (V Vp : Dev nD → Valuation τ sig (Elt F))
variable (adm : (p : Fin 2) → (pcfgs (F := F) p).Adm)
variable (L : GSem nD τ sig → Finset Unit) (lv : GSem nD τ sig → Unit → ℕ)
variable (Wp : Dev nD → Valuation τ sig (Elt F))

set_option backward.isDefEq.respectTransparency.types false in
/-- The second kernel as a region: from `W` to any `Wp` that has the five results' arrays as the region leaves them. -/
def reg1 (htab : ∀ c, (adm 1).1 0 = W c main_v24) (hout : ∀ (c : Dev nD) (w : Fin 14), (dat1 (adm 1) W c).arrAt w (cfg1 (adm 1)).N = Wp c (Proc.devRef .tc (Pipeline.arrRef spec1 w)))
    (hrest : ∀ (c : Dev nD) (b : Ref sig .tc), b ∉ Finset.univ.image (Pipeline.arrRef spec1) → Wp c b = W c b) :
    Pipeline.RegionSeg (pcfgs (F := F)) adm (pdats V Vp adm (dat1 (adm 1) W)) () defs₀ Variants.none L lv 1 where
  win := (launch1 (F := F)).win.to₀
  block_pos := (launch1 (F := F)).block_pos
  stage_whole := (launch1 (F := F)).stage_whole
  K := PEmpty
  osem k := k.elim
  ho := Pipeline.OwnSemFacts.none _
  hbody c := (body1 (adm 1) W c).loose
  hwaits := Pipeline.hwaits_of_owed_zero _ _ _ _ L lv 1 fun _ _ => rfl
  pre c := iprop(unscopedBufs c (fun b => W c b) ∗ quiet c)
  post c := iprop(unscopedBufs c (fun b => Wp c b) ∗ quiet c)
  X _ := BI.emp
  Y c := iprop(((c : Thread nD τ).loc main_v24) ↦{fullShare} W c main_v24)
  Z c := aside1 c (W c)
  hentry c := by
    rw [Pipeline.ownSems0_none]
    have hsplit := Pipeline.arrays_of_unscopedBufs (p := 1) (pcfgs (F := F)) adm (pdats V Vp adm (dat1 (adm 1) W)) (launch1 (F := F)).win (launch1 (F := F)).arr_whole c
      ((pdats V Vp adm (dat1 (adm 1) W) 1 c).share_full fun _ => rfl) (fun b => W c b) fun _ => rfl
    have hr := rest1_split c (W c)
    have hp := (prefHeld1 (adm 1) c).symm
    have ht : (((c : Thread nD τ).loc main_v24) ↦{fullShare} W c main_v24 : sProp 𝕄) = (((c : Thread nD τ).loc main_v24) ↦{fullShare} tbl (adm 1) c) :=
      congrArg _ (htab c).symm
    unfold quiet
    iintro ⟨⟨Hub, HO⟩, -, -⟩
    ihave H := hsplit $$ Hub
    icases H with ⟨Ha, Hrest⟩
    ihave Hrest := (Entails.of_eq hr) $$ Hrest
    icases Hrest with ⟨Ht, Hz⟩
    ihave Ht := (Entails.of_eq ht) $$ Ht
    ihave Ht := (Entails.of_eq hp) $$ Ht
    imodintro
    isplitl [Ha]; · iexact Ha
    isplitl [Ht]; · iexact Ht
    isplitl [HO]
    · unfold Pipeline.Dat.owesAt Pipeline.owesWithin
      icases HO with ⟨%Wt, HO⟩; iexists Wt; isplitr; · ipureintro; exact fun _ _ => Or.inl trivial
      iexact HO
    isplitr; · iempintro
    iexact Hz
  hin c := by
    rw [show (pdats V Vp adm (dat1 (adm 1) W) 1 c).Φ 0 = iprop(Pipeline.scopedRest spec1 c ∗ Pipeline.prefHeld pre1 c (fun _ => fullShare) (adm 1).1) from rfl]
    iintro ⟨-, Hp, Hr⟩
    isplitl [Hr]; · iexact Hr
    iexact Hp
  hout c := by
    rw [Pipeline.ownSems0_none, show (pdats V Vp adm (dat1 (adm 1) W) 1 c).Φ (Fin.last _) = iprop(Pipeline.scopedRest spec1 c ∗ Pipeline.prefHeld pre1 c (fun _ => fullShare) (adm 1).1) from rfl]
    have hp := prefHeld1 (adm 1) c
    have ht : (((c : Thread nD τ).loc main_v24) ↦{fullShare} W c main_v24 : sProp 𝕄) = (((c : Thread nD τ).loc main_v24) ↦{fullShare} tbl (adm 1) c) :=
      congrArg _ (htab c).symm
    iintro ⟨Hr, Hp⟩
    isplitl [Hp]; · iapply (Entails.of_eq ht.symm); iapply (Entails.of_eq hp); iexact Hp
    isplitr; · iempintro
    iexact Hr
  hexit c := by
    have hjoin := Pipeline.unscopedBufs_of_arrays (p := 1) (pcfgs (F := F)) adm (Ix := Unit) (Name := ℕ) (U := UU) (Lvl := ℕ) (launch1 (F := F)).win (launch1 (F := F)).arr_whole c
      (pdats V Vp adm (dat1 (adm 1) W)) ((pdats V Vp adm (dat1 (adm 1) W) 1 c).share_full fun _ => rfl) (fun b => W c b) (fun b => Wp c b) ((pdats V Vp adm (dat1 (adm 1) W) 1 c).arrAt · (cfg1 (adm 1)).N)
      (hout c) (hrest c)
    have hr := (rest1_split c (W c)).symm
    unfold quiet
    iintro ⟨Ha, HO, Ht, Hz⟩
    imodintro
    isplitl [Ha Ht Hz]
    · iapply hjoin; isplitl [Ha]; · iexact Ha
      iapply (Entails.of_eq hr)
      isplitl [Ht]; · iexact Ht
      iexact Hz
    unfold Pipeline.Dat.owesAt Pipeline.owesWithin
    icases HO with ⟨%Wt, -, HO⟩; iexists Wt; iexact HO

end Cert.KernelIdeal.Hand

end
-- ==== Proof.Run.lean ====
/-
  The whole program's run: the host operations and the two kernels in order, from any memory, with what every buffer
  outside the kernels' scopes holds at the end.
-/
module

public import proofs.«01_k».proof.Proof.Host
public import proofs.«01_k».proof.Proof.Region1

@[expose] public section

noncomputable section

namespace Cert.KernelIdeal.Hand

open Cert.KernelIdeal Cert.KernelIdeal.Gen Cert.Slots
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Slots.Ring (quiet)

variable {F : FTy → Type} [FloatOps F] [Named F] (m : (ℓ : Loc nD τ sig) → Buf (Elt F) ℓ)

local notation "𝕄" => MT nD τ sig Unit (Elt F) ℕ UU ℕ

/-- Every buffer at the second kernel's entry. -/
def W (c : Dev nD) : Valuation τ sig (Elt F) := StableHlo.after hostOps1 (Vp m c)

/-- The tables the two kernels are launched with: the first has none. -/
def adm1 : (pcfg1 (F := F)).Adm := ⟨fun k => match k with | ⟨0, _⟩ => W m 0 main_v24, trivial⟩
@[inherit_doc adm1] def adm : (p : Fin 2) → (pcfgs (F := F) p).Adm
  | ⟨0, _⟩ => cfg0.toPCfg_adm
  | ⟨1, _⟩ => adm1 m
  | ⟨_ + 2, h⟩ => absurd h (Nat.not_lt.2 (Nat.le_add_left _ _))

/-- A window's array after the second kernel. -/
def left (c : Dev nD) (w : Fin 14) : Buf (Elt F) ((((cfg1 (adm1 m)).win w).arr).view.loc (c : Thread nD τ)) :=
  (dat1 (adm1 m) (W m) c).arrAt w (cfg1 (adm1 m)).N

/-- Every buffer after the second kernel. -/
def Wp (c : Dev nD) : Valuation τ sig (Elt F) :=
  Function.update (Function.update (Function.update (Function.update (Function.update (W m c)
    main_v25_0 (left m c 9)) main_v25_1 (left m c 10)) main_v25_2 (left m c 11)) main_v25_3 (left m c 12)) main_v25_4 (left m c 13)

/-- What the kernels leave, as the program's items ask for it. -/
def outs : Outs (F := F) := fun n r c => if n = 4 then Vp m c r else Wp m c r

theorem outs_four (r : Ref sig .tc) (c : Dev nD) : outs m 4 r c = Vp m c (Proc.devRef .tc r) := if_pos rfl
theorem outs_six (r : Ref sig .tc) (c : Dev nD) : outs m 6 r c = Wp m c (Proc.devRef .tc r) := if_neg (by decide)

/-- An array written with what `g` has there makes a valuation agree with `g` at that buffer. -/
theorem update_agree (f g : Valuation τ sig (Elt F)) (i : DevRef τ sig) (x : i.ty.Contents (Elt F)) (hx : x = g i) (b : DevRef τ sig) (h : b ≠ i → f b = g b) :
    Function.update f i x b = g b := by
  by_cases hb : b = i
  · subst hb; rw [hx]; exact Function.update_self ..
  · rw [Function.update_of_ne hb]; exact h hb

theorem V4_eq (c : Dev nD) : V4 m (outs m) c = Vp m c := by
  funext b
  refine update_agree _ (Vp m c) _ _ (outs_four m _ c) b fun h1 => ?_
  refine update_agree _ (Vp m c) _ _ (outs_four m _ c) b fun h0 => ?_
  refine update_agree _ (Vp m c) _ _ (outs_four m _ c) b fun _ => ?_
  refine update_agree _ (Vp m c) _ _ (outs_four m _ c) b fun _ => ?_
  refine update_agree _ (Vp m c) _ _ (outs_four m _ c) b fun _ => ?_
  refine update_agree _ (Vp m c) _ _ (outs_four m _ c) b fun _ => ?_
  refine update_agree _ (Vp m c) _ _ (outs_four m _ c) b fun h2 => ?_
  unfold Vp
  rw [Function.update_of_ne h1, Function.update_of_ne h0, Function.update_of_ne h2]

theorem V5_eq (c : Dev nD) : V5 m (outs m) c = W m c := congrArg (StableHlo.after hostOps1) (V4_eq m c)

theorem V6_eq (c : Dev nD) : V6 m (outs m) c = Wp m c := by
  funext b
  refine update_agree _ (Wp m c) _ _ (outs_six m _ c) b fun h4 => ?_
  refine update_agree _ (Wp m c) _ _ (outs_six m _ c) b fun h3 => ?_
  refine update_agree _ (Wp m c) _ _ (outs_six m _ c) b fun h2 => ?_
  refine update_agree _ (Wp m c) _ _ (outs_six m _ c) b fun h1 => ?_
  refine update_agree _ (Wp m c) _ _ (outs_six m _ c) b fun h0 => ?_
  unfold Wp
  rw [Function.update_of_ne h4, Function.update_of_ne h3, Function.update_of_ne h2, Function.update_of_ne h1, Function.update_of_ne h0]
  exact congrFun (V5_eq m c) b

theorem Wp_of (c : Dev nD) (b : Ref sig .tc) (h0 : b ≠ main_v25_0) (h1 : b ≠ main_v25_1) (h2 : b ≠ main_v25_2) (h3 : b ≠ main_v25_3) (h4 : b ≠ main_v25_4) :
    Wp m c b = W m c b := by
  unfold Wp
  rw [Function.update_of_ne (StableHlo.devRef_ne_of_ne h4), Function.update_of_ne (StableHlo.devRef_ne_of_ne h3), Function.update_of_ne (StableHlo.devRef_ne_of_ne h2),
    Function.update_of_ne (StableHlo.devRef_ne_of_ne h1), Function.update_of_ne (StableHlo.devRef_ne_of_ne h0)]

theorem Wp_9 (c : Dev nD) : Wp m c main_v25_0 = left m c 9 := by
  unfold Wp
  rw [Function.update_of_ne (StableHlo.devRef_ne_of_ne (by decide)), Function.update_of_ne (StableHlo.devRef_ne_of_ne (by decide)),
    Function.update_of_ne (StableHlo.devRef_ne_of_ne (by decide)), Function.update_of_ne (StableHlo.devRef_ne_of_ne (by decide)), Function.update_self]
theorem Wp_10 (c : Dev nD) : Wp m c main_v25_1 = left m c 10 := by
  unfold Wp
  rw [Function.update_of_ne (StableHlo.devRef_ne_of_ne (by decide)), Function.update_of_ne (StableHlo.devRef_ne_of_ne (by decide)),
    Function.update_of_ne (StableHlo.devRef_ne_of_ne (by decide)), Function.update_self]
theorem Wp_11 (c : Dev nD) : Wp m c main_v25_2 = left m c 11 := by
  unfold Wp
  rw [Function.update_of_ne (StableHlo.devRef_ne_of_ne (by decide)), Function.update_of_ne (StableHlo.devRef_ne_of_ne (by decide)), Function.update_self]
theorem Wp_12 (c : Dev nD) : Wp m c main_v25_3 = left m c 12 := by
  unfold Wp
  rw [Function.update_of_ne (StableHlo.devRef_ne_of_ne (by decide)), Function.update_self]
theorem Wp_13 (c : Dev nD) : Wp m c main_v25_4 = left m c 13 := by
  unfold Wp
  rw [Function.update_self]

theorem Wp_in (c : Dev nD) (w : Fin 14) (hw : ((cfg1 (adm1 m)).win w).isOut = false)
    (hb : ∀ b ∈ ([main_v25_0, main_v25_1, main_v25_2, main_v25_3, main_v25_4] : List (Ref sig .tc)), Pipeline.arrRef spec1 w ≠ b) :
    (dat1 (adm1 m) (W m) c).arrAt w (cfg1 (adm1 m)).N = Wp m c (Proc.devRef .tc (Pipeline.arrRef spec1 w)) :=
  ((dat1 (adm1 m) (W m) c).arrAt_in w hw _).trans (Wp_of m c _ (hb _ (by simp)) (hb _ (by simp)) (hb _ (by simp)) (hb _ (by simp)) (hb _ (by simp))).symm

set_option maxHeartbeats 2000000 in
theorem arrAt1 (c : Dev nD) (w : Fin 14) :
    (dat1 (adm1 m) (W m) c).arrAt w (cfg1 (adm1 m)).N = Wp m c (Proc.devRef .tc (Pipeline.arrRef spec1 w)) := by
  match w with
  | ⟨0, _⟩ => exact Wp_in m c 0 rfl (by decide)
  | ⟨1, _⟩ => exact Wp_in m c 1 rfl (by decide)
  | ⟨2, _⟩ => exact Wp_in m c 2 rfl (by decide)
  | ⟨3, _⟩ => exact Wp_in m c 3 rfl (by decide)
  | ⟨4, _⟩ => exact Wp_in m c 4 rfl (by decide)
  | ⟨5, _⟩ => exact Wp_in m c 5 rfl (by decide)
  | ⟨6, _⟩ => exact Wp_in m c 6 rfl (by decide)
  | ⟨7, _⟩ => exact Wp_in m c 7 rfl (by decide)
  | ⟨8, _⟩ => exact Wp_in m c 8 rfl (by decide)
  | ⟨9, _⟩ => exact (Wp_9 m c).symm
  | ⟨10, _⟩ => exact (Wp_10 m c).symm
  | ⟨11, _⟩ => exact (Wp_11 m c).symm
  | ⟨12, _⟩ => exact (Wp_12 m c).symm
  | ⟨13, _⟩ => exact (Wp_13 m c).symm

theorem out_mem : ∀ b ∈ ([main_v25_0, main_v25_1, main_v25_2, main_v25_3, main_v25_4] : List (Ref sig .tc)), b ∈ Finset.univ.image (Pipeline.arrRef spec1) := by
  decide

theorem Wp_rest (c : Dev nD) (b : Ref sig .tc) (h : b ∉ Finset.univ.image (Pipeline.arrRef spec1)) : Wp m c b = W m c b :=
  Wp_of m c b (fun e => h (e ▸ out_mem _ (by simp))) (fun e => h (e ▸ out_mem _ (by simp))) (fun e => h (e ▸ out_mem _ (by simp)))
    (fun e => h (e ▸ out_mem _ (by simp))) (fun e => h (e ▸ out_mem _ (by simp)))

/-- The proof data of the two kernels. -/
def data : (p : Fin 2) → (c : Dev nD) → Dat τ (Elt F) Unit ℕ UU ℕ (Pipeline.pin (pcfgs (F := F)) (adm m) p) c :=
  pdats (V3 m) (Vp m) (adm m) (dat1 (adm1 m) (W m))

/-- The two kernels as regions. -/
def R0 : RegionSeg (pcfgs (F := F)) (adm m) (data m) () defs₀ Variants.none (fun _ => ∅) (fun _ _ => 0) 0 :=
  reg0 (V3 m) (Vp m) (adm m) (dat1 (adm1 m) (W m)) (fun _ => ∅) (fun _ _ => 0) (streamed m)
@[inherit_doc R0] def R1 : RegionSeg (pcfgs (F := F)) (adm m) (data m) () defs₀ Variants.none (fun _ => ∅) (fun _ _ => 0) 1 :=
  reg1 (W m) (V3 m) (Vp m) (adm m) (fun _ => ∅) (fun _ _ => 0) (Wp m) (fun c => by rw [Subsingleton.elim c 0]; rfl) (arrAt1 m) (Wp_rest m)

/-- What the program's items hand each other is what the two regions ask for and leave. -/
theorem held_pre0 (c : Dev nD) : (iprop(StableHlo.held (c : Thread nD τ) (Pipeline.ucRefs τ sig) (V3 m c) ∗ quiet c) : sProp 𝕄) ⊢ (R0 m).pre c := by
  rw [← Pipeline.unscopedBufs_held]; exact .rfl
@[inherit_doc held_pre0] theorem held_post0 (c : Dev nD) : (R0 m).post c ⊢ (iprop(StableHlo.held (c : Thread nD τ) (Pipeline.ucRefs τ sig) (V4 m (outs m) c) ∗ quiet c) : sProp 𝕄) := by
  rw [V4_eq, ← Pipeline.unscopedBufs_held]; exact .rfl
@[inherit_doc held_pre0] theorem held_pre1 (c : Dev nD) : (iprop(StableHlo.held (c : Thread nD τ) (Pipeline.ucRefs τ sig) (V5 m (outs m) c) ∗ quiet c) : sProp 𝕄) ⊢ (R1 m).pre c := by
  rw [V5_eq, ← Pipeline.unscopedBufs_held]; exact .rfl
@[inherit_doc held_pre0] theorem held_post1 (c : Dev nD) : (R1 m).post c ⊢ (iprop(StableHlo.held (c : Thread nD τ) (Pipeline.ucRefs τ sig) (V6 m (outs m) c) ∗ quiet c) : sProp 𝕄) := by
  rw [V6_eq, ← Pipeline.unscopedBufs_held]; exact .rfl

theorem quiet_ends (c : Dev nD) : (quiet c : sProp 𝕄) ⊢ iprop(∃ W, owes (c : Thread nD τ) (0 : CellTallies nD τ sig Unit) W) := by
  unfold quiet; exact .rfl

theorem launch_one (ρ : Dev nD → PrngReg) (c : Dev nD) :
    (iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp) : sProp 𝕄)
      ⊢ (iprop(unscopedBufs c (fun b => V0 m c b) ∗ quiet c) : sProp 𝕄) := by
  unfold quiet
  iintro ⟨H, -, Ho, -⟩
  isplitl [H]; · iexact H
  iexists _; iexact Ho

/-- The launch: every unscoped buffer of every core as the memory has it, beside what else a core starts with. -/
theorem launch_split (ρ : Dev nD → PrngReg) :
    (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0) c ∗ prngReg c (ρ c) ∗ emp))
      ⊢ (iprop((bigSep Finset.univ fun c : Dev nD => unscopedBufs c (fun b => V0 m c b)) ∗ bigSep Finset.univ fun c : Dev nD => quiet c) : sProp 𝕄) := by
  rw [← bigSep_sep']
  exact bigSep_mono fun c _ => launch_one m ρ c

set_option backward.isDefEq.respectTransparency.types false in
/-- From any memory with every semaphore at zero the program ends, every buffer outside the kernels' scopes holding
    what the last of its valuations says, every semaphore again at zero. -/
theorem run (ρ : Dev nD → PrngReg) :
    θ_run (defs (F := F)) (onTc (τ := τ) (main (F := F))) ⟨m, fun _ => 0, ρ⟩ (fun r =>
      (∀ c : Dev nD, ∀ b ∈ Pipeline.ucRefs τ sig, r.2.mem ((c : Thread nD τ).1, b) = V7 m (outs m) c b) ∧ r.2.sem = fun _ => 0) := by
  refine Pipeline.θ_run_regions_kit_dev_sems (pcfgs (F := F)) (adm m) (data m) () (cellOf_inj (adm m)) embL defs₀ Variants.none (fun _ => ∅) (fun _ _ => 0) m ρ main
    (segs m (outs m) Variants.none (fun _ => ∅) (fun _ _ => 0) (fun _ c => quiet c) () (adm m) (data m) (R0 m) (R1 m))
    (fun c Q => by
      rewrite [main_chain c, Seg.run_eq_chain,
        show (segs m (outs m) Variants.none (fun _ => ∅) (fun _ _ => 0) (fun _ c => quiet c) () (adm m) (data m) (R0 m) (R1 m) c).map Seg.prog = [
          StableHlo.seq hostOps0, StableHlo.seq hostOps0_1, StableHlo.seq hostOps0_2, Prog.lift (.customCall (Pipeline.entry 0) ()),
          StableHlo.seq hostOps1, Prog.lift (.customCall (Pipeline.entry 1) ()), StableHlo.seq hostOps2 ] from rfl]
      dsimp (config := { failIfUnchanged := false }) only
      exact .rfl)
    (fun c => by simp only [segs, Seg.pipes_host, Seg.pipes_region, Seg.pipes_nil]; decide) (fun _ => 0) (fun _ _ => rfl) (fun _ => iprop(emp))
    (initOf (Pipeline.cells (Pipeline.pin (pcfgs (F := F)) (adm m)) (cellOf_inj (adm m))) (Pipeline.launchToks (Pipeline.pin (pcfgs (F := F)) (adm m)) (cellOf_inj (adm m))), 1)
    (by
      iintro Hu
      ihave H' := (ownU_pair _ _) $$ Hu
      icases H' with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ quiet c))
    (Tₙ := fun c => StableHlo.held (c : Thread nD τ) (Pipeline.ucRefs τ sig) (V7 m (outs m) c))
    (hch := fun c => ⟨.rfl, .rfl, .rfl, held_pre0 m c, held_post0 m c, held_pre1 m c, held_post1 m c, BIClass.sep_mono .rfl (quiet_ends c)⟩)
    (hinit := ?_) (QY := fun c s => ∀ b ∈ Pipeline.ucRefs τ sig, s.mem ((c : Thread nD τ).1, b) = V7 m (outs m) c b)
    (hfin := fun c s' => ?_) (hQ := fun _ h hz => ⟨h, funext fun g => hz g (.inr (regions_no_unscoped g.2))⟩)
  · iintro ⟨H, -⟩
    ihave H' := (launch_split m ρ) $$ H
    imodintro
    rw [bigSep_sep']
    simp only [← Pipeline.unscopedBufs_held]
    iexact H'
  · unfold StableHlo.held
    iintro ⟨Hh, HSI⟩
    ihave Hr := (pointsTo_read_all (Pipeline.ucRefs τ sig) (fun b => ((c : Thread nD τ).1, b)) (V7 m (outs m) c) s') $$ [Hh HSI]
    · isplitl [Hh] <;> iassumption
    icases Hr with ⟨%h, HSI⟩
    imodintro
    isplitr
    · ipureintro; exact h
    · iexact HSI

theorem kept_of (r : PUnit × MemSt nD τ sig (Elt F)) (c : Dev nD) (h : ∀ b ∈ Pipeline.ucRefs τ sig, r.2.mem ((c : Thread nD τ).1, b) = V7 m (outs m) c b)
    (b : Ref sig .tc) (hb : Proc.devRef .tc b ∈ Pipeline.ucRefs τ sig) (hV : V7 m (outs m) c b = m ((c.tc : Thread nD τ).loc b)) :
    r.2.mem ((c.tc : Thread nD τ).loc b) = m ((c.tc : Thread nD τ).loc b) := (h _ hb).trans hV

theorem uc_mem (b : Ref sig .tc) (h : Proc.devRef (τ := τ) .tc b ∈ Pipeline.ucRefs τ sig := by exact Finset.mem_filter.mpr ⟨StableHlo.devRef_mem_tcRefs _, by decide⟩) :
    Proc.devRef (τ := τ) .tc b ∈ Pipeline.ucRefs τ sig := h

/-- Every argument ends as it began. -/
theorem kept (r : PUnit × MemSt nD τ sig (Elt F)) (c : Dev nD) (h : ∀ b ∈ Pipeline.ucRefs τ sig, r.2.mem ((c : Thread nD τ).1, b) = V7 m (outs m) c b) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) :=
  ⟨kept_of m r c h _ (uc_mem main_arg0) (V7_main_arg0 m (outs m) c), kept_of m r c h _ (uc_mem main_arg1) (V7_main_arg1 m (outs m) c), kept_of m r c h _ (uc_mem main_arg2) (V7_main_arg2 m (outs m) c), kept_of m r c h _ (uc_mem main_arg3) (V7_main_arg3 m (outs m) c), kept_of m r c h _ (uc_mem main_arg4) (V7_main_arg4 m (outs m) c), kept_of m r c h _ (uc_mem main_arg5) (V7_main_arg5 m (outs m) c), kept_of m r c h _ (uc_mem main_arg6) (V7_main_arg6 m (outs m) c), kept_of m r c h _ (uc_mem main_arg7) (V7_main_arg7 m (outs m) c), kept_of m r c h _ (uc_mem main_arg8) (V7_main_arg8 m (outs m) c), kept_of m r c h _ (uc_mem main_arg9) (V7_main_arg9 m (outs m) c), kept_of m r c h _ (uc_mem main_arg10) (V7_main_arg10 m (outs m) c), kept_of m r c h _ (uc_mem main_arg11) (V7_main_arg11 m (outs m) c), kept_of m r c h _ (uc_mem main_arg12) (V7_main_arg12 m (outs m) c)⟩

end Cert.KernelIdeal.Hand
-- ==== Proof.Ref.lean ====
/-
  The reference's run: its operations in order, every buffer at the end holding what they leave there.
-/
module

public import proofs.«01_k».proof.Proof.Gen.ReferenceIdeal
public import Idealize.ShloMosaic.Lib.StableHlo.RunHlo
public import Idealize.ShloMosaic.Lib.Claim

@[expose] public section

noncomputable section

namespace Cert.ReferenceIdeal.Hand

open Cert.ReferenceIdeal Cert.ReferenceIdeal.Gen
open Idealize.ShloMosaic Idealize.ShloMosaic.TcCoe Idealize.SL.Sem

variable {F : FTy → Type} [FloatOps F]

/-- The first half of the operations, in order. -/
abbrev ops0 : List (HloOp τ sig (Elt F)) :=
  [ StableHlo.nullary main_c (constantI S_ 32 16#32),
    StableHlo.TRef.unary (.of main_c : StableHlo.TRef sig ⟨S_, .i32⟩) (.of main_call0_v0 : StableHlo.TRef sig ⟨S_, .i32⟩) id,
    StableHlo.TRef.nullary (.of main_call0_c : StableHlo.TRef sig ⟨S_, .i32⟩) (constantI S_ 32 0#32),
    StableHlo.TRef.binary (.of main_call0_v0 : StableHlo.TRef sig ⟨S_, .i32⟩) (.of main_call0_c : StableHlo.TRef sig ⟨S_, .i32⟩) (.of main_call0_v1 : StableHlo.TRef sig ⟨S_, .i1⟩) (cmpi .eq),
    StableHlo.TRef.nullary (.of main_call0_c_0 : StableHlo.TRef sig ⟨S_, .i32⟩) (constantI S_ 32 1#32),
    StableHlo.TRef.ternary (.of main_call0_v1 : StableHlo.TRef sig ⟨S_, .i1⟩) (.of main_call0_c_0 : StableHlo.TRef sig ⟨S_, .i32⟩) (.of main_call0_v0 : StableHlo.TRef sig ⟨S_, .i32⟩) (.of main_call0_v2 : StableHlo.TRef sig ⟨S_, .i32⟩) select,
    StableHlo.TRef.binary (.of main_arg5 : StableHlo.TRef sig ⟨S_, .i32⟩) main_call0_call0.v0 (.of main_call0_v3 : StableHlo.TRef sig ⟨S_, .i32⟩) Host.remsi,
    StableHlo.TRef.nullary (.of main_call0_c_1 : StableHlo.TRef sig ⟨S_, .i32⟩) (constantI S_ 32 0#32),
    StableHlo.TRef.binary (.of main_call0_v3 : StableHlo.TRef sig ⟨S_, .i32⟩) (.of main_call0_c_1 : StableHlo.TRef sig ⟨S_, .i32⟩) (.of main_call0_v4 : StableHlo.TRef sig ⟨S_, .i1⟩) (cmpi .ne),
    StableHlo.TRef.nullary (.of main_call0_c_2 : StableHlo.TRef sig ⟨S_, .i32⟩) (constantI S_ 32 0#32),
    StableHlo.TRef.binary (.of main_call0_v3 : StableHlo.TRef sig ⟨S_, .i32⟩) (.of main_call0_c_2 : StableHlo.TRef sig ⟨S_, .i32⟩) (.of main_call0_v5 : StableHlo.TRef sig ⟨S_, .i1⟩) (cmpi .slt),
    StableHlo.TRef.nullary (.of main_call0_c_3 : StableHlo.TRef sig ⟨S_, .i32⟩) (constantI S_ 32 0#32),
    StableHlo.TRef.binary main_call0_call0.v0 (.of main_call0_c_3 : StableHlo.TRef sig ⟨S_, .i32⟩) (.of main_call0_v6 : StableHlo.TRef sig ⟨S_, .i1⟩) (cmpi .slt),
    StableHlo.TRef.binary (.of main_call0_v5 : StableHlo.TRef sig ⟨S_, .i1⟩) (.of main_call0_v6 : StableHlo.TRef sig ⟨S_, .i1⟩) (.of main_call0_v7 : StableHlo.TRef sig ⟨S_, .i1⟩) (cmpi .ne),
    StableHlo.TRef.binary (.of main_call0_v7 : StableHlo.TRef sig ⟨S_, .i1⟩) (.of main_call0_v4 : StableHlo.TRef sig ⟨S_, .i1⟩) (.of main_call0_v8 : StableHlo.TRef sig ⟨S_, .i1⟩) andi,
    StableHlo.TRef.binary (.of main_call0_v3 : StableHlo.TRef sig ⟨S_, .i32⟩) main_call0_call0.v0 (.of main_call0_v9 : StableHlo.TRef sig ⟨S_, .i32⟩) addi,
    StableHlo.TRef.ternary (.of main_call0_v8 : StableHlo.TRef sig ⟨S_, .i1⟩) (.of main_call0_v9 : StableHlo.TRef sig ⟨S_, .i32⟩) (.of main_call0_v3 : StableHlo.TRef sig ⟨S_, .i32⟩) (.of main_v0 : StableHlo.TRef sig ⟨S_, .i32⟩) select,
    StableHlo.reshape main_arg0 main_v1 (rfl : (.f32 : EltTy) = .f32) shapeCasts_S1x128x128x128_S128x128x128,
    StableHlo.nullary main_c_0 (constantI S_ 32 0#32),
    StableHlo.binary main_v0 main_c_0 main_v2 (cmpi .slt : (⟨S_, .i32⟩ : BufTy).Contents (Elt F) → (⟨S_, .i32⟩ : BufTy).Contents (Elt F) → (⟨S_, .i1⟩ : BufTy).Contents (Elt F)),
    StableHlo.nullary main_c_1 (constantI S_ 32 16#32),
    StableHlo.binary main_v0 main_c_1 main_v3 (addi : (⟨S_, .i32⟩ : BufTy).Contents (Elt F) → (⟨S_, .i32⟩ : BufTy).Contents (Elt F) → (⟨S_, .i32⟩ : BufTy).Contents (Elt F)),
    StableHlo.ternary main_v2 main_v3 main_v0 main_v4 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v4 main_v5 (broadcastInDim S1 ![] bcast_S_S1 : (⟨S_, .i32⟩ : BufTy).Contents (Elt F) → (⟨S1, .i32⟩ : BufTy).Contents (Elt F)),
    StableHlo.ternary main_arg6 main_v5 main_v1 main_v6 ((fun x i u => Host.scatter scatter_S16x128x128x128_S1_S128x128x128_012_0_0_0 (fun _ b => b) x i u) : (⟨S16x128x128x128, .f32⟩ : BufTy).Contents (Elt F) → (⟨S1, .i32⟩ : BufTy).Contents (Elt F) → (⟨S128x128x128, .f32⟩ : BufTy).Contents (Elt F) → (⟨S16x128x128x128, .f32⟩ : BufTy).Contents (Elt F)),
    StableHlo.reshape main_v1 main_v7 (rfl : (.f32 : EltTy) = .f32) shapeCasts_S128x128x128_S128x32x4x32x4,
    StableHlo.nullary main_cst (constant S_ .f32 0x00000000#32),
    StableHlo.binary main_v7 main_cst main_v8 ((fun x v => Host.reduceAdd x v reducesTo_S128x32x4x32x4_S128x32x32_d2_4 h_S_) : (⟨S128x32x4x32x4, .f32⟩ : BufTy).Contents (Elt F) → (⟨S_, .f32⟩ : BufTy).Contents (Elt F) → (⟨S128x32x32, .f32⟩ : BufTy).Contents (Elt F)),
    StableHlo.nullary main_cst_2 (constant S_ .f32 0x41800000#32),
    StableHlo.unary main_cst_2 main_v9 (broadcastInDim S128x32x32 ![] bcast_S_S128x32x32 : (⟨S_, .f32⟩ : BufTy).Contents (Elt F) → (⟨S128x32x32, .f32⟩ : BufTy).Contents (Elt F)),
    StableHlo.binary main_v8 main_v9 main_v10 (Host.divf : (⟨S128x32x32, .f32⟩ : BufTy).Contents (Elt F) → (⟨S128x32x32, .f32⟩ : BufTy).Contents (Elt F) → (⟨S128x32x32, .f32⟩ : BufTy).Contents (Elt F)),
    StableHlo.nullary main_c_3 (constantI S_ 32 0#32),
    StableHlo.binary main_v0 main_c_3 main_v11 (cmpi .slt : (⟨S_, .i32⟩ : BufTy).Contents (Elt F) → (⟨S_, .i32⟩ : BufTy).Contents (Elt F) → (⟨S_, .i1⟩ : BufTy).Contents (Elt F)),
    StableHlo.nullary main_c_4 (constantI S_ 32 16#32),
    StableHlo.binary main_v0 main_c_4 main_v12 (addi : (⟨S_, .i32⟩ : BufTy).Contents (Elt F) → (⟨S_, .i32⟩ : BufTy).Contents (Elt F) → (⟨S_, .i32⟩ : BufTy).Contents (Elt F)),
    StableHlo.ternary main_v11 main_v12 main_v0 main_v13 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v13 main_v14 (broadcastInDim S1 ![] bcast_S_S1 : (⟨S_, .i32⟩ : BufTy).Contents (Elt F) → (⟨S1, .i32⟩ : BufTy).Contents (Elt F)),
    StableHlo.ternary main_arg7 main_v14 main_v10 main_v15 ((fun x i u => Host.scatter scatter_S16x128x32x32_S1_S128x32x32_012_0_0_0 (fun _ b => b) x i u) : (⟨S16x128x32x32, .f32⟩ : BufTy).Contents (Elt F) → (⟨S1, .i32⟩ : BufTy).Contents (Elt F) → (⟨S128x32x32, .f32⟩ : BufTy).Contents (Elt F) → (⟨S16x128x32x32, .f32⟩ : BufTy).Contents (Elt F)),
    StableHlo.reshape main_arg1 main_v16 (rfl : (.f32 : EltTy) = .f32) shapeCasts_S1x128x128x128_S128x128x128,
    StableHlo.nullary main_c_5 (constantI S_ 32 0#32),
    StableHlo.binary main_v0 main_c_5 main_v17 (cmpi .slt : (⟨S_, .i32⟩ : BufTy).Contents (Elt F) → (⟨S_, .i32⟩ : BufTy).Contents (Elt F) → (⟨S_, .i1⟩ : BufTy).Contents (Elt F)),
    StableHlo.nullary main_c_6 (constantI S_ 32 16#32),
    StableHlo.binary main_v0 main_c_6 main_v18 (addi : (⟨S_, .i32⟩ : BufTy).Contents (Elt F) → (⟨S_, .i32⟩ : BufTy).Contents (Elt F) → (⟨S_, .i32⟩ : BufTy).Contents (Elt F)),
    StableHlo.ternary main_v17 main_v18 main_v0 main_v19 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v19 main_v20 (broadcastInDim S1 ![] bcast_S_S1 : (⟨S_, .i32⟩ : BufTy).Contents (Elt F) → (⟨S1, .i32⟩ : BufTy).Contents (Elt F)),
    StableHlo.ternary main_arg8 main_v20 main_v16 main_v21 ((fun x i u => Host.scatter scatter_S16x128x128x128_S1_S128x128x128_012_0_0_0 (fun _ b => b) x i u) : (⟨S16x128x128x128, .f32⟩ : BufTy).Contents (Elt F) → (⟨S1, .i32⟩ : BufTy).Contents (Elt F) → (⟨S128x128x128, .f32⟩ : BufTy).Contents (Elt F) → (⟨S16x128x128x128, .f32⟩ : BufTy).Contents (Elt F)),
    StableHlo.reshape main_arg4 main_v22 (rfl : (.f32 : EltTy) = .f32) shapeCasts_S1_S_,
    StableHlo.nullary main_c_7 (constantI S_ 32 0#32),
    StableHlo.binary main_v0 main_c_7 main_v23 (cmpi .slt : (⟨S_, .i32⟩ : BufTy).Contents (Elt F) → (⟨S_, .i32⟩ : BufTy).Contents (Elt F) → (⟨S_, .i1⟩ : BufTy).Contents (Elt F)),
    StableHlo.nullary main_c_8 (constantI S_ 32 16#32),
    StableHlo.binary main_v0 main_c_8 main_v24 (addi : (⟨S_, .i32⟩ : BufTy).Contents (Elt F) → (⟨S_, .i32⟩ : BufTy).Contents (Elt F) → (⟨S_, .i32⟩ : BufTy).Contents (Elt F)),
    StableHlo.ternary main_v23 main_v24 main_v0 main_v25 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v25 main_v26 (broadcastInDim S1 ![] bcast_S_S1 : (⟨S_, .i32⟩ : BufTy).Contents (Elt F) → (⟨S1, .i32⟩ : BufTy).Contents (Elt F)),
    StableHlo.ternary main_arg11 main_v26 main_v22 main_v27 ((fun x i u => Host.scatter scatter_S16_S1_S__n_0_0_0 (fun _ b => b) x i u) : (⟨S16, .f32⟩ : BufTy).Contents (Elt F) → (⟨S1, .i32⟩ : BufTy).Contents (Elt F) → (⟨S_, .f32⟩ : BufTy).Contents (Elt F) → (⟨S16, .f32⟩ : BufTy).Contents (Elt F)),
    StableHlo.reshape main_arg2 main_v28 (rfl : (.f32 : EltTy) = .f32) shapeCasts_S1x80x128x9_S80x128x9,
    StableHlo.nullary main_c_9 (constantI S_ 32 0#32),
    StableHlo.binary main_v0 main_c_9 main_v29 (cmpi .slt : (⟨S_, .i32⟩ : BufTy).Contents (Elt F) → (⟨S_, .i32⟩ : BufTy).Contents (Elt F) → (⟨S_, .i1⟩ : BufTy).Contents (Elt F)),
    StableHlo.nullary main_c_10 (constantI S_ 32 16#32),
    StableHlo.binary main_v0 main_c_10 main_v30 (addi : (⟨S_, .i32⟩ : BufTy).Contents (Elt F) → (⟨S_, .i32⟩ : BufTy).Contents (Elt F) → (⟨S_, .i32⟩ : BufTy).Contents (Elt F)),
    StableHlo.ternary main_v29 main_v30 main_v0 main_v31 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v31 main_v32 (broadcastInDim S1 ![] bcast_S_S1 : (⟨S_, .i32⟩ : BufTy).Contents (Elt F) → (⟨S1, .i32⟩ : BufTy).Contents (Elt F)),
    StableHlo.ternary main_arg9 main_v32 main_v28 main_v33 ((fun x i u => Host.scatter scatter_S16x80x128x9_S1_S80x128x9_012_0_0_0 (fun _ b => b) x i u) : (⟨S16x80x128x9, .f32⟩ : BufTy).Contents (Elt F) → (⟨S1, .i32⟩ : BufTy).Contents (Elt F) → (⟨S80x128x9, .f32⟩ : BufTy).Contents (Elt F) → (⟨S16x80x128x9, .f32⟩ : BufTy).Contents (Elt F)),
    StableHlo.reshape main_arg3 main_v34 (rfl : (.f32 : EltTy) = .f32) shapeCasts_S1x80x2_S80x2,
    StableHlo.unary main_v34 main_v35 ((extractStridedSlice S80x1 ![0, 1] · slices_S80x2_S80x1_0_1) : (⟨S80x2, .f32⟩ : BufTy).Contents (Elt F) → (⟨S80x1, .f32⟩ : BufTy).Contents (Elt F)),
    StableHlo.reshape main_v35 main_v36 (rfl : (.f32 : EltTy) = .f32) shapeCasts_S80x1_S80,
    StableHlo.nullary main_cst_11 (constant S_ .f32 0x44000000#32),
    StableHlo.unary main_cst_11 main_v37 (broadcastInDim S80 ![] bcast_S_S80 : (⟨S_, .f32⟩ : BufTy).Contents (Elt F) → (⟨S80, .f32⟩ : BufTy).Contents (Elt F)),
    StableHlo.binary main_v36 main_v37 main_v38 (Host.divf : (⟨S80, .f32⟩ : BufTy).Contents (Elt F) → (⟨S80, .f32⟩ : BufTy).Contents (Elt F) → (⟨S80, .f32⟩ : BufTy).Contents (Elt F)),
    StableHlo.nullary main_cst_12 (constant S_ .f32 0x41EC0000#32),
    StableHlo.unary main_cst_12 main_v39 (broadcastInDim S80 ![] bcast_S_S80 : (⟨S_, .f32⟩ : BufTy).Contents (Elt F) → (⟨S80, .f32⟩ : BufTy).Contents (Elt F)),
    StableHlo.binary main_v38 main_v39 main_v40 (mulf : (⟨S80, .f32⟩ : BufTy).Contents (Elt F) → (⟨S80, .f32⟩ : BufTy).Contents (Elt F) → (⟨S80, .f32⟩ : BufTy).Contents (Elt F)),
    StableHlo.nullary main_cst_13 (constant S_ .f32 0x3F000000#32),
    StableHlo.unary main_cst_13 main_v41 (broadcastInDim S80 ![] bcast_S_S80 : (⟨S_, .f32⟩ : BufTy).Contents (Elt F) → (⟨S80, .f32⟩ : BufTy).Contents (Elt F)),
    StableHlo.binary main_v40 main_v41 main_v42 (addf : (⟨S80, .f32⟩ : BufTy).Contents (Elt F) → (⟨S80, .f32⟩ : BufTy).Contents (Elt F) → (⟨S80, .f32⟩ : BufTy).Contents (Elt F)),
    StableHlo.unary main_v34 main_v43 ((extractStridedSlice S80x1 ![0, 0] · slices_S80x2_S80x1_0_0) : (⟨S80x2, .f32⟩ : BufTy).Contents (Elt F) → (⟨S80x1, .f32⟩ : BufTy).Contents (Elt F)) ]

/-- The second half. -/
abbrev ops1 : List (HloOp τ sig (Elt F)) :=
  [ StableHlo.reshape main_v43 main_v44 (rfl : (.f32 : EltTy) = .f32) shapeCasts_S80x1_S80,
    StableHlo.nullary main_cst_14 (constant S_ .f32 0x44000000#32),
    StableHlo.unary main_cst_14 main_v45 (broadcastInDim S80 ![] bcast_S_S80 : (⟨S_, .f32⟩ : BufTy).Contents (Elt F) → (⟨S80, .f32⟩ : BufTy).Contents (Elt F)),
    StableHlo.binary main_v44 main_v45 main_v46 (Host.divf : (⟨S80, .f32⟩ : BufTy).Contents (Elt F) → (⟨S80, .f32⟩ : BufTy).Contents (Elt F) → (⟨S80, .f32⟩ : BufTy).Contents (Elt F)),
    StableHlo.nullary main_cst_15 (constant S_ .f32 0x3F000000#32),
    StableHlo.unary main_cst_15 main_v47 (broadcastInDim S80 ![] bcast_S_S80 : (⟨S_, .f32⟩ : BufTy).Contents (Elt F) → (⟨S80, .f32⟩ : BufTy).Contents (Elt F)),
    StableHlo.binary main_v46 main_v47 main_v48 (subf : (⟨S80, .f32⟩ : BufTy).Contents (Elt F) → (⟨S80, .f32⟩ : BufTy).Contents (Elt F) → (⟨S80, .f32⟩ : BufTy).Contents (Elt F)),
    StableHlo.nullary main_cst_16 (constant S_ .f32 0x43020000#32),
    StableHlo.unary main_cst_16 main_v49 (broadcastInDim S80 ![] bcast_S_S80 : (⟨S_, .f32⟩ : BufTy).Contents (Elt F) → (⟨S80, .f32⟩ : BufTy).Contents (Elt F)),
    StableHlo.binary main_v48 main_v49 main_v50 (mulf : (⟨S80, .f32⟩ : BufTy).Contents (Elt F) → (⟨S80, .f32⟩ : BufTy).Contents (Elt F) → (⟨S80, .f32⟩ : BufTy).Contents (Elt F)),
    StableHlo.nullary main_cst_17 (constant S_ .f32 0x40490FDB#32),
    StableHlo.unary main_cst_17 main_v51 (broadcastInDim S80 ![] bcast_S_S80 : (⟨S_, .f32⟩ : BufTy).Contents (Elt F) → (⟨S80, .f32⟩ : BufTy).Contents (Elt F)),
    StableHlo.binary main_v50 main_v51 main_v52 (mulf : (⟨S80, .f32⟩ : BufTy).Contents (Elt F) → (⟨S80, .f32⟩ : BufTy).Contents (Elt F) → (⟨S80, .f32⟩ : BufTy).Contents (Elt F)),
    StableHlo.nullary main_cst_18 (constant S_ .f32 0x43340000#32),
    StableHlo.unary main_cst_18 main_v53 (broadcastInDim S80 ![] bcast_S_S80 : (⟨S_, .f32⟩ : BufTy).Contents (Elt F) → (⟨S80, .f32⟩ : BufTy).Contents (Elt F)),
    StableHlo.binary main_v52 main_v53 main_v54 (Host.divf : (⟨S80, .f32⟩ : BufTy).Contents (Elt F) → (⟨S80, .f32⟩ : BufTy).Contents (Elt F) → (⟨S80, .f32⟩ : BufTy).Contents (Elt F)),
    StableHlo.unary main_v42 main_v55 (broadcastInDim S80x1 ![0] bcast_S80_S80x1_0 : (⟨S80, .f32⟩ : BufTy).Contents (Elt F) → (⟨S80x1, .f32⟩ : BufTy).Contents (Elt F)),
    StableHlo.unary main_v54 main_v56 (broadcastInDim S80x1 ![0] bcast_S80_S80x1_0 : (⟨S80, .f32⟩ : BufTy).Contents (Elt F) → (⟨S80x1, .f32⟩ : BufTy).Contents (Elt F)),
    StableHlo.binary main_v55 main_v56 main_v57 ((fun a b => concatenate S80x2 1 [⟨S80x1, a⟩, ⟨S80x1, b⟩] concatenates_S80x1_S80x1_S80x2_d1) : (⟨S80x1, .f32⟩ : BufTy).Contents (Elt F) → (⟨S80x1, .f32⟩ : BufTy).Contents (Elt F) → (⟨S80x2, .f32⟩ : BufTy).Contents (Elt F)),
    StableHlo.nullary main_cst_19 (constant S_ .f32 0x00000000#32),
    StableHlo.unary main_cst_19 main_v58 (broadcastInDim S80 ![] bcast_S_S80 : (⟨S_, .f32⟩ : BufTy).Contents (Elt F) → (⟨S80, .f32⟩ : BufTy).Contents (Elt F)),
    StableHlo.unary main_v57 main_v59 ((extractStridedSlice S80x1 ![0, 0] · slices_S80x2_S80x1_0_0) : (⟨S80x2, .f32⟩ : BufTy).Contents (Elt F) → (⟨S80x1, .f32⟩ : BufTy).Contents (Elt F)),
    StableHlo.reshape main_v59 main_v60 (rfl : (.f32 : EltTy) = .f32) shapeCasts_S80x1_S80,
    StableHlo.unary main_v57 main_v61 ((extractStridedSlice S80x1 ![0, 1] · slices_S80x2_S80x1_0_1) : (⟨S80x2, .f32⟩ : BufTy).Contents (Elt F) → (⟨S80x1, .f32⟩ : BufTy).Contents (Elt F)),
    StableHlo.reshape main_v61 main_v62 (rfl : (.f32 : EltTy) = .f32) shapeCasts_S80x1_S80,
    StableHlo.unary main_v60 main_v63 (broadcastInDim S80x1 ![0] bcast_S80_S80x1_0 : (⟨S80, .f32⟩ : BufTy).Contents (Elt F) → (⟨S80x1, .f32⟩ : BufTy).Contents (Elt F)),
    StableHlo.unary main_v62 main_v64 (broadcastInDim S80x1 ![0] bcast_S80_S80x1_0 : (⟨S80, .f32⟩ : BufTy).Contents (Elt F) → (⟨S80x1, .f32⟩ : BufTy).Contents (Elt F)),
    StableHlo.unary main_v58 main_v65 (broadcastInDim S80x1 ![0] bcast_S80_S80x1_0 : (⟨S80, .f32⟩ : BufTy).Contents (Elt F) → (⟨S80x1, .f32⟩ : BufTy).Contents (Elt F)),
    StableHlo.nary ![main_v63, main_v64, main_v65] main_v66 (fun u => (concatenate S80x3 1 [⟨S80x1, (u 0 : (⟨S80x1, .f32⟩ : BufTy).Contents (Elt F))⟩, ⟨S80x1, (u 1 : (⟨S80x1, .f32⟩ : BufTy).Contents (Elt F))⟩, ⟨S80x1, (u 2 : (⟨S80x1, .f32⟩ : BufTy).Contents (Elt F))⟩] concatenates_S80x1_S80x1_S80x1_S80x3_d1 : (⟨S80x3, .f32⟩ : BufTy).Contents (Elt F))),
    StableHlo.nullary main_c_20 (constantI S_ 32 0#32),
    StableHlo.binary main_v0 main_c_20 main_v67 (cmpi .slt : (⟨S_, .i32⟩ : BufTy).Contents (Elt F) → (⟨S_, .i32⟩ : BufTy).Contents (Elt F) → (⟨S_, .i1⟩ : BufTy).Contents (Elt F)),
    StableHlo.nullary main_c_21 (constantI S_ 32 16#32),
    StableHlo.binary main_v0 main_c_21 main_v68 (addi : (⟨S_, .i32⟩ : BufTy).Contents (Elt F) → (⟨S_, .i32⟩ : BufTy).Contents (Elt F) → (⟨S_, .i32⟩ : BufTy).Contents (Elt F)),
    StableHlo.ternary main_v67 main_v68 main_v0 main_v69 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v69 main_v70 (broadcastInDim S1 ![] bcast_S_S1 : (⟨S_, .i32⟩ : BufTy).Contents (Elt F) → (⟨S1, .i32⟩ : BufTy).Contents (Elt F)),
    StableHlo.ternary main_arg10 main_v70 main_v66 main_v71 ((fun x i u => Host.scatter scatter_S16x80x3_S1_S80x3_01_0_0_0 (fun _ b => b) x i u) : (⟨S16x80x3, .f32⟩ : BufTy).Contents (Elt F) → (⟨S1, .i32⟩ : BufTy).Contents (Elt F) → (⟨S80x3, .f32⟩ : BufTy).Contents (Elt F) → (⟨S16x80x3, .f32⟩ : BufTy).Contents (Elt F)),
    StableHlo.unary main_arg5 main_v72 (broadcastInDim S80 ![] bcast_S_S80 : (⟨S_, .i32⟩ : BufTy).Contents (Elt F) → (⟨S80, .i32⟩ : BufTy).Contents (Elt F)),
    StableHlo.nullary main_c_22 (constantI S_ 32 0#32),
    StableHlo.binary main_v0 main_c_22 main_v73 (cmpi .slt : (⟨S_, .i32⟩ : BufTy).Contents (Elt F) → (⟨S_, .i32⟩ : BufTy).Contents (Elt F) → (⟨S_, .i1⟩ : BufTy).Contents (Elt F)),
    StableHlo.nullary main_c_23 (constantI S_ 32 16#32),
    StableHlo.binary main_v0 main_c_23 main_v74 (addi : (⟨S_, .i32⟩ : BufTy).Contents (Elt F) → (⟨S_, .i32⟩ : BufTy).Contents (Elt F) → (⟨S_, .i32⟩ : BufTy).Contents (Elt F)),
    StableHlo.ternary main_v73 main_v74 main_v0 main_v75 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    StableHlo.unary main_v75 main_v76 (broadcastInDim S1 ![] bcast_S_S1 : (⟨S_, .i32⟩ : BufTy).Contents (Elt F) → (⟨S1, .i32⟩ : BufTy).Contents (Elt F)),
    StableHlo.ternary main_arg12 main_v76 main_v72 main_v77 ((fun x i u => Host.scatter scatter_S16x80_S1_S80_0_0_0_0 (fun _ b => b) x i u) : (⟨S16x80, .i32⟩ : BufTy).Contents (Elt F) → (⟨S1, .i32⟩ : BufTy).Contents (Elt F) → (⟨S80, .i32⟩ : BufTy).Contents (Elt F) → (⟨S16x80, .i32⟩ : BufTy).Contents (Elt F)) ]

set_option maxRecDepth 4096 in
set_option maxHeartbeats 4000000 in
theorem part0_eq (c : Dev nD) : main_part0 (F := F) c = StableHlo.seq ops0 := by
  simp only [main_part0, fn_remainder.body, fn_where.body, StableHlo.seq, bind_assoc, pure_bind]
  rfl
set_option maxRecDepth 4096 in
set_option maxHeartbeats 4000000 in
theorem part1_eq (c : Dev nD) : main_part1 (F := F) c = StableHlo.seq ops1 := by
  simp only [main_part1, StableHlo.seq, bind_assoc, pure_bind]

theorem main_eq (c : Dev nD) : main (F := F) c = StableHlo.seq (ops0 ++ ops1) := by
  rw [StableHlo.seq_append, ← part0_eq c, ← part1_eq c]; rfl

/-- What each half writes. -/
abbrev ops0_W : List (Ref sig .tc) := [main_c, main_call0_v0, main_call0_c, main_call0_v1, main_call0_c_0, main_call0_v2, main_call0_v3, main_call0_c_1, main_call0_v4, main_call0_c_2, main_call0_v5, main_call0_c_3, main_call0_v6, main_call0_v7, main_call0_v8, main_call0_v9, main_v0, main_v1, main_c_0, main_v2, main_c_1, main_v3, main_v4, main_v5, main_v6, main_v7, main_cst, main_v8, main_cst_2, main_v9, main_v10, main_c_3, main_v11, main_c_4, main_v12, main_v13, main_v14, main_v15, main_v16, main_c_5, main_v17, main_c_6, main_v18, main_v19, main_v20, main_v21, main_v22, main_c_7, main_v23, main_c_8, main_v24, main_v25, main_v26, main_v27, main_v28, main_c_9, main_v29, main_c_10, main_v30, main_v31, main_v32, main_v33, main_v34, main_v35, main_v36, main_cst_11, main_v37, main_v38, main_cst_12, main_v39, main_v40, main_cst_13, main_v41, main_v42, main_v43]
@[inherit_doc ops0_W] abbrev ops1_W : List (Ref sig .tc) := [main_v44, main_cst_14, main_v45, main_v46, main_cst_15, main_v47, main_v48, main_cst_16, main_v49, main_v50, main_cst_17, main_v51, main_v52, main_cst_18, main_v53, main_v54, main_v55, main_v56, main_v57, main_cst_19, main_v58, main_v59, main_v60, main_v61, main_v62, main_v63, main_v64, main_v65, main_v66, main_c_20, main_v67, main_c_21, main_v68, main_v69, main_v70, main_v71, main_v72, main_c_22, main_v73, main_c_23, main_v74, main_v75, main_v76, main_v77]

theorem ops0_writes : (ops0 : List (HloOp τ sig (Elt F))).Forall fun op => op.writes ⊆ (ops0_W.map (Proc.devRef (τ := τ) .tc)).toFinset :=
  StableHlo.forall_writes_sub_of_map rfl
theorem ops1_writes : (ops1 : List (HloOp τ sig (Elt F))).Forall fun op => op.writes ⊆ (ops1_W.map (Proc.devRef (τ := τ) .tc)).toFinset :=
  StableHlo.forall_writes_sub_of_map rfl

theorem ops0_sub : (ops0 : List (HloOp τ sig (Elt F))).Forall fun op => op.bufs ⊆ StableHlo.tcRefs τ sig := by
  simp
theorem ops1_sub : (ops1 : List (HloOp τ sig (Elt F))).Forall fun op => op.bufs ⊆ StableHlo.tcRefs τ sig := by
  simp
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h

theorem scopedRefs_eq : (Finset.univ.filter fun b : Ref sig .tc => b.isScoped) = ∅ := by decide
theorem scopedSems_eq : (Finset.univ.filter fun sm : SemLoc sig => sm.isScoped .tc) = ∅ := by decide

variable (m : (ℓ : Loc nD τ sig) → Buf (Elt F) ℓ)

/-- Every buffer after the first half, and after the whole. -/
def U1 (c : Dev nD) : Valuation τ sig (Elt F) := StableHlo.after ops0 (StableHlo.launchContents m c)
@[inherit_doc U1] def U2 (c : Dev nD) : Valuation τ sig (Elt F) := StableHlo.after ops1 (U1 m c)

/-- The reference runs, every buffer holding what its operations leave, every semaphore at zero. -/
theorem run (ρ : Dev nD → PrngReg) :
    θ_run (defs (F := F)) (onTc (τ := τ) (main (F := F))) ⟨m, fun _ => 0, ρ⟩ (fun r =>
      (∀ (c : Dev nD) (b : Ref sig .tc), r.2.mem ((c.tc : Thread nD τ).loc b) = U2 m c b) ∧ r.2.sem = fun _ => 0) := by
  refine (θ_run _ _ _).mono (fun r h => ⟨fun c b => ?_, sem_eq_zero_of_no_sems (by decide) r.2⟩)
    (StableHlo.run_seq scopedRefs_eq scopedSems_eq defs main (fun _ => ops0 ++ ops1) main_eq
      (fun _ => List.forall_append.mpr ⟨ops0_sub, ops1_sub⟩) m ρ (fun _ op ho => (List.mem_append.mp ho).elim (ops0_fresh op) (ops1_fresh op)))
  rw [h c b]
  unfold U2 U1
  rw [StableHlo.after_append]

theorem U2_arg (c : Dev nD) (b : Ref sig .tc) (h0 : b ∉ ops0_W) (h1 : b ∉ ops1_W) : U2 m c b = m ((c.tc : Thread nD τ).loc b) :=
  (StableHlo.after_of_writes_sub ops1 _ ops1_writes h1).trans (StableHlo.after_of_writes_sub ops0 _ ops0_writes h0)

/-- Every argument ends as it began. -/
theorem kept (r : PUnit × MemSt nD τ sig (Elt F)) (c : Dev nD) (h : ∀ b : Ref sig .tc, r.2.mem ((c.tc : Thread nD τ).loc b) = U2 m c b) :
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) :=
  ⟨(h _).trans (U2_arg m c main_arg0 (by decide) (by decide)), (h _).trans (U2_arg m c main_arg1 (by decide) (by decide)), (h _).trans (U2_arg m c main_arg2 (by decide) (by decide)), (h _).trans (U2_arg m c main_arg3 (by decide) (by decide)), (h _).trans (U2_arg m c main_arg4 (by decide) (by decide)), (h _).trans (U2_arg m c main_arg5 (by decide) (by decide)), (h _).trans (U2_arg m c main_arg6 (by decide) (by decide)), (h _).trans (U2_arg m c main_arg7 (by decide) (by decide)), (h _).trans (U2_arg m c main_arg8 (by decide) (by decide)), (h _).trans (U2_arg m c main_arg9 (by decide) (by decide)), (h _).trans (U2_arg m c main_arg10 (by decide) (by decide)), (h _).trans (U2_arg m c main_arg11 (by decide) (by decide)), (h _).trans (U2_arg m c main_arg12 (by decide) (by decide))⟩

end Cert.ReferenceIdeal.Hand
-- ==== Proof.Frames.lean ====
/-
  The claims that say nothing of values: every program runs to its end, its arguments unchanged and every semaphore at
  zero; and the constant named in the kernel is the word the kernel has.
-/
module

public import proofs.«01_k».proof.Defs
public import proofs.«01_k».proof.Proof.Run
public import proofs.«01_k».proof.Proof.Exact.Run
public import proofs.«01_k».proof.Proof.Ref

@[expose] public section

noncomputable section

namespace Cert.Claims

open Idealize.ShloMosaic Idealize.SL.Sem

/-- The kernel as printed runs, keeps its arguments and ends with every semaphore at zero. -/
theorem frame_p : Cert.quiescent_Kernel := fun m g _ =>
  (θ_run _ _ _).mono (fun r h => ⟨fun c => Cert.Kernel.Hand.kept m r c (h.1 c), h.2⟩) (Cert.Kernel.Hand.run (F := Bits) m g)

/-- So does the kernel over the extended reals, -/
theorem frame_pi : Cert.quiescent_KernelIdeal := fun m g _ =>
  (θ_run _ _ _).mono (fun r h => ⟨fun c => Cert.KernelIdeal.Hand.kept m r c (h.1 c), h.2⟩) (Cert.KernelIdeal.Hand.run (F := Ideal) m g)

/-- and the reference. -/
theorem frame_ri : Cert.quiescent_ReferenceIdeal := fun m g _ =>
  (θ_run _ _ _).mono (fun r h => ⟨fun c => Cert.ReferenceIdeal.Hand.kept m r c (h.1 c), h.2⟩) (Cert.ReferenceIdeal.Hand.run (F := Ideal) m g)

/-- The named constant is the one the kernel has. -/
theorem preserves : Cert.preserves_Kernel_KernelIdeal :=
  IdealRules.named_const.statement Cert.KernelIdeal.κ "fov" .f32 0x4011361E#32 ((57099445 / 25165824 : ℝ) : EReal) rfl

end Cert.Claims
-- ==== Proof.RowSet.lean ====
/-
  A scatter that sets one row of an array, read at an element.
-/
module

public import Idealize.ShloMosaic.Lib.Routing.OpsPair
public import Idealize.ShloMosaic.Lib.Routing.OpsSet
public import proofs.«01_k».proof.Proof.Gen.ReferenceIdeal

@[expose] public section

noncomputable section

namespace Cert.Slots

open Idealize.ShloMosaic Idealize.ShloMosaic.Routing

/-- A setting scatter whose update `k` lands at `i` exactly when `k` is `i`'s place in its row and `i`'s row is `v`: row
    `v` is the update, every other the array's. -/
theorem scatter_row {α : Type} {s si u : Shape} {w : ℕ} (d : ScatterDims s si u) (x : s.Idx → α) (idx : IVec si w) (upd : u.Idx → α)
    (tail : s.Idx → u.Idx) (row : s.Idx → ℕ) (v : ℕ) (hland : ∀ k i, d.resultIdx? k idx = some i ↔ k = tail i ∧ row i = v) (i : s.Idx) :
    Host.scatter d (fun _ b => b) x idx upd i = if row i = v then upd (tail i) else x i := by
  by_cases h : row i = v
  · rw [if_pos h]
    exact scatter_set_hit d x idx upd _ _ (fun j hj => congrArg upd ((hland j i).1 hj).1) (tail i) ((hland (tail i) i).2 ⟨rfl, h⟩)
  · rw [if_neg h]
    exact scatter_set_miss d x idx upd _ fun j hj => h ((hland j i).1 hj).2

/-- An element's place in its row, the array's first axis numbering the rows. -/
def inRow {n s0 : ℕ} {sz : Fin n → ℕ} (i : Shape.Idx ⟨n + 1, Fin.cons s0 sz⟩) : Shape.Idx ⟨n, sz⟩ := fun a => i (a.succ : Fin (n + 1))

/-- Where an update lands when the first axis is the scattered one and the others are the update's own, in order. -/
theorem lands_row {n : ℕ} {s0 : ℕ} {sz : Fin n → ℕ} {si : Shape} {w : ℕ} (d : ScatterDims ⟨n + 1, Fin.cons s0 sz⟩ si ⟨n, sz⟩) (idx : IVec si w) (v : ℕ)
    (h0 : ∀ k, d.start k idx (0 : Fin (n + 1)) = (v : ℤ)) (hs : ∀ k (a : Fin n), d.start k idx (a.succ : Fin (n + 1)) = 0)
    (hw0 : ∀ k, d.window k (0 : Fin (n + 1)) = 0) (hw : ∀ k (a : Fin n), d.window k (a.succ : Fin (n + 1)) = (k a).val) (k : Shape.Idx ⟨n, sz⟩) (i : Shape.Idx ⟨n + 1, Fin.cons s0 sz⟩) :
    d.resultIdx? k idx = some i ↔ k = inRow i ∧ (i (0 : Fin (n + 1))).val = v := by
  rw [resultIdx?_eq_some]
  constructor
  · intro h
    refine ⟨funext fun a => Fin.ext ?_, ?_⟩
    · have := h (a.succ : Fin (n + 1))
      rw [hs, hw] at this
      show (k a).val = (i (a.succ : Fin (n + 1))).val
      omega
    · have := h (0 : Fin (n + 1))
      rw [h0, hw0] at this
      omega
  · rintro ⟨rfl, rfl⟩ a
    refine Fin.cases ?_ (fun a => ?_) a
    · rw [h0, hw0]; simp
    · rw [hs, hw, Int.zero_add]; rfl

/-- Setting row `v` of an array: that row is the update, every other the array's. -/
theorem set_row {α : Type} {n s0 : ℕ} {sz : Fin n → ℕ} {si : Shape} (d : ScatterDims ⟨n + 1, Fin.cons s0 sz⟩ si ⟨n, sz⟩)
    (x : Shape.Idx ⟨n + 1, Fin.cons s0 sz⟩ → α) (idx : IVec si 32) (upd : Shape.Idx ⟨n, sz⟩ → α) (v : ℕ)
    (h0 : ∀ k, d.start k idx (0 : Fin (n + 1)) = (v : ℤ)) (hs : ∀ k (a : Fin n), d.start k idx (a.succ : Fin (n + 1)) = 0)
    (hw0 : ∀ k, d.window k (0 : Fin (n + 1)) = 0) (hw : ∀ k (a : Fin n), d.window k (a.succ : Fin (n + 1)) = (k a).val) :
    Host.scatter d (fun _ b => b) x idx upd = fun i => if (i (0 : Fin (n + 1))).val = v then upd (inRow i) else x i :=
  funext fun i => scatter_row d x idx upd inRow (fun i => (i (0 : Fin (n + 1))).val) v (lands_row d idx v h0 hs hw0 hw) i

open Cert.ReferenceIdeal

variable {α : Type} (idx : IVec S1 32) (v : ℕ) (hv : ∀ j, (idx j).toInt = (v : ℤ))
include hv

/-- The reference's scatters: each sets one row, that of the index word. -/
theorem set_row_map (x : S16x128x128x128.Idx → α) (upd : S128x128x128.Idx → α) :
    Host.scatter scatter_S16x128x128x128_S1_S128x128x128_012_0_0_0 (fun _ b => b) x idx upd
      = fun i => if (i 0).val = v then upd (inRow (s0 := 16) (sz := ![128, 128, 128]) i) else x i :=
  set_row (n := 3) (s0 := 16) (sz := ![128, 128, 128]) _ x idx upd v (fun k => hv _) (fun k a => by fin_cases a <;> rfl) (fun k => rfl) (fun k a => by fin_cases a <;> rfl)
@[inherit_doc set_row_map] theorem set_row_pool (x : S16x128x32x32.Idx → α) (upd : S128x32x32.Idx → α) :
    Host.scatter scatter_S16x128x32x32_S1_S128x32x32_012_0_0_0 (fun _ b => b) x idx upd
      = fun i => if (i 0).val = v then upd (inRow (s0 := 16) (sz := ![128, 32, 32]) i) else x i :=
  set_row (n := 3) (s0 := 16) (sz := ![128, 32, 32]) _ x idx upd v (fun k => hv _) (fun k a => by fin_cases a <;> rfl) (fun k => rfl) (fun k a => by fin_cases a <;> rfl)
@[inherit_doc set_row_map] theorem set_row_patch (x : S16x80x128x9.Idx → α) (upd : S80x128x9.Idx → α) :
    Host.scatter scatter_S16x80x128x9_S1_S80x128x9_012_0_0_0 (fun _ b => b) x idx upd
      = fun i => if (i 0).val = v then upd (inRow (s0 := 16) (sz := ![80, 128, 9]) i) else x i :=
  set_row (n := 3) (s0 := 16) (sz := ![80, 128, 9]) _ x idx upd v (fun k => hv _) (fun k a => by fin_cases a <;> rfl) (fun k => rfl) (fun k a => by fin_cases a <;> rfl)
@[inherit_doc set_row_map] theorem set_row_state (x : S16x80x3.Idx → α) (upd : S80x3.Idx → α) :
    Host.scatter scatter_S16x80x3_S1_S80x3_01_0_0_0 (fun _ b => b) x idx upd
      = fun i => if (i 0).val = v then upd (inRow (s0 := 16) (sz := ![80, 3]) i) else x i :=
  set_row (n := 2) (s0 := 16) (sz := ![80, 3]) _ x idx upd v (fun k => hv _) (fun k a => by fin_cases a <;> rfl) (fun k => rfl) (fun k a => by fin_cases a <;> rfl)
@[inherit_doc set_row_map] theorem set_row_source (x : S16x80.Idx → α) (upd : S80.Idx → α) :
    Host.scatter scatter_S16x80_S1_S80_0_0_0_0 (fun _ b => b) x idx upd
      = fun i => if (i 0).val = v then upd (inRow (s0 := 16) (sz := ![80]) i) else x i :=
  set_row (n := 1) (s0 := 16) (sz := ![80]) _ x idx upd v (fun k => hv _) (fun k a => by fin_cases a; rfl) (fun k => rfl) (fun k a => by fin_cases a; rfl)
@[inherit_doc set_row_map] theorem set_row_time (x : S16.Idx → α) (upd : S_.Idx → α) :
    Host.scatter scatter_S16_S1_S__n_0_0_0 (fun _ b => b) x idx upd
      = fun i => if (i 0).val = v then upd (inRow (s0 := 16) (sz := ![]) i) else x i :=
  set_row (n := 0) (s0 := 16) (sz := ![]) _ x idx upd v (fun k => hv _) (fun k a => a.elim0) (fun k => rfl) (fun k a => a.elim0)

end Cert.Slots
-- ==== Proof.RefVal.lean ====
/-
  What the reference computes: each of its results as its argument with one row set, the row's number the frame's
  modulo sixteen.
-/
module

public import proofs.«01_k».proof.Proof.Ref
public import proofs.«01_k».proof.Proof.RowSet
public import proofs.«01_k».proof.Proof.Host

@[expose] public section

noncomputable section

namespace Cert.ReferenceIdeal.Hand

open Cert.ReferenceIdeal Cert.ReferenceIdeal.Gen Cert.Slots
open Cert.KernelIdeal.Hand (slotWord slotWord_lt)
open Idealize.ShloMosaic Idealize.ShloMosaic.TcCoe Idealize.SL.Sem

variable {F : FTy → Type} [FloatOps F]
variable (m : (ℓ : Loc nD τ sig) → Buf (Elt F) ℓ)

/-- The frame's number, as the reference is given it. -/
def frameN (c : Dev nD) : BitVec 32 := (m ((c.tc : Thread nD τ).loc main_arg5) : S_.Idx → BitVec 32) (show S_.Idx from fun x => x.elim0)

theorem U1_v0 (c : Dev nD) : (U1 m c main_v0 : S_.Idx → BitVec 32) = fun _ => slotWord (frameN m c) := by
  show StableHlo.after ops0 (StableHlo.launchContents m c) main_v0 = _
  after_results
  funext i
  rw [show i = (show S_.Idx from fun x => x.elim0) from funext fun x => x.elim0]
  rfl

/-- The index a scatter is given: the row's number, sixteen added were it negative. -/
def wrapped (x : S_.Idx → BitVec 32) : S1.Idx → BitVec 32 :=
  broadcastInDim S1 ![] bcast_S_S1 (select (cmpi .slt x (constantI S_ 32 0#32)) (addi x (constantI S_ 32 16#32)) x)

theorem wrap_fin : ∀ k : Fin 16, (Scalar.select (IntOp.cmpi .slt (BitVec.ofNat 32 k.val) 0#32) (IntOp.addi (BitVec.ofNat 32 k.val) 16#32) (BitVec.ofNat 32 k.val)).toInt = (k.val : ℤ) := by
  decide

/-- It is the row's number. -/
theorem wrapped_slot (n : BitVec 32) (j : S1.Idx) : (wrapped (fun _ => slotWord n) j).toInt = ((slotWord n).toNat : ℤ) := by
  have h := wrap_fin ⟨(slotWord n).toNat, slotWord_lt n⟩
  rw [show BitVec.ofNat 32 (slotWord n).toNat = slotWord n from BitVec.eq_of_toNat_eq (by rw [BitVec.toNat_ofNat]; exact Nat.mod_eq_of_lt (slotWord n).isLt)] at h
  exact h

/-- The mean of every four by four window, as the reference computes it. -/
def meanOf (x : S1x128x128x128.Idx → F .f32) : S128x32x32.Idx → F .f32 :=
  Host.divf (Host.reduceAdd (shapeCast S128x32x4x32x4 (shapeCast S128x128x128 x shapeCasts_S1x128x128x128_S128x128x128) shapeCasts_S128x128x128_S128x32x4x32x4)
      (constant S_ .f32 0x00000000#32) reducesTo_S128x32x4x32x4_S128x32x32_d2_4 h_S_)
    (broadcastInDim S128x32x32 ![] bcast_S_S128x32x32 (constant S_ .f32 0x41800000#32))

/-- One column of the coordinates. -/
def column0 (x : S1x80x2.Idx → F .f32) : S80.Idx → F .f32 :=
  shapeCast S80 (extractStridedSlice S80x1 ![0, 0] (shapeCast S80x2 x shapeCasts_S1x80x2_S80x2) slices_S80x2_S80x1_0_0) shapeCasts_S80x1_S80
@[inherit_doc column0] def column1 (x : S1x80x2.Idx → F .f32) : S80.Idx → F .f32 :=
  shapeCast S80 (extractStridedSlice S80x1 ![0, 1] (shapeCast S80x2 x shapeCasts_S1x80x2_S80x2) slices_S80x2_S80x1_0_1) shapeCasts_S80x1_S80

/-- A constant at every patch. -/
def every (b : BitVec 32) : S80.Idx → F .f32 := broadcastInDim S80 ![] bcast_S_S80 (constant S_ .f32 b)

/-- The patches' radii. -/
def radius (y : S80.Idx → F .f32) : S80.Idx → F .f32 :=
  addf (mulf (Host.divf y (every 0x44000000#32)) (every 0x41EC0000#32)) (every 0x3F000000#32)
/-- The patches' bearings. -/
def bearing (y : S80.Idx → F .f32) : S80.Idx → F .f32 :=
  Host.divf (mulf (mulf (subf (Host.divf y (every 0x44000000#32)) (every 0x3F000000#32)) (every 0x43020000#32)) (every 0x40490FDB#32)) (every 0x43340000#32)

/-- A vector as the one column of a matrix, -/
def col (y : S80.Idx → F .f32) : S80x1.Idx → F .f32 := broadcastInDim S80x1 ![0] bcast_S80_S80x1_0 y
/-- radius and bearing side by side, -/
def polar (x : S1x80x2.Idx → F .f32) : S80x2.Idx → F .f32 :=
  concatenate S80x2 1 [⟨S80x1, col (radius (column1 x))⟩, ⟨S80x1, col (bearing (column0 x))⟩] concatenates_S80x1_S80x1_S80x2_d1
/-- and the row of patch states: radius, bearing and elevation zero. -/
def stateOf (x : S1x80x2.Idx → F .f32) : S80x3.Idx → F .f32 :=
  concatenate S80x3 1 [⟨S80x1, col (shapeCast S80 (extractStridedSlice S80x1 ![0, 0] (polar x) slices_S80x2_S80x1_0_0) shapeCasts_S80x1_S80)⟩,
      ⟨S80x1, col (shapeCast S80 (extractStridedSlice S80x1 ![0, 1] (polar x) slices_S80x2_S80x1_0_1) shapeCasts_S80x1_S80)⟩,
      ⟨S80x1, col (every 0x00000000#32)⟩] concatenates_S80x1_S80x1_S80x1_S80x3_d1

/-- The reference's results, each a scatter into its argument. -/
theorem U1_v6 (c : Dev nD) : U1 m c main_v6 = Host.scatter scatter_S16x128x128x128_S1_S128x128x128_012_0_0_0 (fun _ b => b)
    (m ((c.tc : Thread nD τ).loc main_arg6) : S16x128x128x128.Idx → F .f32) (wrapped (U1 m c main_v0))
    (shapeCast S128x128x128 (m ((c.tc : Thread nD τ).loc main_arg0) : S1x128x128x128.Idx → F .f32) shapeCasts_S1x128x128x128_S128x128x128) := by
  show StableHlo.after ops0 (StableHlo.launchContents m c) main_v6 = _
  rw [show U1 m c main_v0 = StableHlo.after ops0 (StableHlo.launchContents m c) main_v0 from rfl]
  after_results
  rfl
@[inherit_doc U1_v6] theorem U1_v15 (c : Dev nD) : U1 m c main_v15 = Host.scatter scatter_S16x128x32x32_S1_S128x32x32_012_0_0_0 (fun _ b => b)
    (m ((c.tc : Thread nD τ).loc main_arg7) : S16x128x32x32.Idx → F .f32) (wrapped (U1 m c main_v0))
    (meanOf (m ((c.tc : Thread nD τ).loc main_arg0) : S1x128x128x128.Idx → F .f32)) := by
  show StableHlo.after ops0 (StableHlo.launchContents m c) main_v15 = _
  rw [show U1 m c main_v0 = StableHlo.after ops0 (StableHlo.launchContents m c) main_v0 from rfl]
  after_results
  rfl
@[inherit_doc U1_v6] theorem U1_v21 (c : Dev nD) : U1 m c main_v21 = Host.scatter scatter_S16x128x128x128_S1_S128x128x128_012_0_0_0 (fun _ b => b)
    (m ((c.tc : Thread nD τ).loc main_arg8) : S16x128x128x128.Idx → F .f32) (wrapped (U1 m c main_v0))
    (shapeCast S128x128x128 (m ((c.tc : Thread nD τ).loc main_arg1) : S1x128x128x128.Idx → F .f32) shapeCasts_S1x128x128x128_S128x128x128) := by
  show StableHlo.after ops0 (StableHlo.launchContents m c) main_v21 = _
  rw [show U1 m c main_v0 = StableHlo.after ops0 (StableHlo.launchContents m c) main_v0 from rfl]
  after_results
  rfl
@[inherit_doc U1_v6] theorem U1_v27 (c : Dev nD) : U1 m c main_v27 = Host.scatter scatter_S16_S1_S__n_0_0_0 (fun _ b => b)
    (m ((c.tc : Thread nD τ).loc main_arg11) : S16.Idx → F .f32) (wrapped (U1 m c main_v0))
    (shapeCast S_ (m ((c.tc : Thread nD τ).loc main_arg4) : S1.Idx → F .f32) shapeCasts_S1_S_) := by
  show StableHlo.after ops0 (StableHlo.launchContents m c) main_v27 = _
  rw [show U1 m c main_v0 = StableHlo.after ops0 (StableHlo.launchContents m c) main_v0 from rfl]
  after_results
  rfl
@[inherit_doc U1_v6] theorem U1_v33 (c : Dev nD) : U1 m c main_v33 = Host.scatter scatter_S16x80x128x9_S1_S80x128x9_012_0_0_0 (fun _ b => b)
    (m ((c.tc : Thread nD τ).loc main_arg9) : S16x80x128x9.Idx → F .f32) (wrapped (U1 m c main_v0))
    (shapeCast S80x128x9 (m ((c.tc : Thread nD τ).loc main_arg2) : S1x80x128x9.Idx → F .f32) shapeCasts_S1x80x128x9_S80x128x9) := by
  show StableHlo.after ops0 (StableHlo.launchContents m c) main_v33 = _
  rw [show U1 m c main_v0 = StableHlo.after ops0 (StableHlo.launchContents m c) main_v0 from rfl]
  after_results
  rfl

theorem U1_v42 (c : Dev nD) : U1 m c main_v42 = radius (column1 (m ((c.tc : Thread nD τ).loc main_arg3) : S1x80x2.Idx → F .f32)) := by
  show StableHlo.after ops0 (StableHlo.launchContents m c) main_v42 = _
  after_results
  rfl
theorem U1_v43 (c : Dev nD) : U1 m c main_v43 = extractStridedSlice S80x1 ![0, 0] (shapeCast S80x2 (m ((c.tc : Thread nD τ).loc main_arg3) : S1x80x2.Idx → F .f32) shapeCasts_S1x80x2_S80x2) slices_S80x2_S80x1_0_0 := by
  show StableHlo.after ops0 (StableHlo.launchContents m c) main_v43 = _
  after_results
  rfl

theorem U2_v57 (c : Dev nD) : U2 m c main_v57 = polar (m ((c.tc : Thread nD τ).loc main_arg3) : S1x80x2.Idx → F .f32) := by
  have h : U2 m c main_v57 = concatenate S80x2 1 [⟨S80x1, col (U1 m c main_v42)⟩, ⟨S80x1, col (bearing (shapeCast S80 (U1 m c main_v43 : S80x1.Idx → F .f32) shapeCasts_S80x1_S80))⟩] concatenates_S80x1_S80x1_S80x2_d1 := by
    show StableHlo.after ops1 (U1 m c) main_v57 = _
    after_results
    rfl
  rw [h, U1_v42, U1_v43]
  rfl

theorem U1_arg (c : Dev nD) (b : Ref sig .tc) (h0 : b ∉ ops0_W) : U1 m c b = m ((c.tc : Thread nD τ).loc b) :=
  StableHlo.after_of_writes_sub ops0 _ ops0_writes h0
theorem U2_first (c : Dev nD) (b : Ref sig .tc) (h1 : b ∉ ops1_W) : U2 m c b = U1 m c b :=
  StableHlo.after_of_writes_sub ops1 _ ops1_writes h1

theorem U2_v66 (c : Dev nD) : U2 m c main_v66 = stateOf (m ((c.tc : Thread nD τ).loc main_arg3) : S1x80x2.Idx → F .f32) := by
  have h : U2 m c main_v66 = concatenate S80x3 1 [⟨S80x1, col (shapeCast S80 (extractStridedSlice S80x1 ![0, 0] (U2 m c main_v57 : S80x2.Idx → F .f32) slices_S80x2_S80x1_0_0) shapeCasts_S80x1_S80)⟩,
      ⟨S80x1, col (shapeCast S80 (extractStridedSlice S80x1 ![0, 1] (U2 m c main_v57 : S80x2.Idx → F .f32) slices_S80x2_S80x1_0_1) shapeCasts_S80x1_S80)⟩,
      ⟨S80x1, col (every 0x00000000#32)⟩] concatenates_S80x1_S80x1_S80x1_S80x3_d1 := by
    have e : U2 m c = StableHlo.after (ops1.drop 19) (StableHlo.after (ops1.take 19) (U1 m c)) := by
      rw [← StableHlo.after_append, List.take_append_drop]; rfl
    rw [e]
    generalize StableHlo.after (ops1.take 19) (U1 m c) = V
    simp only [ops1, List.drop_succ_cons, List.drop_zero]
    after_results
    rfl
  rw [h, U2_v57]
  rfl

@[inherit_doc U1_v6] theorem U2_v71 (c : Dev nD) : U2 m c main_v71 = Host.scatter scatter_S16x80x3_S1_S80x3_01_0_0_0 (fun _ b => b)
    (m ((c.tc : Thread nD τ).loc main_arg10) : S16x80x3.Idx → F .f32) (wrapped (U1 m c main_v0)) (stateOf (m ((c.tc : Thread nD τ).loc main_arg3) : S1x80x2.Idx → F .f32)) := by
  have h : U2 m c main_v71 = Host.scatter scatter_S16x80x3_S1_S80x3_01_0_0_0 (fun _ b => b) (U1 m c main_arg10 : S16x80x3.Idx → F .f32) (wrapped (U1 m c main_v0)) (U2 m c main_v66) := by
    rw [show U2 m c main_v66 = StableHlo.after ops1 (U1 m c) main_v66 from rfl]
    show StableHlo.after ops1 (U1 m c) main_v71 = _
    after_results
    rfl
  rw [h, U2_v66, U1_arg m c main_arg10 (by decide)]
@[inherit_doc U1_v6] theorem U2_v77 (c : Dev nD) : U2 m c main_v77 = Host.scatter scatter_S16x80_S1_S80_0_0_0_0 (fun _ b => b)
    (m ((c.tc : Thread nD τ).loc main_arg12) : S16x80.Idx → BitVec 32) (wrapped (U1 m c main_v0)) (broadcastInDim S80 ![] bcast_S_S80 (m ((c.tc : Thread nD τ).loc main_arg5) : S_.Idx → BitVec 32)) := by
  have h : U2 m c main_v77 = Host.scatter scatter_S16x80_S1_S80_0_0_0_0 (fun _ b => b) (U1 m c main_arg12 : S16x80.Idx → BitVec 32) (wrapped (U1 m c main_v0))
      (broadcastInDim S80 ![] bcast_S_S80 (U1 m c main_arg5 : S_.Idx → BitVec 32)) := by
    show StableHlo.after ops1 (U1 m c) main_v77 = _
    after_results
    rfl
  rw [h, U1_arg m c main_arg12 (by decide), U1_arg m c main_arg5 (by decide)]

end Cert.ReferenceIdeal.Hand
-- ==== Proof.Splice.lean ====
/-
  The two large rings: sixteen rows of 128 × 128 × 128 elements, held by the kernel as thirty-two half rows.
-/
module

public import proofs.«01_k».proof.Proof.Run
public import proofs.«01_k».proof.Proof.RowSet
public import proofs.«01_k».proof.Proof.RefVal

@[expose] public section

set_option maxRecDepth 4000

noncomputable section

namespace Cert.KernelIdeal.Hand

open Cert.KernelIdeal Cert.KernelIdeal.Gen Cert.Slots
open Idealize.ShloMosaic Idealize.ShloMosaic.TcCoe Idealize.SL.Sem

/-- Element `(a, b, c, d)` of an array of half rows. -/
def halfAt {N : ℕ} (a b c d : ℕ) (ha : a < N) (hb : b < 64) (hc : c < 128) (hd : d < 128) : (S4 N).Idx
  | 0 => ⟨a, ha⟩
  | 1 => ⟨b, hb⟩
  | 2 => ⟨c, hc⟩
  | 3 => ⟨d, hd⟩

theorem halfAt_pos {N : ℕ} (a b c d : ℕ) (ha : a < N) (hb : b < 64) (hc : c < 128) (hd : d < 128) :
    ((S4 N).rowMajor (halfAt a b c d ha hb hc hd)).val = ((a * 64 + b) * 128 + c) * 128 + d := by
  rw [Shape.rowMajor_val_four]; rfl

/-- Two consecutive half rows replaced are one row replaced. -/
theorem splice_row {V : Type} (s : ℕ) (x : S16x128x128x128.Idx → V) (y : S1x128x128x128.Idx → V)
    (hx : S16x128x128x128.ShapeCasts S32x64x128x128) (hy : S1x128x128x128.ShapeCasts S2x64x128x128) (hr : S32x64x128x128.ShapeCasts S16x128x128x128)
    (hd : S1x128x128x128.ShapeCasts Cert.ReferenceIdeal.S128x128x128) :
    shapeCast S16x128x128x128 (splice (N := 32) (M := 2) (2 * s) (shapeCast S32x64x128x128 x hx) (shapeCast S2x64x128x128 y hy)) hr
      = fun i => if (i 0).val = s then shapeCast Cert.ReferenceIdeal.S128x128x128 y hd (inRow (s0 := 16) (sz := ![128, 128, 128]) i) else x i := by
  funext i
  have h0 : (i 0).val < 16 := (i 0).isLt
  have h1 : (i 1).val < 128 := (i 1).isLt
  have h2 : (i 2).val < 128 := (i 2).isLt
  have h3 : (i 3).val < 128 := (i 3).isLt
  have hi : (S16x128x128x128.rowMajor i).val = (((i 0).val * 128 + (i 1).val) * 128 + (i 2).val) * 128 + (i 3).val := by
    rw [Shape.rowMajor_val_four]; rfl
  rw [shapeCast_apply _ hr i (halfAt (N := 32) (2 * (i 0).val + (i 1).val / 64) ((i 1).val % 64) (i 2).val (i 3).val (by omega) (by omega) h2 h3)
    ((halfAt_pos ..).trans (by rw [hi]; omega))]
  unfold splice
  show (if h : 2 * s ≤ 2 * (i 0).val + (i 1).val / 64 ∧ 2 * (i 0).val + (i 1).val / 64 - 2 * s < 2 then _ else _) = _
  by_cases h : (i 0).val = s
  · have hc : 2 * s ≤ 2 * (i 0).val + (i 1).val / 64 ∧ 2 * (i 0).val + (i 1).val / 64 - 2 * s < 2 := by omega
    rw [dif_pos hc, if_pos h]
    have e : ∀ j : (S4 2).Idx, (j 0).val = (i 1).val / 64 → (j 1).val = (i 1).val % 64 → (j 2).val = (i 2).val → (j 3).val = (i 3).val →
        shapeCast S2x64x128x128 y hy j = shapeCast Cert.ReferenceIdeal.S128x128x128 y hd (inRow (s0 := 16) (sz := ![128, 128, 128]) i) := fun j e0 e1 e2 e3 => by
      unfold shapeCast
      refine congrArg y (Shape.reshapeEquiv_eq_of_rowMajor _ ?_)
      rw [Shape.rowMajor_reshapeEquiv, Shape.rowMajor_val_three]
      refine Eq.trans ?_ (Shape.rowMajor_val_four (d := ![2, 64, 128, 128]) j).symm
      show ((i 1).val * 128 + (i 2).val) * 128 + (i 3).val = (((j 0).val * 64 + (j 1).val) * 128 + (j 2).val) * 128 + (j 3).val
      rw [e0, e1, e2, e3]
      omega
    exact e _ (by show 2 * (i 0).val + (i 1).val / 64 - 2 * s = _; omega) rfl rfl rfl
  · have hc : ¬ (2 * s ≤ 2 * (i 0).val + (i 1).val / 64 ∧ 2 * (i 0).val + (i 1).val / 64 - 2 * s < 2) := by omega
    rw [dif_neg hc, if_neg h]
    exact shapeCast_apply x hx _ i (hi.trans ((halfAt_pos ..).trans (by omega)).symm)

variable {F : FTy → Type} [FloatOps F] [Named F] (m : (ℓ : Loc nD τ sig) → Buf (Elt F) ℓ)

/-- The row of the rings that is replaced. -/
def ringRow (c : Dev nD) : ℕ := (slotWord (frameN m c)).toNat

theorem V3_v4 (c : Dev nD) : (V3 m c main_v4 : S32x64x128x128.Idx → F .f32)
    = shapeCast S32x64x128x128 (m ((c : Thread nD τ).loc main_arg6) : S16x128x128x128.Idx → F .f32) shapeCasts_S16x128x128x128_S32x64x128x128 := by
  show StableHlo.after hostOps0_2 (V2 m c) main_v4 = _
  after_results
  rfl
theorem V3_v5 (c : Dev nD) : (V3 m c main_v5 : S32x64x128x128.Idx → F .f32)
    = shapeCast S32x64x128x128 (m ((c : Thread nD τ).loc main_arg8) : S16x128x128x128.Idx → F .f32) shapeCasts_S16x128x128x128_S32x64x128x128 := by
  show StableHlo.after hostOps0_2 (V2 m c) main_v5 = _
  after_results
  rfl
theorem V3_v6 (c : Dev nD) : (V3 m c main_v6 : S2x64x128x128.Idx → F .f32)
    = shapeCast S2x64x128x128 (m ((c : Thread nD τ).loc main_arg0) : S1x128x128x128.Idx → F .f32) shapeCasts_S1x128x128x128_S2x64x128x128 := by
  show StableHlo.after hostOps0_2 (V2 m c) main_v6 = _
  after_results
  rfl
theorem V3_v7 (c : Dev nD) : (V3 m c main_v7 : S2x64x128x128.Idx → F .f32)
    = shapeCast S2x64x128x128 (m ((c : Thread nD τ).loc main_arg1) : S1x128x128x128.Idx → F .f32) shapeCasts_S1x128x128x128_S2x64x128x128 := by
  show StableHlo.after hostOps0_2 (V2 m c) main_v7 = _
  after_results
  rfl

theorem V7_of_W (c : Dev nD) (b : Ref sig .tc) (h : b ∉ hostOps2_W) (h0 : b ≠ main_v25_0) (h1 : b ≠ main_v25_1) (h2 : b ≠ main_v25_2) (h3 : b ≠ main_v25_3)
    (h4 : b ≠ main_v25_4) : V7 m (outs m) c b = W m c b :=
  (V7_of m (outs m) c b h).trans ((congrFun (V6_eq m c) _).trans (Wp_of m c b h0 h1 h2 h3 h4))

/-- The feature maps' ring at the end. -/
theorem V7_v9 (c : Dev nD) (hd : S1x128x128x128.ShapeCasts Cert.ReferenceIdeal.S128x128x128) : V7 m (outs m) c main_v9 = fun i : S16x128x128x128.Idx => if (i 0).val = ringRow m c
    then shapeCast Cert.ReferenceIdeal.S128x128x128 (m ((c : Thread nD τ).loc main_arg0) : S1x128x128x128.Idx → F .f32) hd (inRow (s0 := 16) (sz := ![128, 128, 128]) i)
    else (m ((c : Thread nD τ).loc main_arg6) : S16x128x128x128.Idx → F .f32) i := by
  rw [V7_of_W m c main_v9 (by decide) (by decide) (by decide) (by decide) (by decide) (by decide)]
  have h : (W m c main_v9 : S16x128x128x128.Idx → F .f32) = shapeCast S16x128x128x128 (Vp m c main_v8_0 : S32x64x128x128.Idx → F .f32) shapeCasts_S32x64x128x128_S16x128x128x128 := by
    show StableHlo.after hostOps1 (Vp m c) main_v9 = _
    after_results
    rfl
  rw [h, (streamed m c).fmap1, V3_v4, V3_v6, frameNo_V3]
  exact splice_row _ _ _ _ _ _ _

/-- The other feature maps' ring at the end. -/
theorem V7_v10 (c : Dev nD) (hd : S1x128x128x128.ShapeCasts Cert.ReferenceIdeal.S128x128x128) : V7 m (outs m) c main_v10 = fun i : S16x128x128x128.Idx => if (i 0).val = ringRow m c
    then shapeCast Cert.ReferenceIdeal.S128x128x128 (m ((c : Thread nD τ).loc main_arg1) : S1x128x128x128.Idx → F .f32) hd (inRow (s0 := 16) (sz := ![128, 128, 128]) i)
    else (m ((c : Thread nD τ).loc main_arg8) : S16x128x128x128.Idx → F .f32) i := by
  rw [V7_of_W m c main_v10 (by decide) (by decide) (by decide) (by decide) (by decide) (by decide)]
  have h : (W m c main_v10 : S16x128x128x128.Idx → F .f32) = shapeCast S16x128x128x128 (Vp m c main_v8_1 : S32x64x128x128.Idx → F .f32) shapeCasts_S32x64x128x128_S16x128x128x128 := by
    show StableHlo.after hostOps1 (Vp m c) main_v10 = _
    after_results
    rfl
  rw [h, (streamed m c).imap, V3_v5, V3_v7, frameNo_V3]
  exact splice_row _ _ _ _ _ _ _

end Cert.KernelIdeal.Hand
-- ==== Proof.Grid.lean ====
/-
  The small rings after the second kernel: at every row of the grid it writes that row of each ring, new or as it was.
-/
module

public import proofs.«01_k».proof.Proof.Splice

@[expose] public section

noncomputable section

namespace Cert.KernelIdeal.Hand

open Cert.KernelIdeal Cert.KernelIdeal.Gen Cert.Slots
open Idealize.ShloMosaic Idealize.ShloMosaic.TcCoe Idealize.SL.Sem
open Idealize.ShloMosaic.Pipeline (Dat Cfg Window)

/-- A window that walks an array of sixteen rows, one at each point of the grid. -/
structure ByRow (w : Window sig grid1) : Prop where
  out : w.isOut = true
  index : ∀ t k, w.index t k = if k.val = 0 then t.val else 0
  size : ∀ k, w.size k = if k.val = 0 then 1 else w.shape.size k
  xsize : ∀ t k, w.xsize (grid1.coords t) k = w.size k
  rank : 0 < w.shape.rank
  rows : w.shape.size ⟨0, rank⟩ = 16
  pos : ∀ k, 0 < w.shape.size k

theorem ByRow.flush {w : Window sig grid1} (h : ByRow w) (t : Fin grid1.N) : w.flush t = true := by
  unfold Window.flush
  rw [h.out, Bool.true_and, Bool.or_eq_true, decide_eq_true_eq, decide_eq_true_eq]
  by_cases hl : t.val + 1 = grid1.N
  · exact .inl hl
  · refine .inr ⟨by have := t.isLt; omega, fun e => ?_⟩
    have e0 := congrFun e ⟨0, h.rank⟩
    rw [h.index, h.index, if_pos rfl, if_pos rfl] at e0
    exact absurd e0 (Nat.succ_ne_self t.val)

/-- Its blocks cover the array. -/
theorem ByRow.covers {w : Window sig grid1} (h : ByRow w) : w.Covers := by
  refine ⟨fun k => ?_, fun β => ?_⟩
  · rw [h.size]; split
    · exact Nat.one_pos
    · exact h.pos k
  · have hN : grid1.N = 16 := N_1
    have hb (k) : (β k).val < (w.shape.size k + w.size k - 1) / w.size k := (β k).isLt
    have h0 : (β ⟨0, h.rank⟩).val < 16 := by
      have := hb ⟨0, h.rank⟩
      rw [h.size, if_pos rfl, h.rows] at this
      omega
    refine ⟨⟨(β ⟨0, h.rank⟩).val, by omega⟩, h.flush _, fun k => ⟨?_, .inl (h.xsize _ k)⟩⟩
    rw [h.index]
    by_cases hk : k.val = 0
    · rw [if_pos hk]
      exact congrArg (fun k => (β k).val) (Fin.ext hk.symm)
    · rw [if_neg hk]
      have := hb k
      rw [h.size, if_neg hk] at this
      have hp := h.pos k
      have : (w.shape.size k + w.shape.size k - 1) / w.shape.size k ≤ 1 := by
        rw [Nat.div_le_iff_le_mul hp]; omega
      omega

/-- Where its block's elements lie. -/
theorem ByRow.emb {w : Window sig grid1} (h : ByRow w) (t : Fin grid1.N) (y) (k : Fin w.shape.rank) :
    ((w.rect t).emb y k : ℕ) = if k.val = 0 then t.val else (y k).val := by
  rw [Window.rect_emb_val w t y k (w.kind_out h.out), h.index, h.size]
  have hy : (y k).val < w.xsize (grid1.coords t) k := (y k).isLt
  rw [h.xsize, h.size] at hy
  split
  · rw [if_pos ‹_›] at hy; omega
  · omega

variable {F : FTy → Type} [FloatOps F] [Named F]

theorem coord_val : ∀ t : Fin grid1.N, (grid1.coords t 0).val = t.val := by decide +kernel

/-- The row replaced is the one whose number the table holds. -/
theorem cond1_iff (t : Fin grid1.N) (v : BitVec 32) : k1_cond1 (grid1.coords t) v = 1#1 ↔ t.val = v.toNat := by
  have ht : t.val < 16 := N_1 ▸ t.isLt
  unfold k1_cond1
  rw [coord_val]
  have hv : BitVec.ofNat 32 t.val = v ↔ t.val = v.toNat := by
    constructor
    · rintro rfl; rw [BitVec.toNat_ofNat]; omega
    · intro h; exact BitVec.eq_of_toNat_eq (by rw [BitVec.toNat_ofNat]; omega)
  by_cases h : BitVec.ofNat 32 t.val = v
  · simp [Scalar.cmpi, Scalar.extui, IntOp.cmpi, h, hv.mp h]
  · have hb : (BitVec.ofNat 32 t.val == v) = false := by simpa using h
    simp [Scalar.cmpi, Scalar.extui, IntOp.cmpi, bne, hb, mt hv.mpr h]

variable (a : (pcfg1 (F := F)).Adm) (W : Dev nD → Valuation τ sig (Elt F)) (c : Dev nD)

theorem row9 : ByRow ((cfg1 a).win 9) where
  out := rfl
  index t k := (by decide +kernel : ∀ (t : Fin grid1.N) (k : Fin 3), cc1_transform_9 (grid1.coords t) k = if k.val = 0 then t.val else 0) t k
  size k := (by decide +kernel : ∀ k : Fin 3, spec1_9.size k = if k.val = 0 then 1 else spec1_9.shape.size k) k
  xsize t k := rfl
  rank := (by decide : 0 < 3)
  rows := rfl
  pos := (by decide +kernel : ∀ k : Fin 3, 0 < spec1_9.shape.size k)
theorem row10 : ByRow ((cfg1 a).win 10) where
  out := rfl
  index t k := (by decide +kernel : ∀ (t : Fin grid1.N) (k : Fin 3), cc1_transform_10 (grid1.coords t) k = if k.val = 0 then t.val else 0) t k
  size k := (by decide +kernel : ∀ k : Fin 3, spec1_10.size k = if k.val = 0 then 1 else spec1_10.shape.size k) k
  xsize t k := rfl
  rank := (by decide : 0 < 3)
  rows := rfl
  pos := (by decide +kernel : ∀ k : Fin 3, 0 < spec1_10.shape.size k)
theorem row11 : ByRow ((cfg1 a).win 11) where
  out := rfl
  index t k := (by decide +kernel : ∀ (t : Fin grid1.N) (k : Fin 3), cc1_transform_11 (grid1.coords t) k = if k.val = 0 then t.val else 0) t k
  size k := (by decide +kernel : ∀ k : Fin 3, spec1_11.size k = if k.val = 0 then 1 else spec1_11.shape.size k) k
  xsize t k := rfl
  rank := (by decide : 0 < 3)
  rows := rfl
  pos := (by decide +kernel : ∀ k : Fin 3, 0 < spec1_11.shape.size k)
theorem row13 : ByRow ((cfg1 a).win 13) where
  out := rfl
  index t k := (by decide +kernel : ∀ (t : Fin grid1.N) (k : Fin 3), cc1_transform_13 (grid1.coords t) k = if k.val = 0 then t.val else 0) t k
  size k := (by decide +kernel : ∀ k : Fin 3, spec1_13.size k = if k.val = 0 then 1 else spec1_13.shape.size k) k
  xsize t k := rfl
  rank := (by decide : 0 < 3)
  rows := rfl
  pos := (by decide +kernel : ∀ k : Fin 3, 0 < spec1_13.shape.size k)

/-- An index with its row forgotten. -/
def top {p q : ℕ} (i : Shape.Idx ⟨3, ![16, p, q]⟩) : Shape.Idx ⟨3, ![1, p, q]⟩
  | 0 => ⟨0, Nat.one_pos⟩
  | 1 => i 1
  | 2 => i 2

/-- An array of sixteen rows with one replaced. -/
def setRow {V : Type} {p q : ℕ} (s : ℕ) (x : Shape.Idx ⟨3, ![16, p, q]⟩ → V) (y : Shape.Idx ⟨3, ![1, p, q]⟩ → V) : Shape.Idx ⟨3, ![16, p, q]⟩ → V :=
  fun i => if (i 0).val = s then y (top i) else x i

theorem setRow_at {V : Type} {p q : ℕ} (s : ℕ) (x : Shape.Idx ⟨3, ![16, p, q]⟩ → V) (y : Shape.Idx ⟨3, ![1, p, q]⟩ → V) (i : Shape.Idx ⟨3, ![16, p, q]⟩)
    (j : Shape.Idx ⟨3, ![1, p, q]⟩) (t : ℕ) (h0 : (i 0).val = t) (h1 : (i 1).val = (j 1).val) (h2 : (i 2).val = (j 2).val) :
    setRow s x y i = if t = s then y j else x i := by
  unfold setRow
  rw [h0]
  split
  · refine congrArg y (funext fun k => ?_)
    match k with
    | 0 => exact Subsingleton.elim (α := Fin 1) _ _
    | 1 => exact Fin.ext h1
    | 2 => exact Fin.ext h2
  · rfl

/-- A block that is its whole array. -/
theorem whole_emb (w : Window sig grid1) (t : Fin grid1.N) (y) (k : Fin w.shape.rank) (h : w.index t k = 0) : ((w.rect t).emb y k : ℕ) = (y k).val :=
  Window.rect_emb_val_of_index_zero w t k h y

theorem blk2 (t : Fin (cfg1 a).N) : blk1 a W c 2 t = (W c main_v11 : S1x128x1024.Idx → F .f32) :=
  funext fun y => congrArg (W c main_v11 : S1x128x1024.Idx → F .f32) (funext fun k => Fin.ext (whole_emb ((cfg1 a).win 2) t y k
    ((by decide : ∀ k : Fin 3, (![0, 0, 0] : Fin 3 → ℕ) k = 0) k)))
theorem blk3 (t : Fin (cfg1 a).N) : blk1 a W c 3 t = (W c main_v13 : S1x80x1152.Idx → F .f32) :=
  funext fun y => congrArg (W c main_v13 : S1x80x1152.Idx → F .f32) (funext fun k => Fin.ext (whole_emb ((cfg1 a).win 3) t y k
    ((by decide : ∀ k : Fin 3, (![0, 0, 0] : Fin 3 → ℕ) k = 0) k)))
theorem blkc (t : Fin (cfg1 a).N) : blk1 a W c 1 t = (W c main_v17 : S1x2x80.Idx → F .f32) :=
  funext fun y => congrArg (W c main_v17 : S1x2x80.Idx → F .f32) (funext fun k => Fin.ext (whole_emb ((cfg1 a).win 1) t y k
    ((by decide : ∀ k : Fin 3, (![0, 0, 0] : Fin 3 → ℕ) k = 0) k)))
theorem blk0 (t : Fin (cfg1 a).N) : blk1 a W c 0 t = (W c main_v18 : S1x1.Idx → F .f32) :=
  funext fun y => congrArg (W c main_v18 : S1x1.Idx → F .f32) (funext fun k => Fin.ext (whole_emb ((cfg1 a).win 0) t y k
    ((by decide : ∀ k : Fin 2, (![0, 0] : Fin 2 → ℕ) k = 0) k)))
theorem blk7 (t : Fin (cfg1 a).N) : blk1 a W c 7 t = (W c main_v20 : S1x16.Idx → F .f32) :=
  funext fun y => congrArg (W c main_v20 : S1x16.Idx → F .f32) (funext fun k => Fin.ext (whole_emb ((cfg1 a).win 7) t y k
    ((by decide : ∀ k : Fin 2, (![0, 0] : Fin 2 → ℕ) k = 0) k)))

/-- Six of the body's stores move a row as it is. -/
theorem pay7 (x : Vec F S1x128x1024 .f32) : k1_pay7 (F := F) x = x := by unfold k1_pay7; exact shapeCast_shapeCast ..
theorem pay2 (x : Vec F S1x128x1024 .f32) : k1_pay2 (F := F) x = x := by unfold k1_pay2; exact shapeCast_shapeCast ..
theorem pay8 (x : Vec F S1x80x1152 .f32) : k1_pay8 (F := F) x = x := by unfold k1_pay8; exact shapeCast_shapeCast ..
theorem pay3 (x : Vec F S1x80x1152 .f32) : k1_pay3 (F := F) x = x := by unfold k1_pay3; exact shapeCast_shapeCast ..
theorem pay4 (x : Vec F S1x3x80 .f32) : k1_pay4 (F := F) x = x := by unfold k1_pay4; exact shapeCast_shapeCast ..
theorem pay5 (x : Vec F S1x1x80 .i32) : k1_pay5 (F := F) x = x := by unfold k1_pay5; exact shapeCast_shapeCast ..

theorem rowPooled_at (t : Fin grid1.N) (v : BitVec 32) (x4 x6 : Vec F S1x128x1024 .f32) (y : S1x128x1024.Idx) :
    rowPooled (grid1.coords t) v x4 x6 y = if t.val = v.toNat then x4 y else x6 y := by
  unfold rowPooled
  by_cases h : t.val = v.toNat
  · rw [if_pos ((cond1_iff t _).mpr h), if_pos h]; exact congrFun (pay7 _) y
  · rw [if_neg (mt (cond1_iff t _).mp h), if_neg h]; exact congrFun (pay2 _) y
theorem rowPatches_at (t : Fin grid1.N) (v : BitVec 32) (x5 x7 : Vec F S1x80x1152 .f32) (y : S1x80x1152.Idx) :
    rowPatches (grid1.coords t) v x5 x7 y = if t.val = v.toNat then x5 y else x7 y := by
  unfold rowPatches
  by_cases h : t.val = v.toNat
  · rw [if_pos ((cond1_iff t _).mpr h), if_pos h]; exact congrFun (pay8 _) y
  · rw [if_neg (mt (cond1_iff t _).mp h), if_neg h]; exact congrFun (pay3 _) y
theorem rowState_at (t : Fin grid1.N) (v : BitVec 32) (x3 : Vec F S1x2x80 .f32) (x8 : Vec F S1x3x80 .f32) (y : S1x3x80.Idx) :
    rowState (grid1.coords t) v x3 x8 y = if t.val = v.toNat then k1_pay9 x3 y else x8 y := by
  unfold rowState
  by_cases h : t.val = v.toNat
  · rw [if_pos ((cond1_iff t _).mpr h), if_pos h]
  · rw [if_neg (mt (cond1_iff t _).mp h), if_neg h]; exact congrFun (pay4 _) y
theorem rowSource_at (t : Fin grid1.N) (v n : BitVec 32) (x : Vec F S1x1x80 .i32) (y : S1x1x80.Idx) :
    rowSource (F := F) (grid1.coords t) v n x y = if t.val = v.toNat then n else x y := by
  unfold rowSource
  by_cases h : t.val = v.toNat
  · rw [if_pos ((cond1_iff t _).mpr h), if_pos h]; rfl
  · rw [if_neg (mt (cond1_iff t _).mp h), if_neg h]; exact congrFun (pay5 _) y

/-- The pooled ring after the kernel, -/
theorem left9 : (dat1 a W c).arrAt 9 (cfg1 a).N
    = setRow (tab0 a).toNat (W c main_v12 : S16x128x1024.Idx → F .f32) (W c main_v11 : S1x128x1024.Idx → F .f32) := by
  refine (dat1 a W c).arrAt_eq_of_covers 9 _ (row9 a).covers fun t _ y => ?_
  refine Eq.trans ?_ (setRow_at _ _ _ _ y t.val ((row9 a).emb t y (0 : Fin 3)) ((row9 a).emb t y (1 : Fin 3)) ((row9 a).emb t y (2 : Fin 3))).symm
  exact (rowPooled_at t (tab0 a) (blk1 a W c 2 t) (blk1 a W c 4 t) y).trans (congrArg (fun x : S1x128x1024.Idx → F .f32 => if t.val = (tab0 a).toNat then x y else blk1 a W c 4 t y) (blk2 a W c t))
/-- the patches' ring, -/
theorem left10 : (dat1 a W c).arrAt 10 (cfg1 a).N
    = setRow (tab0 a).toNat (W c main_v14 : S16x80x1152.Idx → F .f32) (W c main_v13 : S1x80x1152.Idx → F .f32) := by
  refine (dat1 a W c).arrAt_eq_of_covers 10 _ (row10 a).covers fun t _ y => ?_
  refine Eq.trans ?_ (setRow_at _ _ _ _ y t.val ((row10 a).emb t y (0 : Fin 3)) ((row10 a).emb t y (1 : Fin 3)) ((row10 a).emb t y (2 : Fin 3))).symm
  exact (rowPatches_at t (tab0 a) (blk1 a W c 3 t) (blk1 a W c 5 t) y).trans (congrArg (fun x : S1x80x1152.Idx → F .f32 => if t.val = (tab0 a).toNat then x y else blk1 a W c 5 t y) (blk3 a W c t))
/-- the states' ring, -/
theorem left11 : (dat1 a W c).arrAt 11 (cfg1 a).N
    = setRow (tab0 a).toNat (W c main_v19 : S16x3x80.Idx → F .f32) (k1_pay9 (W c main_v17 : S1x2x80.Idx → F .f32)) := by
  refine (dat1 a W c).arrAt_eq_of_covers 11 _ (row11 a).covers fun t _ y => ?_
  refine Eq.trans ?_ (setRow_at _ _ _ _ y t.val ((row11 a).emb t y (0 : Fin 3)) ((row11 a).emb t y (1 : Fin 3)) ((row11 a).emb t y (2 : Fin 3))).symm
  exact (rowState_at t (tab0 a) (blk1 a W c 1 t) (blk1 a W c 6 t) y).trans (congrArg (fun x : S1x2x80.Idx → F .f32 => if t.val = (tab0 a).toNat then k1_pay9 x y else blk1 a W c 6 t y) (blkc a W c t))
/-- and the source frames' ring. -/
theorem left13 : (dat1 a W c).arrAt 13 (cfg1 a).N
    = setRow (tab0 a).toNat (W c main_v21 : S16x1x80.Idx → BitVec 32) (fun _ => tab1 a) := by
  refine (dat1 a W c).arrAt_eq_of_covers 13 _ (row13 a).covers fun t _ y => ?_
  refine Eq.trans ?_ (setRow_at _ _ _ _ y t.val ((row13 a).emb t y (0 : Fin 3)) ((row13 a).emb t y (1 : Fin 3)) ((row13 a).emb t y (2 : Fin 3))).symm
  exact rowSource_at t (tab0 a) (tab1 a) (blk1 a W c 8 t) y

/-- The times after the kernel. -/
theorem left12 : (dat1 a W c).arrAt 12 (cfg1 a).N
    = (k1_pay6 (tab0 a) (W c main_v18 : S1x1.Idx → F .f32) (W c main_v20 : S1x16.Idx → F .f32) : S1x16.Idx → F .f32) := by
  have hN : 15 < (cfg1 a).N := by rw [N1_eq]; omega
  have hf : ((cfg1 a).win 12).flush ⟨15, hN⟩ = true := by
    unfold Window.flush
    rw [Bool.and_eq_true, Bool.or_eq_true, decide_eq_true_eq]
    exact ⟨rfl, .inl N_1.symm⟩
  refine (dat1 a W c).arrAt_eq_of_after_last 12 ⟨15, hN⟩ ⟨hf, fun t ht => Fin.ext ?_, fun k => ⟨?_, rfl⟩⟩ _ fun j => ?_
  · have h16 : t.val < 16 := N1_eq a ▸ t.isLt
    by_contra hne
    have hne' : ¬ t.val = 15 := hne
    rw [flush12 a t (by omega)] at ht
    exact Bool.false_ne_true ht
  · exact (by decide : ∀ k : Fin 2, (![0, 0] : Fin 2 → ℕ) k = 0) k
  · show timesOf a W c ⟨15, hN⟩ j = _
    unfold timesOf
    rw [blk0, blk7]
    rfl

end Cert.KernelIdeal.Hand
-- ==== Proof.KerVal.lean ====
/-
  What the kernel's program computes: each of the five small results as its argument with one row set.
-/
module

public import proofs.«01_k».proof.Proof.Grid

@[expose] public section

noncomputable section

namespace Cert.KernelIdeal.Hand

open Cert.KernelIdeal Cert.KernelIdeal.Gen Cert.Slots
open Idealize.ShloMosaic Idealize.ShloMosaic.TcCoe Idealize.SL.Sem

/-- An index of an array whose rows are matrices flattened along their last two axes. -/
def flat {N p q r n : ℕ} (hn : n = q * r) (i : Shape.Idx ⟨4, ![N, p, q, r]⟩) : Shape.Idx ⟨3, ![N, p, n]⟩
  | 0 => i 0
  | 1 => i 1
  | 2 => ⟨(i 2).val * r + (i 3).val, by
    have h2 : (i 2).val < q := (i 2).isLt
    have h3 : (i 3).val < r := (i 3).isLt
    calc (i 2).val * r + (i 3).val < (i 2).val * r + r := by omega
      _ = ((i 2).val + 1) * r := by ring
      _ ≤ q * r := Nat.mul_le_mul_right r h2
      _ = n := hn.symm⟩

theorem flat_pos {N p q r n : ℕ} (hn : n = q * r) (i : Shape.Idx ⟨4, ![N, p, q, r]⟩) :
    (Shape.rowMajor (⟨3, ![N, p, n]⟩ : Shape) (flat hn i)).val = (Shape.rowMajor (⟨4, ![N, p, q, r]⟩ : Shape) i).val := by
  rw [Shape.rowMajor_val_three, Shape.rowMajor_val_four]
  show ((i 0).val * p + (i 1).val) * n + ((i 2).val * r + (i 3).val) = (((i 0).val * p + (i 1).val) * q + (i 2).val) * r + (i 3).val
  rw [hn]; ring

/-- A row set in the flattened array is the row set in the array. -/
theorem setRow_flat {V : Type} {p q r n : ℕ} (hn : n = q * r) (s : ℕ) (x : Shape.Idx ⟨4, ![16, p, q, r]⟩ → V) {u : Shape} (y : u.Idx → V)
    (hx : Shape.ShapeCasts ⟨4, ![16, p, q, r]⟩ ⟨3, ![16, p, n]⟩) (hr : Shape.ShapeCasts ⟨3, ![16, p, n]⟩ ⟨4, ![16, p, q, r]⟩)
    (hy : u.ShapeCasts ⟨3, ![1, p, n]⟩) (hd : u.ShapeCasts ⟨3, ![p, q, r]⟩) :
    shapeCast (⟨4, ![16, p, q, r]⟩ : Shape) (setRow s (shapeCast (⟨3, ![16, p, n]⟩ : Shape) x hx) (shapeCast (⟨3, ![1, p, n]⟩ : Shape) y hy)) hr
      = fun i => if (i 0).val = s then shapeCast (⟨3, ![p, q, r]⟩ : Shape) y hd (inRow (s0 := 16) (sz := ![p, q, r]) i) else x i := by
  funext i
  rw [shapeCast_apply _ hr i (flat hn i) (flat_pos hn i)]
  unfold setRow
  show (if (i 0).val = s then _ else _) = _
  refine congrArg₂ (fun a b => if (i 0).val = s then a else b) ?_ (shapeCast_apply x hx _ i (flat_pos hn i).symm)
  unfold shapeCast
  refine congrArg y (Shape.reshapeEquiv_eq_of_rowMajor _ ?_)
  rw [Shape.rowMajor_reshapeEquiv]
  refine (Shape.rowMajor_val_three (d := ![p, q, r]) _).trans (Eq.trans ?_ (Shape.rowMajor_val_three (d := ![1, p, n]) _).symm)
  show ((i 1).val * q + (i 2).val) * r + (i 3).val = (0 * p + (i 1).val) * n + ((i 2).val * r + (i 3).val)
  rw [hn]; ring

/-- An index of the states with its last two axes exchanged, -/
def flip (i : S16x80x3.Idx) : S16x3x80.Idx
  | 0 => i 0
  | 1 => i 2
  | 2 => i 1
/-- and its row forgotten. -/
def flipTop (i : S16x80x3.Idx) : S1x3x80.Idx
  | 0 => ⟨0, Nat.one_pos⟩
  | 1 => i 2
  | 2 => i 1

theorem setRow_flip {V : Type} (s : ℕ) (x : S16x80x3.Idx → V) (y : S1x3x80.Idx → V) :
    transpose S16x80x3 [0, 2, 1] (setRow s (transpose S16x3x80 [0, 2, 1] x transposes_S16x80x3_S16x3x80_0_2_1) y) transposes_S16x3x80_S16x80x3_0_2_1
      = fun i => if (i 0).val = s then y (flipTop i) else x i := by
  funext i
  rw [transpose_apply _ _ _ i (flip i) (fun b => by fin_cases b <;> rfl)]
  unfold setRow
  show (if (i 0).val = s then _ else _) = _
  refine congrArg₂ (fun a b => if (i 0).val = s then a else b) (congrArg y (funext fun k => ?_)) (transpose_apply _ x _ (flip i) i (fun b => by fin_cases b <;> rfl))
  match k with
  | 0 => rfl
  | 1 => rfl
  | 2 => rfl

/-- An index of the source frames with a middle axis of extent one. -/
def mid (i : S16x80.Idx) : S16x1x80.Idx
  | 0 => i 0
  | 1 => ⟨0, Nat.one_pos⟩
  | 2 => i 1

theorem mid_pos (i : S16x80.Idx) : (S16x1x80.rowMajor (mid i)).val = (S16x80.rowMajor i).val := by
  refine (Shape.rowMajor_val_three (d := ![16, 1, 80]) _).trans (Eq.trans ?_ (Shape.rowMajor_val_two (d := ![16, 80]) i).symm)
  show ((i 0).val * 1 + 0) * 80 + (i 1).val = (i 0).val * 80 + (i 1).val
  omega

theorem setRow_mid {V : Type} (s : ℕ) (x : S16x80.Idx → V) (n : V) :
    shapeCast S16x80 (setRow s (shapeCast S16x1x80 x shapeCasts_S16x80_S16x1x80) (fun _ => n)) shapeCasts_S16x1x80_S16x80
      = fun i => if (i 0).val = s then n else x i := by
  funext i
  rw [shapeCast_apply _ _ i (mid i) (mid_pos i)]
  unfold setRow
  show (if (i 0).val = s then _ else _) = _
  exact congrArg (fun b => if (i 0).val = s then n else b) (shapeCast_apply x _ _ i (mid_pos i).symm)

/-- An index of the times as a row vector's. -/
def lane (i : S16.Idx) : S1x16.Idx
  | 0 => ⟨0, Nat.one_pos⟩
  | 1 => i 0

theorem lane_pos (i : S16.Idx) : (S1x16.rowMajor (lane i)).val = (S16.rowMajor i).val := by
  refine (Shape.rowMajor_val_two (d := ![1, 16]) _).trans (Eq.trans ?_ (Shape.rowMajor_val_one (d := ![16]) i).symm)
  show 0 * 16 + (i 0).val = (i 0).val
  omega

variable {F : FTy → Type} [FloatOps F] [Named F]

theorem select_lane {V : Type} (n : ℕ) (hn : n < 16) (v : BitVec 32) (x y : V) :
    Scalar.select (IntOp.cmpi .eq (BitVec.ofNat 32 n) v) x y = if n = v.toNat then x else y := by
  by_cases h : n = v.toNat
  · have : BitVec.ofNat 32 n = v := BitVec.eq_of_toNat_eq (by rw [BitVec.toNat_ofNat]; omega)
    rw [if_pos h, this]
    simp [Scalar.select, IntOp.cmpi]
  · have : ¬ BitVec.ofNat 32 n = v := fun e => h (by rw [← e, BitVec.toNat_ofNat]; omega)
    have hb : (BitVec.ofNat 32 n == v) = false := by simpa using this
    rw [if_neg h]
    simp [Scalar.select, IntOp.cmpi, hb]

theorem times_at (v : BitVec 32) (ts : S1.Idx → F .f32) (x : S16.Idx → F .f32) (o : S1.Idx) :
    shapeCast S16 (k1_pay6 v (shapeCast S1x1 ts shapeCasts_S1_S1x1) (shapeCast S1x16 x shapeCasts_S16_S1x16)) shapeCasts_S1x16_S16
      = fun i => if (i 0).val = v.toNat then ts o else x i := by
  funext i
  rw [shapeCast_apply _ _ i (lane i) (lane_pos i)]
  unfold k1_pay6
  have e1 : extractAt ![0, 0] (shapeCast S1x1 ts shapeCasts_S1_S1x1) inpos_S1x1_p0_0 = ts o := by
    unfold extractAt shapeCast
    refine congrArg ts (funext fun k => ?_)
    match k with
    | 0 => exact Subsingleton.elim (α := Fin 1) _ _
  have e2 : shapeCast S1x16 (shapeCast S1x16 x shapeCasts_S16_S1x16) shapeCasts_S1x16_S1x16 (lane i) = x i := by
    rw [shapeCast_self]
    exact shapeCast_apply x _ _ i (lane_pos i).symm
  rw [e1]
  show Scalar.select (IntOp.cmpi .eq (BitVec.ofNat 32 (0 * 16 + (i 0).val)) v) (ts o) (shapeCast S1x16 (shapeCast S1x16 x shapeCasts_S16_S1x16) shapeCasts_S1x16_S1x16 (lane i)) = _
  rw [e2, Nat.zero_mul, Nat.zero_add]
  exact select_lane (i 0).val (i 0).isLt v (ts o) (x i)

variable (m : (ℓ : Loc nD τ sig) → Buf (Elt F) ℓ) (c : Dev nD)

theorem V3_arg (b : Ref sig .tc) (h0 : b ∉ hostOps0_W) (h1 : b ∉ hostOps0_1_W) (h2 : b ∉ hostOps0_2_W) : V3 m c b = m ((c : Thread nD τ).loc b) :=
  (V3_of m c b h2).trans ((V2_of m c b h1).trans (V1_of m c b h0))
theorem Vp_arg (b : Ref sig .tc) (h0 : b ∉ hostOps0_W) (h1 : b ∉ hostOps0_1_W) (h2 : b ∉ hostOps0_2_W) (n0 : b ≠ main_v8_0) (n1 : b ≠ main_v8_1) (n2 : b ≠ main_v8_2) :
    Vp m c b = m ((c : Thread nD τ).loc b) :=
  ((streamed m c).rest b n0 n1 n2).trans (V3_arg m c b h0 h1 h2)

theorem W_v11 : (W m c main_v11 : S1x128x1024.Idx → F .f32) = shapeCast S1x128x1024 (pooled (F := F) (V3 m c main_v6)) shapeCasts_S128x32x32_S1x128x1024 := by
  rw [← (streamed m c).pool]
  show StableHlo.after hostOps1 (Vp m c) main_v11 = _
  after_results
  rfl
theorem W_v12 : (W m c main_v12 : S16x128x1024.Idx → F .f32) = shapeCast S16x128x1024 (m ((c : Thread nD τ).loc main_arg7) : S16x128x32x32.Idx → F .f32) shapeCasts_S16x128x32x32_S16x128x1024 := by
  rw [← Vp_arg m c main_arg7 (by decide) (by decide) (by decide) (by decide) (by decide) (by decide)]
  show StableHlo.after hostOps1 (Vp m c) main_v12 = _
  after_results
  rfl
theorem W_v13 : (W m c main_v13 : S1x80x1152.Idx → F .f32) = shapeCast S1x80x1152 (m ((c : Thread nD τ).loc main_arg2) : S1x80x128x9.Idx → F .f32) shapeCasts_S1x80x128x9_S1x80x1152 := by
  rw [← Vp_arg m c main_arg2 (by decide) (by decide) (by decide) (by decide) (by decide) (by decide)]
  show StableHlo.after hostOps1 (Vp m c) main_v13 = _
  after_results
  rfl
theorem W_v14 : (W m c main_v14 : S16x80x1152.Idx → F .f32) = shapeCast S16x80x1152 (m ((c : Thread nD τ).loc main_arg9) : S16x80x128x9.Idx → F .f32) shapeCasts_S16x80x128x9_S16x80x1152 := by
  rw [← Vp_arg m c main_arg9 (by decide) (by decide) (by decide) (by decide) (by decide) (by decide)]
  show StableHlo.after hostOps1 (Vp m c) main_v14 = _
  after_results
  rfl
/-- The coordinates as the second kernel is given them. -/
def coordsOf (x : S1x80x2.Idx → F .f32) : S1x2x80.Idx → F .f32 :=
  shapeCast S1x2x80 (transpose S2x80 [1, 0] (shapeCast S80x2 x shapeCasts_S1x80x2_S80x2) transposes_S80x2_S2x80_1_0) shapeCasts_S2x80_S1x2x80
theorem W_v17 : (W m c main_v17 : S1x2x80.Idx → F .f32) = coordsOf (m ((c : Thread nD τ).loc main_arg3) : S1x80x2.Idx → F .f32) := by
  rw [← Vp_arg m c main_arg3 (by decide) (by decide) (by decide) (by decide) (by decide) (by decide)]
  show StableHlo.after hostOps1 (Vp m c) main_v17 = _
  after_results
  rfl
theorem W_v18 : (W m c main_v18 : S1x1.Idx → F .f32) = shapeCast S1x1 (m ((c : Thread nD τ).loc main_arg4) : S1.Idx → F .f32) shapeCasts_S1_S1x1 := by
  rw [← Vp_arg m c main_arg4 (by decide) (by decide) (by decide) (by decide) (by decide) (by decide)]
  show StableHlo.after hostOps1 (Vp m c) main_v18 = _
  after_results
  rfl
theorem W_v19 : (W m c main_v19 : S16x3x80.Idx → F .f32) = transpose S16x3x80 [0, 2, 1] (m ((c : Thread nD τ).loc main_arg10) : S16x80x3.Idx → F .f32) transposes_S16x80x3_S16x3x80_0_2_1 := by
  rw [← Vp_arg m c main_arg10 (by decide) (by decide) (by decide) (by decide) (by decide) (by decide)]
  show StableHlo.after hostOps1 (Vp m c) main_v19 = _
  after_results
theorem W_v20 : (W m c main_v20 : S1x16.Idx → F .f32) = shapeCast S1x16 (m ((c : Thread nD τ).loc main_arg11) : S16.Idx → F .f32) shapeCasts_S16_S1x16 := by
  rw [← Vp_arg m c main_arg11 (by decide) (by decide) (by decide) (by decide) (by decide) (by decide)]
  show StableHlo.after hostOps1 (Vp m c) main_v20 = _
  after_results
  rfl
theorem W_v21 : (W m c main_v21 : S16x1x80.Idx → BitVec 32) = shapeCast S16x1x80 (m ((c : Thread nD τ).loc main_arg12) : S16x80.Idx → BitVec 32) shapeCasts_S16x80_S16x1x80 := by
  rw [← Vp_arg m c main_arg12 (by decide) (by decide) (by decide) (by decide) (by decide) (by decide)]
  show StableHlo.after hostOps1 (Vp m c) main_v21 = _
  after_results
  rfl
theorem W_v24 : (W m c main_v24 : S2.Idx → BitVec 32) = concatenate S2 0 [⟨S1, fun _ => slotWord (frameN m c)⟩, ⟨S1, fun _ => frameN m c⟩] concatenates_S1_S1_S2_d0 := by
  have h : (W m c main_v24 : S2.Idx → BitVec 32) = concatenate S2 0 [⟨S1, broadcastInDim S1 ![] bcast_S_S1 (Vp m c main_v0 : S_.Idx → BitVec 32)⟩,
      ⟨S1, broadcastInDim S1 ![] bcast_S_S1 (Vp m c main_arg5 : S_.Idx → BitVec 32)⟩] concatenates_S1_S1_S2_d0 := by
    show StableHlo.after hostOps1 (Vp m c) main_v24 = _
    after_results
  have h0 : (Vp m c main_v0 : S_.Idx → BitVec 32) = fun _ => slotWord (frameN m c) :=
    ((streamed m c).rest main_v0 (by decide) (by decide) (by decide)).trans (V3_v0 m c)
  have h5 : (Vp m c main_arg5 : S_.Idx → BitVec 32) = fun _ => frameN m c := by
    rw [Vp_arg m c main_arg5 (by decide) (by decide) (by decide) (by decide) (by decide) (by decide)]
    exact funext fun i => congrArg (m ((c : Thread nD τ).loc main_arg5) : S_.Idx → BitVec 32) (funext fun x => x.elim0)
  rw [h, h0, h5]
  rfl

theorem pair_fst (a b : BitVec 32) (i : S2.Idx) (h : (i 0).val = 0) :
    concatenate S2 0 [⟨S1, fun _ => a⟩, ⟨S1, fun _ => b⟩] concatenates_S1_S1_S2_d0 i = a := by
  obtain rfl : i = (show S2.Idx from fun x => ⟨0, by match x with | ⟨0, _⟩ => exact Nat.succ_pos 1⟩) :=
    funext fun x => Fin.ext (by match x with | ⟨0, _⟩ => exact h)
  rfl
theorem pair_snd (a b : BitVec 32) (i : S2.Idx) (h : (i 0).val = 1) :
    concatenate S2 0 [⟨S1, fun _ => a⟩, ⟨S1, fun _ => b⟩] concatenates_S1_S1_S2_d0 i = b := by
  obtain rfl : i = (show S2.Idx from fun x => ⟨1, by match x with | ⟨0, _⟩ => exact Nat.lt_succ_self 1⟩) :=
    funext fun x => Fin.ext (by match x with | ⟨0, _⟩ => exact h)
  rfl

theorem tab0_of (a : (pcfg1 (F := F)).Adm) (X : S2.Idx → BitVec 32) (h : (a.1 0 : S2.Idx → BitVec 32) = X) (v : BitVec 32)
    (hX : ∀ i : S2.Idx, (i 0).val = 0 → X i = v) : tab0 a = v := by
  unfold tab0
  subst h
  exact hX _ rfl
theorem tab1_of (a : (pcfg1 (F := F)).Adm) (X : S2.Idx → BitVec 32) (h : (a.1 0 : S2.Idx → BitVec 32) = X) (v : BitVec 32)
    (hX : ∀ i : S2.Idx, (i 0).val = 1 → X i = v) : tab1 a = v := by
  unfold tab1
  subst h
  exact hX _ rfl
theorem adm1_table : ((adm1 m).1 0 : S2.Idx → BitVec 32) = (W m 0 main_v24 : S2.Idx → BitVec 32) := by
  unfold adm1
  rfl

/-- The table holds the row replaced and the frame's number. -/
theorem tab0_eq : tab0 (adm1 m) = slotWord (frameN m c) := by
  rw [show c = 0 from Subsingleton.elim (α := Fin 1) _ _]
  exact tab0_of _ _ ((adm1_table m).trans (W_v24 m 0)) _ fun i h => pair_fst _ _ i h
theorem tab1_eq : tab1 (adm1 m) = frameN m c := by
  rw [show c = 0 from Subsingleton.elim (α := Fin 1) _ _]
  exact tab1_of _ _ ((adm1_table m).trans (W_v24 m 0)) _ fun i h => pair_snd _ _ i h

theorem V6_left9 : V6 m (outs m) c main_v25_0 = left m c 9 := (congrFun (V6_eq m c) _).trans (Wp_9 m c)
theorem V6_left10 : V6 m (outs m) c main_v25_1 = left m c 10 := (congrFun (V6_eq m c) _).trans (Wp_10 m c)
theorem V6_left11 : V6 m (outs m) c main_v25_2 = left m c 11 := (congrFun (V6_eq m c) _).trans (Wp_11 m c)
theorem V6_left12 : V6 m (outs m) c main_v25_3 = left m c 12 := (congrFun (V6_eq m c) _).trans (Wp_12 m c)
theorem V6_left13 : V6 m (outs m) c main_v25_4 = left m c 13 := (congrFun (V6_eq m c) _).trans (Wp_13 m c)

/-- The pooled maps' ring at the end, -/
theorem V7_v26 : V7 m (outs m) c main_v26 = fun i : S16x128x32x32.Idx => if (i 0).val = ringRow m c
    then pooled (F := F) (V3 m c main_v6) (inRow (s0 := 16) (sz := ![128, 32, 32]) i)
    else (m ((c : Thread nD τ).loc main_arg7) : S16x128x32x32.Idx → F .f32) i := by
  have h : (V7 m (outs m) c main_v26 : S16x128x32x32.Idx → F .f32) = shapeCast S16x128x32x32 (V6 m (outs m) c main_v25_0 : S16x128x1024.Idx → F .f32) shapeCasts_S16x128x1024_S16x128x32x32 := by
    show StableHlo.after hostOps2 (V6 m (outs m) c) main_v26 = _
    after_results
    rfl
  rw [h, V6_left9]
  unfold left
  rw [left9, W_v11, W_v12, tab0_eq m c]
  refine (setRow_flat (p := 128) (q := 32) (r := 32) (n := 1024) rfl _ _ _ _ _ _ (Eq.refl _)).trans ?_
  rw [shapeCast_self]
  rfl
/-- the patches', -/
theorem V7_v27 (hd : S1x80x128x9.ShapeCasts Cert.ReferenceIdeal.S80x128x9) : V7 m (outs m) c main_v27 = fun i : S16x80x128x9.Idx => if (i 0).val = ringRow m c
    then shapeCast Cert.ReferenceIdeal.S80x128x9 (m ((c : Thread nD τ).loc main_arg2) : S1x80x128x9.Idx → F .f32) hd (inRow (s0 := 16) (sz := ![80, 128, 9]) i)
    else (m ((c : Thread nD τ).loc main_arg9) : S16x80x128x9.Idx → F .f32) i := by
  have h : (V7 m (outs m) c main_v27 : S16x80x128x9.Idx → F .f32) = shapeCast S16x80x128x9 (V6 m (outs m) c main_v25_1 : S16x80x1152.Idx → F .f32) shapeCasts_S16x80x1152_S16x80x128x9 := by
    show StableHlo.after hostOps2 (V6 m (outs m) c) main_v27 = _
    after_results
    rfl
  rw [h, V6_left10]
  unfold left
  rw [left10, W_v13, W_v14, tab0_eq m c]
  exact setRow_flat (p := 80) (q := 128) (r := 9) (n := 1152) rfl _ _ _ _ _ _ hd
/-- the states', -/
theorem V7_v28 : V7 m (outs m) c main_v28 = fun i : S16x80x3.Idx => if (i 0).val = ringRow m c
    then k1_pay9 (coordsOf (m ((c : Thread nD τ).loc main_arg3) : S1x80x2.Idx → F .f32)) (flipTop i)
    else (m ((c : Thread nD τ).loc main_arg10) : S16x80x3.Idx → F .f32) i := by
  have h : (V7 m (outs m) c main_v28 : S16x80x3.Idx → F .f32) = transpose S16x80x3 [0, 2, 1] (V6 m (outs m) c main_v25_2 : S16x3x80.Idx → F .f32) transposes_S16x3x80_S16x80x3_0_2_1 := by
    show StableHlo.after hostOps2 (V6 m (outs m) c) main_v28 = _
    after_results
  rw [h, V6_left11]
  unfold left
  rw [left11, W_v17, W_v19, tab0_eq m c]
  exact setRow_flip _ _ _
/-- the times, -/
theorem V7_v29 (o : S1.Idx) : V7 m (outs m) c main_v29 = fun i : S16.Idx => if (i 0).val = ringRow m c
    then (m ((c : Thread nD τ).loc main_arg4) : S1.Idx → F .f32) o
    else (m ((c : Thread nD τ).loc main_arg11) : S16.Idx → F .f32) i := by
  have h : (V7 m (outs m) c main_v29 : S16.Idx → F .f32) = shapeCast S16 (V6 m (outs m) c main_v25_3 : S1x16.Idx → F .f32) shapeCasts_S1x16_S16 := by
    show StableHlo.after hostOps2 (V6 m (outs m) c) main_v29 = _
    after_results
    rfl
  rw [h, V6_left12]
  unfold left
  rw [left12, W_v18, W_v20, tab0_eq m c]
  exact times_at _ _ _ o
/-- and the source frames'. -/
theorem V7_v30 : V7 m (outs m) c main_v30 = fun i : S16x80.Idx => if (i 0).val = ringRow m c
    then frameN m c
    else (m ((c : Thread nD τ).loc main_arg12) : S16x80.Idx → BitVec 32) i := by
  have h : (V7 m (outs m) c main_v30 : S16x80.Idx → BitVec 32) = shapeCast S16x80 (V6 m (outs m) c main_v25_4 : S16x1x80.Idx → BitVec 32) shapeCasts_S16x1x80_S16x80 := by
    show StableHlo.after hostOps2 (V6 m (outs m) c) main_v30 = _
    after_results
    rfl
  rw [h, V6_left13]
  unfold left
  rw [left13, W_v21, tab0_eq m c, tab1_eq m c]
  exact setRow_mid _ _ _

end Cert.KernelIdeal.Hand
-- ==== Proof.PoolEq.lean ====
/-
  The mean of every four by four window over the extended reals: the kernel's, summed by columns and multiplied by a
  sixteenth, is the reference's, summed at once and divided by sixteen.
-/
module

public import proofs.«01_k».proof.Proof.KerVal
public import Idealize.ShloMosaic.Lib.IdealHost
public import Idealize.ShloMosaic.PureOps.Ideal.Laws

@[expose] public section

set_option maxRecDepth 4000

noncomputable section

namespace Cert.Values

open Cert.KernelIdeal Cert.KernelIdeal.Gen Cert.KernelIdeal.Hand Cert.Slots
open Idealize.ShloMosaic Idealize.ShloMosaic.TcCoe Idealize.SL.Sem
open Idealize.ShloMosaic.ValueIdx
open scoped BigOperators

theorem word_half : Ideal.ofBits .f32 0x3F000000#32 = ((1 / 2 : ℝ) : EReal) := by simp [Ideal.ofBits, Ideal.ieee, -EReal.coe_mul]; norm_num
theorem word_sixteen : Ideal.ofBits .f32 0x41800000#32 = ((16 : ℝ) : EReal) := by simp [Ideal.ofBits, Ideal.ieee, -EReal.coe_mul]; norm_num
theorem word_sixteenth : Ideal.ofBits .f32 0x3D800000#32 = ((1 / 16 : ℝ) : EReal) := by simp [Ideal.ofBits, Ideal.ieee, -EReal.coe_mul]; norm_num
theorem word_512 : Ideal.ofBits .f32 0x44000000#32 = ((512 : ℝ) : EReal) := by simp [Ideal.ofBits, Ideal.ieee, -EReal.coe_mul]; norm_num
theorem word_per512 : Ideal.ofBits .f32 0x3B000000#32 = ((1 / 512 : ℝ) : EReal) := by simp [Ideal.ofBits, Ideal.ieee, -EReal.coe_mul]; norm_num
theorem word_range : Ideal.ofBits .f32 0x41EC0000#32 = ((59 / 2 : ℝ) : EReal) := by simp [Ideal.ofBits, Ideal.ieee, -EReal.coe_mul]; norm_num
theorem word_step : Ideal.ofBits .f32 0x3D6C0000#32 = ((59 / 1024 : ℝ) : EReal) := by simp [Ideal.ofBits, Ideal.ieee, -EReal.coe_mul]; norm_num
theorem word_130 : Ideal.ofBits .f32 0x43020000#32 = ((130 : ℝ) : EReal) := by simp [Ideal.ofBits, Ideal.ieee, -EReal.coe_mul]; norm_num
theorem word_pi : Ideal.ofBits .f32 0x40490FDB#32 = ((13176795 / 4194304 : ℝ) : EReal) := by simp [Ideal.ofBits, Ideal.ieee, -EReal.coe_mul]; norm_num
theorem word_180 : Ideal.ofBits .f32 0x43340000#32 = ((180 : ℝ) : EReal) := by simp [Ideal.ofBits, Ideal.ieee, -EReal.coe_mul]; norm_num

/-- Element `(ch, r, l)` of the new frame. -/
def frameAt (x : S1x128x128x128.Idx → EReal) (ch r l : ℕ) (h0 : ch < 128) (h1 : r < 128) (h2 : l < 128) : EReal :=
  x (ix4 (n0 := 1) (n1 := 128) (n2 := 128) (n3 := 128) 0 ⟨ch, h0⟩ ⟨r, h1⟩ ⟨l, h2⟩)

/-- The windows' sums. -/
def windowSum (x : S1x128x128x128.Idx → EReal) (i : Cert.ReferenceIdeal.S128x32x32.Idx) : EReal :=
  ∑ a : Fin 4, ∑ b : Fin 4, frameAt x (i 0).val (4 * (i 1).val + a.val) (4 * (i 2).val + b.val) (i 0).isLt
    (by have h : (i 1).val < 32 := (i 1).isLt; omega) (by have h : (i 2).val < 32 := (i 2).isLt; omega)

/-- The reference's array of windows at an index. -/
theorem windows_at (x : S1x128x128x128.Idx → EReal) (h1 : S1x128x128x128.ShapeCasts Cert.ReferenceIdeal.S128x128x128)
    (h2 : Cert.ReferenceIdeal.S128x128x128.ShapeCasts Cert.ReferenceIdeal.S128x32x4x32x4) (p : Fin 128) (q : Fin 32) (a : Fin 4) (r : Fin 32) (b : Fin 4) :
    shapeCast Cert.ReferenceIdeal.S128x32x4x32x4 (shapeCast Cert.ReferenceIdeal.S128x128x128 x h1) h2 (ix5 p q a r b)
      = frameAt x p.val (4 * q.val + a.val) (4 * r.val + b.val) p.isLt (by omega) (by omega) := by
  unfold frameAt shapeCast
  refine congrArg x (Shape.reshapeEquiv_eq_of_rowMajor _ ?_)
  rw [Shape.rowMajor_reshapeEquiv]
  refine (Shape.rowMajor_val_four (d := ![1, 128, 128, 128]) _).trans (Eq.trans ?_ (Shape.rowMajor_val_five (d := ![128, 32, 4, 32, 4]) _).symm)
  show ((0 * 128 + p.val) * 128 + (4 * q.val + a.val)) * 128 + (4 * r.val + b.val) = (((p.val * 32 + q.val) * 4 + a.val) * 32 + r.val) * 4 + b.val
  omega

/-- The reference's sum at an index. -/
theorem window_sum (v : Cert.ReferenceIdeal.S128x32x4x32x4.Idx → EReal) (init : EReal) (h : Cert.ReferenceIdeal.S128x32x4x32x4.ReducesTo [2, 4] Cert.ReferenceIdeal.S128x32x32)
    (i : Cert.ReferenceIdeal.S128x32x32.Idx) :
    Ideal.hostReduceAdd h v init i = init + ∑ a : Fin 4, ∑ b : Fin 4, v (ix5 (i 0) (i 1) a (i 2) b) := by
  unfold Ideal.hostReduceAdd
  congr 1
  rw [← Fintype.sum_prod_type' (f := fun a b : Fin 4 => v (ix5 (i 0) (i 1) a (i 2) b))]
  refine Finset.sum_nbij' (fun k => ((k 2 : Fin 4), (k 4 : Fin 4))) (fun ab => ix5 (i 0) (i 1) ab.1 (i 2) ab.2) ?_ ?_ ?_ ?_ ?_
  · intro k _; exact Finset.mem_univ _
  · intro ab _
    refine Finset.mem_filter.mpr ⟨Finset.mem_univ _, funext fun k => ?_⟩
    match k with
    | 0 => rfl
    | 1 => rfl
    | 2 => rfl
  · intro k hk
    have e := (Finset.mem_filter.mp hk).2
    subst e
    funext a
    match a with
    | 0 => rfl
    | 1 => rfl
    | 2 => rfl
    | 3 => rfl
    | 4 => rfl
  · intro ab _; rfl
  · intro k hk
    have e := (Finset.mem_filter.mp hk).2
    subst e
    refine congrArg v (funext fun a => ?_)
    match a with
    | 0 => rfl
    | 1 => rfl
    | 2 => rfl
    | 3 => rfl
    | 4 => rfl

/-- The reference's mean at an index. -/
theorem meanOf_at (x : S1x128x128x128.Idx → EReal) (i : Cert.ReferenceIdeal.S128x32x32.Idx) :
    Cert.ReferenceIdeal.Hand.meanOf (F := Ideal) x i = windowSum x i * ((1 / 16 : ℝ) : EReal) := by
  unfold Cert.ReferenceIdeal.Hand.meanOf
  rw [ValueIdx.hostDivf_apply, ValueIdx.hostReduceAdd_apply, window_sum]
  show Ideal.div (Ideal.ofBits .f32 0x00000000#32 + _) (Ideal.ofBits .f32 0x41800000#32) = _
  rw [word_sixteen, Ideal.div_coe (by norm_num), Ideal.ofBits_zero_f32, zero_add]
  unfold windowSum
  refine congrArg (· * _) (Finset.sum_congr rfl fun a _ => Finset.sum_congr rfl fun b _ => ?_)
  exact windows_at x _ _ (i 0) (i 1) a (i 2) b

/-- The frame as the kernel's first region is given it, at an index of a trip's block. -/
theorem tile_read (x : S1x128x128x128.Idx → EReal) (k : Fin k0_t1_loop.trips) (e : Fin 8) (r l : Fin 128) :
    shapeCast S2x64x128x128 x shapeCasts_S1x128x128x128_S2x64x128x128 ((readRect k).emb (ix4 (n0 := 1) (n1 := 8) (n2 := 128) (n3 := 128) 0 e r l))
      = frameAt x (8 * k.val + e.val) r.val l.val (by have := lt_of_lt_of_eq k.isLt trips_eq; omega) r.isLt l.isLt := by
  have hk : k.val < 16 := lt_of_lt_of_eq k.isLt trips_eq
  unfold frameAt
  refine shapeCast_apply x _ _ _ ?_
  have ev (a) : ((readRect k).emb (ix4 (n0 := 1) (n1 := 8) (n2 := 128) (n3 := 128) 0 e r l) a).val
      = (![k.val / 8, k.val % 8 * 8, 0, 0] : Fin 4 → ℕ) a + (ix4 (n0 := 1) (n1 := 8) (n2 := 128) (n3 := 128) 0 e r l a).val :=
    (ValueKit.rect_emb_unit_val (s := S2x64x128x128) _ _ _ _ a).trans (congrArg (· + _) (congrFun (off3_eq k) a))
  refine (Shape.rowMajor_val_four (d := ![1, 128, 128, 128]) _).trans (Eq.trans ?_ (Shape.rowMajor_val_four (d := ![2, 64, 128, 128]) _).symm)
  have e0 := ev (0 : Fin 4)
  have e1 := ev (1 : Fin 4)
  have e2 := ev (2 : Fin 4)
  have e3 := ev (3 : Fin 4)
  refine Eq.trans ?_ (congrArg₂ (fun u w => u * 128 + w) (congrArg₂ (fun u w => u * 128 + w) (congrArg₂ (fun u w => u * 64 + w) e0 e1) e2) e3).symm
  show ((0 * 128 + (8 * k.val + e.val)) * 128 + r.val) * 128 + l.val = (((k.val / 8 + 0) * 64 + (k.val % 8 * 8 + e.val)) * 128 + (0 + r.val)) * 128 + (0 + l.val)
  omega

/-- A tile's mean at an index. -/
theorem tile_mean (v : S1x8x128x128.Idx → EReal) (e : Fin 8) (q r : Fin 32) :
    k0_pay1 (F := Ideal) v (ix3 e q r) = (∑ b : Fin 4, ∑ a : Fin 4, v (ix4 (n0 := 1) 0 e (⟨4 * q.val + a.val, by omega⟩ : Fin 128) (⟨4 * r.val + b.val, by omega⟩ : Fin 128))) * ((1 / 16 : ℝ) : EReal) := by
  refine (congrArg₂ (· * ·) ((Ideal.multiReduction_add_single _ _ reduces_S8x32x32x4_S8x32x32 _ rfl (ix3 e q r)).trans (Finset.sum_congr rfl fun (b : Fin 4) _ => ?_)) word_sixteenth :
    k0_pay1 (F := Ideal) v (ix3 e q r) = _)
  refine (shapeCast_apply _ shapeCasts_S8x32x128_S8x32x32x4 _ (ix3 e q (⟨4 * r.val + b.val, by omega⟩ : Fin 128)) ?_).trans ?_
  · refine (Shape.rowMajor_val_three (d := ![8, 32, 128]) _).trans (Eq.trans ?_ (Shape.rowMajor_val_four (d := ![8, 32, 32, 4]) _).symm)
    show (e.val * 32 + q.val) * 128 + (4 * r.val + b.val) = ((e.val * 32 + q.val) * 32 + r.val) * 4 + b.val
    omega
  refine (Ideal.multiReduction_add_single _ _ reduces_S8x32x4x128_S8x32x128 _ rfl _).trans (Finset.sum_congr rfl fun (a : Fin 4) _ => ?_)
  unfold shapeCast
  refine congrArg v (Shape.reshapeEquiv_eq_of_rowMajor _ ?_)
  rw [Shape.rowMajor_reshapeEquiv]
  refine (Shape.rowMajor_val_four (d := ![1, 8, 128, 128]) _).trans (Eq.trans ?_ (Shape.rowMajor_val_four (d := ![8, 32, 4, 128]) _).symm)
  show ((0 * 8 + e.val) * 128 + (4 * q.val + a.val)) * 128 + (4 * r.val + b.val) = ((e.val * 32 + q.val) * 4 + a.val) * 128 + (4 * r.val + b.val)
  omega

/-- The two means are one. -/
theorem pooled_eq (x : S1x128x128x128.Idx → EReal) :
    pooled (F := Ideal) (shapeCast S2x64x128x128 x shapeCasts_S1x128x128x128_S2x64x128x128) = Cert.ReferenceIdeal.Hand.meanOf (F := Ideal) x := by
  funext i
  rw [meanOf_at]
  unfold pooled poolTile windowSum
  have hi : inTile i = ix3 (⟨(i 0).val % 8, Nat.mod_lt _ (by decide)⟩ : Fin 8) (i 1 : Fin 32) (i 2 : Fin 32) := funext fun k => by
    match k with
    | 0 => rfl
    | 1 => rfl
    | 2 => rfl
  rw [hi]
  refine (tile_mean _ _ _ _).trans (congrArg (· * _) ?_)
  rw [Finset.sum_comm]
  refine Finset.sum_congr rfl fun a _ => Finset.sum_congr rfl fun b _ => ?_
  refine (tile_read x _ _ _ _).trans ?_
  unfold frameAt
  refine congrArg x (funext fun k => ?_)
  match k with
  | 0 => rfl
  | 1 => exact Fin.ext (by show 8 * ((i 0).val / 8) + (i 0).val % 8 = (i 0).val; omega)
  | 2 => rfl
  | 3 => rfl

end Cert.Values
-- ==== Proof.StateEq.lean ====
/-
  The patch states over the extended reals: the kernel's row, its constants merged, is the reference's.
-/
module

public import proofs.«01_k».proof.Proof.PoolEq

@[expose] public section

set_option maxRecDepth 4000

noncomputable section

namespace Cert.Values

open Cert.KernelIdeal Cert.KernelIdeal.Gen Cert.KernelIdeal.Hand Cert.Slots
open Idealize.ShloMosaic Idealize.ShloMosaic.TcCoe Idealize.SL.Sem
open Idealize.ShloMosaic.ValueIdx

/-- The radius: dividing by 512 and then scaling by 59/2 is scaling by 59/1024. -/
theorem radius_eq (y : EReal) :
    y * Ideal.ofBits .f32 0x3D6C0000#32 = Ideal.div y (Ideal.ofBits .f32 0x44000000#32) * Ideal.ofBits .f32 0x41EC0000#32 := by
  rw [word_step, word_512, word_range, Ideal.div_coe (by norm_num), mul_assoc, ← EReal.coe_mul]
  norm_num

/-- The bearing: 130, the rounded π and 1/180 merge into the named constant. -/
theorem bearing_eq (y : EReal) :
    (y * Ideal.ofBits .f32 0x3B000000#32 - Ideal.ofBits .f32 0x3F000000#32) * ((57099445 / 25165824 : ℝ) : EReal)
      = Ideal.div ((Ideal.div y (Ideal.ofBits .f32 0x44000000#32) - Ideal.ofBits .f32 0x3F000000#32)
          * Ideal.ofBits .f32 0x43020000#32 * Ideal.ofBits .f32 0x40490FDB#32) (Ideal.ofBits .f32 0x43340000#32) := by
  rw [word_per512, word_512, word_130, word_pi, word_180, Ideal.div_coe (by norm_num), Ideal.div_coe (by norm_num),
    mul_assoc, mul_assoc, ← EReal.coe_mul, ← EReal.coe_mul]
  norm_num

/-- The kernel's coordinates at an index. -/
theorem coords_at (x : S1x80x2.Idx → EReal) (k : Fin 2) (p : Fin 80) :
    shapeCast S2x80 (coordsOf (F := Ideal) x) shapeCasts_S1x2x80_S2x80 (ix2 k p) = x (ix3 (n0 := 1) 0 p k) := by
  unfold coordsOf
  rw [shapeCast_apply _ _ (ix2 k p) (ix3 (n0 := 1) 0 k p) (by
      refine (Shape.rowMajor_val_three (d := ![1, 2, 80]) _).trans (Eq.trans ?_ (Shape.rowMajor_val_two (d := ![2, 80]) _).symm)
      show (0 * 2 + k.val) * 80 + p.val = k.val * 80 + p.val
      omega)]
  rw [shapeCast_apply _ _ (ix3 (n0 := 1) 0 k p) (ix2 k p) (by
      refine (Shape.rowMajor_val_two (d := ![2, 80]) _).trans (Eq.trans ?_ (Shape.rowMajor_val_three (d := ![1, 2, 80]) _).symm)
      show k.val * 80 + p.val = (0 * 2 + k.val) * 80 + p.val
      omega)]
  rw [transpose_apply _ _ _ (ix2 k p) (ix2 p k) (fun b => by fin_cases b <;> rfl)]
  exact shapeCast_apply _ _ (ix2 p k) (ix3 (n0 := 1) 0 p k) (by
      refine (Shape.rowMajor_val_three (d := ![1, 80, 2]) _).trans (Eq.trans ?_ (Shape.rowMajor_val_two (d := ![80, 2]) _).symm)
      show (0 * 80 + p.val) * 2 + k.val = p.val * 2 + k.val
      omega)

/-- One row of the kernel's coordinates at an index. -/
theorem coordRow_at (x : S1x80x2.Idx → EReal) (k : Fin 2) (h : S2x80.Slices ![k.val, 0] S1x80) (p : Fin 80) :
    extractStridedSlice S1x80 ![k.val, 0] (shapeCast S2x80 (coordsOf (F := Ideal) x) shapeCasts_S1x2x80_S2x80) h (ix2 0 p)
      = x (ix3 (n0 := 1) 0 p k) :=
  (extractStridedSlice_apply _ _ _ (ix2 0 p) (ix2 k p) (fun a => by
    match a with
    | 0 => rfl
    | 1 => exact (Nat.zero_add _).symm)).trans (coords_at x k p)

/-- A column of a two-column matrix at an index. -/
theorem column_at (x : Cert.ReferenceIdeal.S80x2.Idx → EReal) (k : Fin 2) (h : Cert.ReferenceIdeal.S80x2.Slices ![0, k.val] Cert.ReferenceIdeal.S80x1)
    (h' : Cert.ReferenceIdeal.S80x1.ShapeCasts Cert.ReferenceIdeal.S80) (p : Fin 80) :
    shapeCast Cert.ReferenceIdeal.S80 (extractStridedSlice Cert.ReferenceIdeal.S80x1 ![0, k.val] x h) h' (ix1 p) = x (ix2 p k) := by
  rw [shapeCast_apply _ _ (ix1 p) (ix2 (n1 := 1) p 0) (by
      refine (Shape.rowMajor_val_two (d := ![80, 1]) _).trans (Eq.trans ?_ (Shape.rowMajor_val_one (d := ![80]) _).symm)
      show p.val * 1 + 0 = p.val
      omega)]
  exact extractStridedSlice_apply _ _ _ (ix2 (n1 := 1) p 0) (ix2 p k) (fun a => by
    match a with
    | 0 => exact (Nat.zero_add _).symm
    | 1 => rfl)

/-- The reference's coordinates at an index. -/
theorem flat_at (x : S1x80x2.Idx → EReal) (h : S1x80x2.ShapeCasts Cert.ReferenceIdeal.S80x2) (p : Fin 80) (k : Fin 2) :
    shapeCast Cert.ReferenceIdeal.S80x2 x h (ix2 p k) = x (ix3 (n0 := 1) 0 p k) :=
  shapeCast_apply _ _ (ix2 p k) (ix3 (n0 := 1) 0 p k) (by
      refine (Shape.rowMajor_val_three (d := ![1, 80, 2]) _).trans (Eq.trans ?_ (Shape.rowMajor_val_two (d := ![80, 2]) _).symm)
      show (0 * 80 + p.val) * 2 + k.val = p.val * 2 + k.val
      omega)

/-- The reference's one-column matrix at an index. -/
theorem col_at (y : Cert.ReferenceIdeal.S80.Idx → EReal) (p : Fin 80) :
    Cert.ReferenceIdeal.Hand.col (F := Ideal) y (ix2 p 0) = y (ix1 p) :=
  broadcastInDim_apply _ _ _ _ (ix1 p) (fun a => by fin_cases a; rfl)

/-- The reference's two polar coordinates at an index: the radius, -/
theorem polar_0 (x : S1x80x2.Idx → EReal) (p : Fin 80) :
    Cert.ReferenceIdeal.Hand.polar (F := Ideal) x (ix2 p 0)
      = Ideal.div (x (ix3 (n0 := 1) 0 p 1)) (Ideal.ofBits .f32 0x44000000#32) * Ideal.ofBits .f32 0x41EC0000#32 + Ideal.ofBits .f32 0x3F000000#32 := by
  refine (concatenate_pair_apply_left (t := Cert.ReferenceIdeal.S80x2) (s₁ := Cert.ReferenceIdeal.S80x1) (s₂ := Cert.ReferenceIdeal.S80x1) 1 _ _ _ (ix2 p 0) rfl (ix2 p 0) (fun b => by fin_cases b <;> rfl)).trans ?_
  refine (col_at _ p).trans ?_
  refine congrArg (fun e => Ideal.div e (Ideal.ofBits .f32 0x44000000#32) * Ideal.ofBits .f32 0x41EC0000#32 + Ideal.ofBits .f32 0x3F000000#32) ?_
  exact (column_at _ 1 _ _ p).trans (flat_at x _ p 1)
/-- and the bearing. -/
theorem polar_1 (x : S1x80x2.Idx → EReal) (p : Fin 80) :
    Cert.ReferenceIdeal.Hand.polar (F := Ideal) x (ix2 p 1)
      = Ideal.div ((Ideal.div (x (ix3 (n0 := 1) 0 p 0)) (Ideal.ofBits .f32 0x44000000#32) - Ideal.ofBits .f32 0x3F000000#32)
          * Ideal.ofBits .f32 0x43020000#32 * Ideal.ofBits .f32 0x40490FDB#32) (Ideal.ofBits .f32 0x43340000#32) := by
  refine (concatenate_pair_apply_right (t := Cert.ReferenceIdeal.S80x2) (s₁ := Cert.ReferenceIdeal.S80x1) (s₂ := Cert.ReferenceIdeal.S80x1) 1 _ _ _ (ix2 p 1) rfl rfl (ix2 p 0)
    (fun b hb => by
      match b, hb with
      | 0, _ => rfl
      | 1, hb => exact absurd rfl hb) rfl).trans ?_
  refine (col_at _ p).trans ?_
  refine congrArg (fun e => Ideal.div ((Ideal.div e (Ideal.ofBits .f32 0x44000000#32) - Ideal.ofBits .f32 0x3F000000#32)
          * Ideal.ofBits .f32 0x43020000#32 * Ideal.ofBits .f32 0x40490FDB#32) (Ideal.ofBits .f32 0x43340000#32)) ?_
  exact (column_at _ 0 _ _ p).trans (flat_at x _ p 0)

/-- Three rows stacked, read at an index, -/
theorem rows_at (a : Fin 3 → S1x80.Idx → EReal) (h : Shape.Concatenates [S1x80, S1x80, S1x80] S3x80 0) (k : Fin 3) (p : Fin 80) :
    concatenate S3x80 0 [⟨S1x80, a 0⟩, ⟨S1x80, a 1⟩, ⟨S1x80, a 2⟩] h (ix2 k p) = a k (ix2 0 p) :=
  concatenate_ofFn_unit_apply (t := S3x80) (s₁ := S1x80) 0 a h rfl rfl (ix2 k p) k rfl (ix2 0 p) (fun b hb => by
    match b, hb with
    | 0, hb => exact absurd rfl hb
    | 1, _ => rfl)
/-- and three columns side by side. -/
theorem columns_at (a : Fin 3 → Cert.ReferenceIdeal.S80x1.Idx → EReal)
    (h : Shape.Concatenates [Cert.ReferenceIdeal.S80x1, Cert.ReferenceIdeal.S80x1, Cert.ReferenceIdeal.S80x1] Cert.ReferenceIdeal.S80x3 1) (p : Fin 80) (k : Fin 3) :
    concatenate Cert.ReferenceIdeal.S80x3 1 [⟨Cert.ReferenceIdeal.S80x1, a 0⟩, ⟨Cert.ReferenceIdeal.S80x1, a 1⟩, ⟨Cert.ReferenceIdeal.S80x1, a 2⟩] h (ix2 p k) = a k (ix2 p 0) :=
  concatenate_ofFn_unit_apply (t := Cert.ReferenceIdeal.S80x3) (s₁ := Cert.ReferenceIdeal.S80x1) 1 a h rfl rfl (ix2 p k) k rfl (ix2 p 0) (fun b hb => by
    match b, hb with
    | 0, _ => rfl
    | 1, hb => exact absurd rfl hb)

/-- A patch's state, one of radius, bearing and elevation. -/
def stateAt (x : S1x80x2.Idx → EReal) (p : Fin 80) : Fin 3 → EReal :=
  ![Ideal.div (x (ix3 (n0 := 1) 0 p 1)) (Ideal.ofBits .f32 0x44000000#32) * Ideal.ofBits .f32 0x41EC0000#32 + Ideal.ofBits .f32 0x3F000000#32,
    Ideal.div ((Ideal.div (x (ix3 (n0 := 1) 0 p 0)) (Ideal.ofBits .f32 0x44000000#32) - Ideal.ofBits .f32 0x3F000000#32)
          * Ideal.ofBits .f32 0x43020000#32 * Ideal.ofBits .f32 0x40490FDB#32) (Ideal.ofBits .f32 0x43340000#32),
    Ideal.ofBits .f32 0x00000000#32]

/-- The reference's three columns, from the polar coordinates. -/
def stateColumns (q : Cert.ReferenceIdeal.S80x2.Idx → EReal) : Fin 3 → Cert.ReferenceIdeal.S80.Idx → EReal :=
  ![shapeCast Cert.ReferenceIdeal.S80 (extractStridedSlice Cert.ReferenceIdeal.S80x1 ![0, 0] q Cert.ReferenceIdeal.Gen.slices_S80x2_S80x1_0_0) Cert.ReferenceIdeal.Gen.shapeCasts_S80x1_S80,
    shapeCast Cert.ReferenceIdeal.S80 (extractStridedSlice Cert.ReferenceIdeal.S80x1 ![0, 1] q Cert.ReferenceIdeal.Gen.slices_S80x2_S80x1_0_1) Cert.ReferenceIdeal.Gen.shapeCasts_S80x1_S80,
    Cert.ReferenceIdeal.Hand.every (F := Ideal) 0x00000000#32]

/-- The reference's state at an index. -/
theorem stateOf_at (x : S1x80x2.Idx → EReal) (p : Fin 80) (k : Fin 3) :
    Cert.ReferenceIdeal.Hand.stateOf (F := Ideal) x (ix2 p k) = stateAt x p k := by
  refine (columns_at (fun k => Cert.ReferenceIdeal.Hand.col (F := Ideal) (stateColumns (Cert.ReferenceIdeal.Hand.polar (F := Ideal) x) k)) _ p k).trans ?_
  refine (col_at (stateColumns (Cert.ReferenceIdeal.Hand.polar (F := Ideal) x) k) p).trans ?_
  match k with
  | 0 => exact (column_at (Cert.ReferenceIdeal.Hand.polar (F := Ideal) x) 0 Cert.ReferenceIdeal.Gen.slices_S80x2_S80x1_0_0 _ p).trans (polar_0 x p)
  | 1 => exact (column_at (Cert.ReferenceIdeal.Hand.polar (F := Ideal) x) 1 Cert.ReferenceIdeal.Gen.slices_S80x2_S80x1_0_1 _ p).trans (polar_1 x p)
  | 2 => rfl

/-- The kernel's state at an index. -/
theorem pay9_at (x : S1x80x2.Idx → EReal) (p : Fin 80) (k : Fin 3) :
    k1_pay9 (F := Ideal) (coordsOf (F := Ideal) x) (ix3 (n0 := 1) 0 k p) = stateAt x p k := by
  unfold k1_pay9
  refine (shapeCast_apply (s := S3x80) (t := S1x3x80) _ _ (ix3 (n0 := 1) 0 k p) (ix2 k p) (by
      refine (Shape.rowMajor_val_two (d := ![3, 80]) _).trans (Eq.trans ?_ (Shape.rowMajor_val_three (d := ![1, 3, 80]) _).symm)
      show k.val * 80 + p.val = (0 * 3 + k.val) * 80 + p.val
      omega)).trans ?_
  refine (rows_at ![_, _, _] _ k p).trans ?_
  match k with
  | 0 =>
    refine Eq.trans (congrArg (fun e : EReal => e * Ideal.ofBits .f32 0x3D6C0000#32 + Ideal.ofBits .f32 0x3F000000#32) (coordRow_at x 1 _ p)) ?_
    exact congrArg (· + Ideal.ofBits .f32 0x3F000000#32) (radius_eq _)
  | 1 =>
    refine Eq.trans (congrArg₂ (fun e f : EReal => (e * Ideal.ofBits .f32 0x3B000000#32 - Ideal.ofBits .f32 0x3F000000#32) * f) (coordRow_at x 0 _ p)
      (IdealRules.named_const.ideal_named_scalar (κ := Cert.KernelIdeal.κ) (name := "fov") (φ := .f32) 0x4011361E#32 ((57099445 / 25165824 : ℝ) : EReal) rfl)) ?_
    exact bearing_eq _
  | 2 => rfl

/-- The kernel's row of patch states is the reference's. -/
theorem state_eq (x : S1x80x2.Idx → EReal) (i : S16x80x3.Idx) :
    k1_pay9 (F := Ideal) (coordsOf (F := Ideal) x) (flipTop i) = Cert.ReferenceIdeal.Hand.stateOf (F := Ideal) x (inRow (s0 := 16) (sz := ![80, 3]) i) := by
  refine Eq.trans (congrArg _ (funext fun k => ?_)) ((pay9_at x (i 1) (i 2)).trans ((stateOf_at x (i 1) (i 2)).symm.trans (congrArg _ (funext fun k => ?_))))
  · match k with
    | 0 => rfl
    | 1 => rfl
    | 2 => rfl
  · match k with
    | 0 => rfl
    | 1 => rfl

end Cert.Values
-- ==== Proof.Values.lean ====
/-
  The claim of values: over the extended reals each of the kernel's seven results is the reference's.
-/
module

public import proofs.«01_k».proof.Defs
public import proofs.«01_k».proof.Proof.StateEq
public import proofs.«01_k».proof.Proof.Run

@[expose] public section

set_option maxRecDepth 4000

noncomputable section

namespace Cert.Values

open Cert.KernelIdeal Cert.KernelIdeal.Gen Cert.KernelIdeal.Hand Cert.Slots
open Idealize.ShloMosaic Idealize.ShloMosaic.TcCoe Idealize.SL.Sem
open Idealize.ShloMosaic.ValueIdx
open Cert.ReferenceIdeal.Hand (U1 U2 U1_v0 U2_first wrapped_slot)

/-- The contents of the kernel's buffers, -/
abbrev KernelMem := (ℓ : Loc Cert.KernelIdeal.nD Cert.KernelIdeal.τ Cert.KernelIdeal.sig) → Buf (Elt Ideal) ℓ
/-- and of the reference's. -/
abbrev RefMem := (ℓ : Loc Cert.ReferenceIdeal.nD Cert.ReferenceIdeal.τ Cert.ReferenceIdeal.sig) → Buf (Elt Ideal) ℓ

variable (m : KernelMem) (m' : RefMem) (c : Dev Cert.KernelIdeal.nD)

/-- Two arrays with one row set agree when the row's number, its contents and the rest agree. -/
theorem row_congr {ι α : Type} {row : ι → ℕ} {s s' : ℕ} {a a' b b' : ι → α} (hs : s = s') (ha : ∀ i, a i = a' i) (hb : ∀ i, b i = b' i) :
    (fun i => if row i = s then a i else b i) = fun i => if row i = s' then a' i else b' i := by
  subst hs
  rw [funext ha, funext hb]

/-- The contents of the reference's argument, -/
def refArg (b : Ref Cert.ReferenceIdeal.sig .tc) : Buf (Elt Ideal) ((c.tc : Thread Cert.ReferenceIdeal.nD Cert.ReferenceIdeal.τ).loc b) :=
  m' ((c.tc : Thread Cert.ReferenceIdeal.nD Cert.ReferenceIdeal.τ).loc b)
/-- and of the kernel's. -/
def kerArg (b : Ref Cert.KernelIdeal.sig .tc) : Buf (Elt Ideal) ((c.tc : Thread Cert.KernelIdeal.nD Cert.KernelIdeal.τ).loc b) :=
  m ((c.tc : Thread Cert.KernelIdeal.nD Cert.KernelIdeal.τ).loc b)

/-- Both programs set the same row. -/
theorem row_eq (h5 : refArg m' c Cert.ReferenceIdeal.main_arg5 = kerArg m c main_arg5) :
    (slotWord (Cert.ReferenceIdeal.Hand.frameN m' c)).toNat = ringRow m c :=
  congrArg (fun x : S_.Idx → BitVec 32 => (slotWord (x (show S_.Idx from fun k => k.elim0))).toNat) h5

/-- The first feature maps, -/
theorem eq0 (h5 : refArg m' c Cert.ReferenceIdeal.main_arg5 = kerArg m c main_arg5) (h0 : refArg m' c Cert.ReferenceIdeal.main_arg0 = kerArg m c main_arg0)
    (h6 : refArg m' c Cert.ReferenceIdeal.main_arg6 = kerArg m c main_arg6) :
    (U2 m' c Cert.ReferenceIdeal.main_v6 : S16x128x128x128.Idx → EReal) = V7 m (outs m) c main_v9 := by
  rw [U2_first m' c Cert.ReferenceIdeal.main_v6 (by decide), Cert.ReferenceIdeal.Hand.U1_v6, U1_v0]
  refine (set_row_map _ _ (wrapped_slot (Cert.ReferenceIdeal.Hand.frameN m' c)) _ _).trans ?_
  refine Eq.trans ?_ (V7_v9 m c Cert.ReferenceIdeal.Gen.shapeCasts_S1x128x128x128_S128x128x128).symm
  exact row_congr (row_eq m m' c h5) (fun i => congrArg (fun x : S1x128x128x128.Idx → EReal => shapeCast Cert.ReferenceIdeal.S128x128x128 x _ _) h0)
    (fun i => congrFun h6 i)

/-- the second, pooled, -/
theorem eq1 (h5 : refArg m' c Cert.ReferenceIdeal.main_arg5 = kerArg m c main_arg5) (h0 : refArg m' c Cert.ReferenceIdeal.main_arg0 = kerArg m c main_arg0)
    (h7 : refArg m' c Cert.ReferenceIdeal.main_arg7 = kerArg m c main_arg7) :
    (U2 m' c Cert.ReferenceIdeal.main_v15 : S16x128x32x32.Idx → EReal) = V7 m (outs m) c main_v26 := by
  rw [U2_first m' c Cert.ReferenceIdeal.main_v15 (by decide), Cert.ReferenceIdeal.Hand.U1_v15, U1_v0]
  refine (set_row_pool _ _ (wrapped_slot (Cert.ReferenceIdeal.Hand.frameN m' c)) _ _).trans ?_
  refine Eq.trans ?_ (V7_v26 m c).symm
  refine row_congr (row_eq m m' c h5) (fun i => ?_) (fun i => congrFun h7 i)
  refine Eq.trans (congrArg (fun x : S1x128x128x128.Idx → EReal => Cert.ReferenceIdeal.Hand.meanOf (F := Ideal) x _) h0) ?_
  exact congrFun ((pooled_eq _).symm.trans (congrArg (pooled (F := Ideal)) (V3_v6 m c).symm)) _

/-- the inputs' maps, -/
theorem eq2 (h5 : refArg m' c Cert.ReferenceIdeal.main_arg5 = kerArg m c main_arg5) (h1 : refArg m' c Cert.ReferenceIdeal.main_arg1 = kerArg m c main_arg1)
    (h8 : refArg m' c Cert.ReferenceIdeal.main_arg8 = kerArg m c main_arg8) :
    (U2 m' c Cert.ReferenceIdeal.main_v21 : S16x128x128x128.Idx → EReal) = V7 m (outs m) c main_v10 := by
  rw [U2_first m' c Cert.ReferenceIdeal.main_v21 (by decide), Cert.ReferenceIdeal.Hand.U1_v21, U1_v0]
  refine (set_row_map _ _ (wrapped_slot (Cert.ReferenceIdeal.Hand.frameN m' c)) _ _).trans ?_
  refine Eq.trans ?_ (V7_v10 m c Cert.ReferenceIdeal.Gen.shapeCasts_S1x128x128x128_S128x128x128).symm
  exact row_congr (row_eq m m' c h5) (fun i => congrArg (fun x : S1x128x128x128.Idx → EReal => shapeCast Cert.ReferenceIdeal.S128x128x128 x _ _) h1)
    (fun i => congrFun h8 i)

/-- the patches, -/
theorem eq3 (h5 : refArg m' c Cert.ReferenceIdeal.main_arg5 = kerArg m c main_arg5) (h2 : refArg m' c Cert.ReferenceIdeal.main_arg2 = kerArg m c main_arg2)
    (h9 : refArg m' c Cert.ReferenceIdeal.main_arg9 = kerArg m c main_arg9) :
    (U2 m' c Cert.ReferenceIdeal.main_v33 : S16x80x128x9.Idx → EReal) = V7 m (outs m) c main_v27 := by
  rw [U2_first m' c Cert.ReferenceIdeal.main_v33 (by decide), Cert.ReferenceIdeal.Hand.U1_v33, U1_v0]
  refine (set_row_patch _ _ (wrapped_slot (Cert.ReferenceIdeal.Hand.frameN m' c)) _ _).trans ?_
  refine Eq.trans ?_ (V7_v27 m c Cert.ReferenceIdeal.Gen.shapeCasts_S1x80x128x9_S80x128x9).symm
  exact row_congr (row_eq m m' c h5) (fun i => congrArg (fun x : S1x80x128x9.Idx → EReal => shapeCast Cert.ReferenceIdeal.S80x128x9 x _ _) h2)
    (fun i => congrFun h9 i)

/-- the patches' states, -/
theorem eq4 (h5 : refArg m' c Cert.ReferenceIdeal.main_arg5 = kerArg m c main_arg5) (h3 : refArg m' c Cert.ReferenceIdeal.main_arg3 = kerArg m c main_arg3)
    (h10 : refArg m' c Cert.ReferenceIdeal.main_arg10 = kerArg m c main_arg10) :
    (U2 m' c Cert.ReferenceIdeal.main_v71 : S16x80x3.Idx → EReal) = V7 m (outs m) c main_v28 := by
  rw [Cert.ReferenceIdeal.Hand.U2_v71, U1_v0]
  refine (set_row_state _ _ (wrapped_slot (Cert.ReferenceIdeal.Hand.frameN m' c)) _ _).trans ?_
  refine Eq.trans ?_ (V7_v28 m c).symm
  refine row_congr (row_eq m m' c h5) (fun i => ?_) (fun i => congrFun h10 i)
  refine Eq.trans (congrArg (fun x : S1x80x2.Idx → EReal => Cert.ReferenceIdeal.Hand.stateOf (F := Ideal) x _) h3) ?_
  exact (state_eq _ i).symm

/-- the times -/
theorem eq5 (h5 : refArg m' c Cert.ReferenceIdeal.main_arg5 = kerArg m c main_arg5) (h4 : refArg m' c Cert.ReferenceIdeal.main_arg4 = kerArg m c main_arg4)
    (h11 : refArg m' c Cert.ReferenceIdeal.main_arg11 = kerArg m c main_arg11) :
    (U2 m' c Cert.ReferenceIdeal.main_v27 : S16.Idx → EReal) = V7 m (outs m) c main_v29 := by
  rw [U2_first m' c Cert.ReferenceIdeal.main_v27 (by decide), Cert.ReferenceIdeal.Hand.U1_v27, U1_v0]
  refine (set_row_time _ _ (wrapped_slot (Cert.ReferenceIdeal.Hand.frameN m' c)) _ _).trans ?_
  refine Eq.trans ?_ (V7_v29 m c (ValueIdx.ix1 (n := 1) 0)).symm
  refine row_congr (row_eq m m' c h5) (fun i => ?_) (fun i => congrFun h11 i)
  refine Eq.trans ?_ (congrFun h4 (ValueIdx.ix1 (n := 1) 0))
  exact congrArg (refArg m' c Cert.ReferenceIdeal.main_arg4 : S1.Idx → EReal) (funext fun k => by
    match k with
    | 0 => exact Subsingleton.elim (α := Fin 1) _ _)

/-- and the source frames. -/
theorem eq6 (h5 : refArg m' c Cert.ReferenceIdeal.main_arg5 = kerArg m c main_arg5)
    (h12 : refArg m' c Cert.ReferenceIdeal.main_arg12 = kerArg m c main_arg12) :
    (U2 m' c Cert.ReferenceIdeal.main_v77 : S16x80.Idx → BitVec 32) = V7 m (outs m) c main_v30 := by
  rw [Cert.ReferenceIdeal.Hand.U2_v77, U1_v0]
  refine (set_row_source _ _ (wrapped_slot (Cert.ReferenceIdeal.Hand.frameN m' c)) _ _).trans ?_
  refine Eq.trans ?_ (V7_v30 m c).symm
  refine row_congr (row_eq m m' c h5) (fun i => ?_) (fun i => congrFun h12 i)
  refine Eq.trans ?_ (congrFun h5 (show S_.Idx from fun k => k.elim0))
  exact congrArg (refArg m' c Cert.ReferenceIdeal.main_arg5 : S_.Idx → BitVec 32) (funext fun k => k.elim0)

end Cert.Values

namespace Cert.Claims

open Idealize.ShloMosaic Idealize.ShloMosaic.TcCoe Idealize.SL.Sem Cert.KernelIdeal Cert.KernelIdeal.Gen Cert.KernelIdeal.Hand Cert.Values

/-- From equal arguments the kernel and the reference end with equal results, and both keep their arguments. -/
theorem algebraic : Cert.algebraic_KernelIdeal_ReferenceIdeal := by
  intro m g m' g' _ H
  refine ⟨fun c => V7 m (outs m) c main_v9, fun c => V7 m (outs m) c main_v26, fun c => V7 m (outs m) c main_v10, fun c => V7 m (outs m) c main_v27,
    fun c => V7 m (outs m) c main_v28, fun c => V7 m (outs m) c main_v29, fun c => V7 m (outs m) c main_v30, ?_, ?_⟩
  · exact (θ_run _ _ _).mono (fun r h c => ⟨h.1 c _ (uc_mem main_v9), h.1 c _ (uc_mem main_v26), h.1 c _ (uc_mem main_v10), h.1 c _ (uc_mem main_v27),
      h.1 c _ (uc_mem main_v28), h.1 c _ (uc_mem main_v29), h.1 c _ (uc_mem main_v30), kept m r c (h.1 c)⟩) (run (F := Ideal) m g)
  · refine (θ_run _ _ _).mono (fun r h c => ?_) (Cert.ReferenceIdeal.Hand.run (F := Ideal) m' g')
    obtain ⟨h0, h1, h2, h3, h4, h5, h6, h7, h8, h9, h10, h11, h12⟩ := H c
    exact ⟨(h.1 c _).trans (eq0 m m' c h5 h0 h6), (h.1 c _).trans (eq1 m m' c h5 h0 h7), (h.1 c _).trans (eq2 m m' c h5 h1 h8),
      (h.1 c _).trans (eq3 m m' c h5 h2 h9), (h.1 c _).trans (eq4 m m' c h5 h3 h10), (h.1 c _).trans (eq5 m m' c h5 h4 h11),
      (h.1 c _).trans (eq6 m m' c h5 h12), Cert.ReferenceIdeal.Hand.kept m' r c (h.1 c)⟩

end Cert.Claims
-- ==== Proof.lean ====
/- The proof of the claims about the ring-buffer update: the three programs run and keep their arguments, the named
   constant is the kernel's, and over the extended reals
   its results are the reference's. -/
module

public import proofs.«01_k».proof.Defs
public import proofs.«01_k».proof.Proof.Frames
public import proofs.«01_k».proof.Proof.Values
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    Claims.frame_p, Claims.frame_pi, Claims.frame_ri, Claims.preserves, Claims.algebraic⟩

end Cert.Proof

end
